-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_idx_is_iota [hPre_idx_is_iota : Cert.Pre_idx_is_iota.Facts] (m : (ℓ : Loc Cert.KernelIdeal.nD Cert.KernelIdeal.τ Cert.KernelIdeal.sig) → Buf (Elt Ideal) ℓ) : Prop :=
  ∀ c : Dev Cert.KernelIdeal.nD,
    (Cert.Pre_idx_is_iota.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_is_iota [hPre_idx_is_iota : Cert.Pre_idx_is_iota.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_is_iota.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_idx_is_iota [hKernelIdeal : Cert.KernelIdeal.Facts] [hPre_idx_is_iota : Cert.Pre_idx_is_iota.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_idx_is_iota m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_idx_is_iota [hReferenceIdeal : Cert.ReferenceIdeal.Facts] [hPre_idx_is_iota : Cert.Pre_idx_is_iota.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_is_iota m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_idx_is_iota [hKernelIdeal : Cert.KernelIdeal.Facts] [hReferenceIdeal : Cert.ReferenceIdeal.Facts] [hPre_idx_is_iota : Cert.Pre_idx_is_iota.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_idx_is_iota m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v297) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_idx_is_iota : Cert.Pre_idx_is_iota.Facts),
    quiescent_Kernel (hKernel := hKernel)
    ∧ quiescent_KernelIdeal (hKernelIdeal := hKernelIdeal)
    ∧ quiescent_KernelIdeal_pre_idx_is_iota (hKernelIdeal := hKernelIdeal) (hPre_idx_is_iota := hPre_idx_is_iota)
    ∧ quiescent_ReferenceIdeal (hReferenceIdeal := hReferenceIdeal)
    ∧ quiescent_ReferenceIdeal_pre_idx_is_iota (hReferenceIdeal := hReferenceIdeal) (hPre_idx_is_iota := hPre_idx_is_iota)
    ∧ preserves_Kernel_KernelIdeal
    ∧ algebraic_KernelIdeal_ReferenceIdeal_pre_idx_is_iota (hKernelIdeal := hKernelIdeal) (hReferenceIdeal := hReferenceIdeal) (hPre_idx_is_iota := hPre_idx_is_iota)
-- ==== Pre_idx_is_iota.lean ====
abbrev S100000 : Shape := ⟨1, ![100000]⟩
abbrev S100000x64 : Shape := ⟨2, ![100000, 64]⟩
abbrev S64x64 : Shape := ⟨2, ![64, 64]⟩
abbrev S64 : Shape := ⟨1, ![64]⟩
abbrev S_ : Shape := ⟨0, ![]⟩

class Facts : Prop where
  reducesTo_S100000_S_d0 : S100000.ReducesTo [0] S_
  h_S_ : 0 < S_.numel

variable [Facts]

def fn {F : FTy → Type} [FloatOps F] (main_arg0 : IVec S100000 32) (main_arg1 : FVec F S100000x64 .f32) (main_arg2 : FVec F S64x64 .f32) (main_arg3 : FVec F S64 .f32) : IVec S_ 1 :=
  let main_v0 : IVec S100000 32 := iotaInDim S100000 32 0
  let main_v1 : IVec S100000 1 := cmpi .eq main_arg0 main_v0
  let main_c : IVec S_ 1 := constantI S_ 1 1#1
  let main_v2 : IVec S_ 1 := (fun x v => Host.reduce IntOp.andi x v reducesTo_S100000_S_d0 h_S_) main_v1 main_c
  main_v2
-- ==== Kernel.lean ====
abbrev S100000 : Shape := ⟨1, ![100000]⟩
abbrev S100000x64 : Shape := ⟨2, ![100000, 64]⟩
abbrev S64x64 : Shape := ⟨2, ![64, 64]⟩
abbrev S64 : Shape := ⟨1, ![64]⟩
abbrev S1x64 : Shape := ⟨2, ![1, 64]⟩
abbrev S102400x64 : Shape := ⟨2, ![102400, 64]⟩
abbrev S6400x64 : Shape := ⟨2, ![6400, 64]⟩
abbrev S16x1x6400 : Shape := ⟨3, ![16, 1, 6400]⟩
abbrev S64x1 : Shape := ⟨2, ![64, 1]⟩
abbrev S6400x1 : Shape := ⟨2, ![6400, 1]⟩
abbrev S6400 : Shape := ⟨1, ![6400]⟩
abbrev S1x6400 : Shape := ⟨2, ![1, 6400]⟩
abbrev S1x1x6400 : Shape := ⟨3, ![1, 1, 6400]⟩
abbrev S102400 : Shape := ⟨1, ![102400]⟩
abbrev S_ : Shape := ⟨0, ![]⟩
abbrev S100000x1 : Shape := ⟨2, ![100000, 1]⟩
abbrev S64x100000 : Shape := ⟨2, ![64, 100000]⟩
abbrev S64x6400 : Shape := ⟨2, ![64, 6400]⟩

abbrev nBuf : Space → Nat
  | .hbm => 159
  | .vmem => 50
  | .smem => 0
  | _ => 0

abbrev hbmTy0_0 (i : Nat) : BufTy := match i % 128 with
  | 0 => ⟨S100000, .i32⟩
  | 1 => ⟨S100000x64, .f32⟩
  | 2 => ⟨S64x64, .f32⟩
  | 3 => ⟨S64, .f32⟩
  | 4 => ⟨S1x64, .f32⟩
  | 5 => ⟨S102400x64, .f32⟩
  | 6 => ⟨S100000x64, .f32⟩
  | 7 => ⟨S64x64, .f32⟩
  | 8 => ⟨S16x1x6400, .i32⟩
  | 9 => ⟨S64x1, .f32⟩
  | 10 => ⟨S102400, .i32⟩
  | 11 => ⟨S100000, .i32⟩
  | 12 => ⟨S_, .f32⟩
  | 13 => ⟨S64x64, .f32⟩
  | 14 => ⟨S100000x1, .i32⟩
  | 15 => ⟨S64x64, .f32⟩
  | 16 => ⟨S64, .f32⟩
  | 17 => ⟨S_, .f32⟩
  | 18 => ⟨S64, .f32⟩
  | 19 => ⟨S64, .f32⟩
  | 20 => ⟨S64x1, .f32⟩
  | 21 => ⟨S64x64, .f32⟩
  | 22 => ⟨S64x64, .f32⟩
  | 23 => ⟨S16x1x6400, .i32⟩
  | 24 => ⟨S64x1, .f32⟩
  | 25 => ⟨S102400, .i32⟩
  | 26 => ⟨S100000, .i32⟩
  | 27 => ⟨S_, .f32⟩
  | 28 => ⟨S64x64, .f32⟩
  | 29 => ⟨S100000x1, .i32⟩
  | 30 => ⟨S64x64, .f32⟩
  | 31 => ⟨S64, .f32⟩
  | 32 => ⟨S_, .f32⟩
  | 33 => ⟨S64, .f32⟩
  | 34 => ⟨S64, .f32⟩
  | 35 => ⟨S64x1, .f32⟩
  | 36 => ⟨S64x64, .f32⟩
  | 37 => ⟨S64x64, .f32⟩
  | 38 => ⟨S16x1x6400, .i32⟩
  | 39 => ⟨S64x1, .f32⟩
  | 40 => ⟨S102400, .i32⟩
  | 41 => ⟨S100000, .i32⟩
  | 42 => ⟨S_, .f32⟩
  | 43 => ⟨S64x64, .f32⟩
  | 44 => ⟨S100000x1, .i32⟩
  | 45 => ⟨S64x64, .f32⟩
  | 46 => ⟨S64, .f32⟩
  | 47 => ⟨S_, .f32⟩
  | 48 => ⟨S64, .f32⟩
  | 49 => ⟨S64, .f32⟩
  | 50 => ⟨S64x1, .f32⟩
  | 51 => ⟨S64x64, .f32⟩
  | 52 => ⟨S64x64, .f32⟩
  | 53 => ⟨S16x1x6400, .i32⟩
  | 54 => ⟨S64x1, .f32⟩
  | 55 => ⟨S102400, .i32⟩
  | 56 => ⟨S100000, .i32⟩
  | 57 => ⟨S_, .f32⟩
  | 58 => ⟨S64x64, .f32⟩
  | 59 => ⟨S100000x1, .i32⟩
  | 60 => ⟨S64x64, .f32⟩
  | 61 => ⟨S64, .f32⟩
  | 62 => ⟨S_, .f32⟩
  | 63 => ⟨S64, .f32⟩
  | 64 => ⟨S64, .f32⟩
  | 65 => ⟨S64x1, .f32⟩
  | 66 => ⟨S64x64, .f32⟩
  | 67 => ⟨S64x64, .f32⟩
  | 68 => ⟨S16x1x6400, .i32⟩
  | 69 => ⟨S64x1, .f32⟩
  | 70 => ⟨S102400, .i32⟩
  | 71 => ⟨S100000, .i32⟩
  | 72 => ⟨S_, .f32⟩
  | 73 => ⟨S64x64, .f32⟩
  | 74 => ⟨S100000x1, .i32⟩
  | 75 => ⟨S64x64, .f32⟩
  | 76 => ⟨S64, .f32⟩
  | 77 => ⟨S_, .f32⟩
  | 78 => ⟨S64, .f32⟩
  | 79 => ⟨S64, .f32⟩
  | 80 => ⟨S64x1, .f32⟩
  | 81 => ⟨S64x64, .f32⟩
  | 82 => ⟨S64x64, .f32⟩
  | 83 => ⟨S16x1x6400, .i32⟩
  | 84 => ⟨S64x1, .f32⟩
  | 85 => ⟨S102400, .i32⟩
  | 86 => ⟨S100000, .i32⟩
  | 87 => ⟨S_, .f32⟩
  | 88 => ⟨S64x64, .f32⟩
  | 89 => ⟨S100000x1, .i32⟩
  | 90 => ⟨S64x64, .f32⟩
  | 91 => ⟨S64, .f32⟩
  | 92 => ⟨S_, .f32⟩
  | 93 => ⟨S64, .f32⟩
  | 94 => ⟨S64, .f32⟩
  | 95 => ⟨S64x1, .f32⟩
  | 96 => ⟨S64x64, .f32⟩
  | 97 => ⟨S64x64, .f32⟩
  | 98 => ⟨S16x1x6400, .i32⟩
  | 99 => ⟨S64x1, .f32⟩
  | 100 => ⟨S102400, .i32⟩
  | 101 => ⟨S100000, .i32⟩
  | 102 => ⟨S_, .f32⟩
  | 103 => ⟨S64x64, .f32⟩
  | 104 => ⟨S100000x1, .i32⟩
  | 105 => ⟨S64x64, .f32⟩
  | 106 => ⟨S64, .f32⟩
  | 107 => ⟨S_, .f32⟩
  | 108 => ⟨S64, .f32⟩
  | 109 => ⟨S64, .f32⟩
  | 110 => ⟨S64x1, .f32⟩
  | 111 => ⟨S64x64, .f32⟩
  | 112 => ⟨S64x64, .f32⟩
  | 113 => ⟨S16x1x6400, .i32⟩
  | 114 => ⟨S64x1, .f32⟩
  | 115 => ⟨S102400, .i32⟩
  | 116 => ⟨S100000, .i32⟩
  | 117 => ⟨S_, .f32⟩
  | 118 => ⟨S64x64, .f32⟩
  | 119 => ⟨S100000x1, .i32⟩
  | 120 => ⟨S64x64, .f32⟩
  | 121 => ⟨S64, .f32⟩
  | 122 => ⟨S_, .f32⟩
  | 123 => ⟨S64, .f32⟩
  | 124 => ⟨S64, .f32⟩
  | 125 => ⟨S64x1, .f32⟩
  | 126 => ⟨S64x64, .f32⟩
  | 127 => ⟨S64x64, .f32⟩
  | _ => ⟨S100000, .i32⟩

abbrev hbmTy0_1 (i : Nat) : BufTy := match i % 128 with
  | 0 => ⟨S16x1x6400, .i32⟩
  | 1 => ⟨S64x1, .f32⟩
  | 2 => ⟨S102400, .i32⟩
  | 3 => ⟨S100000, .i32⟩
  | 4 => ⟨S_, .f32⟩
  | 5 => ⟨S64x64, .f32⟩
  | 6 => ⟨S100000x1, .i32⟩
  | 7 => ⟨S64x64, .f32⟩
  | 8 => ⟨S64, .f32⟩
  | 9 => ⟨S_, .f32⟩
  | 10 => ⟨S64, .f32⟩
  | 11 => ⟨S64, .f32⟩
  | 12 => ⟨S64x1, .f32⟩
  | 13 => ⟨S64x64, .f32⟩
  | 14 => ⟨S64x64, .f32⟩
  | 15 => ⟨S16x1x6400, .i32⟩
  | 16 => ⟨S64x1, .f32⟩
  | 17 => ⟨S102400, .i32⟩
  | 18 => ⟨S100000, .i32⟩
  | 19 => ⟨S_, .f32⟩
  | 20 => ⟨S64x64, .f32⟩
  | 21 => ⟨S100000x1, .i32⟩
  | 22 => ⟨S64x64, .f32⟩
  | 23 => ⟨S64, .f32⟩
  | 24 => ⟨S_, .f32⟩
  | 25 => ⟨S64, .f32⟩
  | 26 => ⟨S64, .f32⟩
  | 27 => ⟨S64x1, .f32⟩
  | 28 => ⟨S64x64, .f32⟩
  | 29 => ⟨S64x64, .f32⟩
  | 30 => ⟨S64x100000, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S6400x64, .f32⟩
  | .local _ .vmem, ⟨1, _⟩ => ⟨S6400x64, .f32⟩
  | .local _ .vmem, ⟨2, _⟩ => ⟨S64x64, .f32⟩
  | .local _ .vmem, ⟨3, _⟩ => ⟨S1x64, .f32⟩
  | .local _ .vmem, ⟨4, _⟩ => ⟨S6400x64, .f32⟩
  | .local _ .vmem, ⟨5, _⟩ => ⟨S6400x64, .f32⟩
  | .local _ .vmem, ⟨6, _⟩ => ⟨S102400x64, .f32⟩
  | .local _ .vmem, ⟨7, _⟩ => ⟨S64x64, .f32⟩
  | .local _ .vmem, ⟨8, _⟩ => ⟨S16x1x6400, .i32⟩
  | .local _ .vmem, ⟨9, _⟩ => ⟨S64x1, .f32⟩
  | .local _ .vmem, ⟨10, _⟩ => ⟨S102400x64, .f32⟩
  | .local _ .vmem, ⟨11, _⟩ => ⟨S64x64, .f32⟩
  | .local _ .vmem, ⟨12, _⟩ => ⟨S16x1x6400, .i32⟩
  | .local _ .vmem, ⟨13, _⟩ => ⟨S64x1, .f32⟩
  | .local _ .vmem, ⟨14, _⟩ => ⟨S102400x64, .f32⟩
  | .local _ .vmem, ⟨15, _⟩ => ⟨S64x64, .f32⟩
  | .local _ .vmem, ⟨16, _⟩ => ⟨S16x1x6400, .i32⟩
  | .local _ .vmem, ⟨17, _⟩ => ⟨S64x1, .f32⟩
  | .local _ .vmem, ⟨18, _⟩ => ⟨S102400x64, .f32⟩
  | .local _ .vmem, ⟨19, _⟩ => ⟨S64x64, .f32⟩
  | .local _ .vmem, ⟨20, _⟩ => ⟨S16x1x6400, .i32⟩
  | .local _ .vmem, ⟨21, _⟩ => ⟨S64x1, .f32⟩
  | .local _ .vmem, ⟨22, _⟩ => ⟨S102400x64, .f32⟩
  | .local _ .vmem, ⟨23, _⟩ => ⟨S64x64, .f32⟩
  | .local _ .vmem, ⟨24, _⟩ => ⟨S16x1x6400, .i32⟩
  | .local _ .vmem, ⟨25, _⟩ => ⟨S64x1, .f32⟩
  | .local _ .vmem, ⟨26, _⟩ => ⟨S102400x64, .f32⟩
  | .local _ .vmem, ⟨27, _⟩ => ⟨S64x64, .f32⟩
  | .local _ .vmem, ⟨28, _⟩ => ⟨S16x1x6400, .i32⟩
  | .local _ .vmem, ⟨29, _⟩ => ⟨S64x1, .f32⟩
  | .local _ .vmem, ⟨30, _⟩ => ⟨S102400x64, .f32⟩
  | .local _ .vmem, ⟨31, _⟩ => ⟨S64x64, .f32⟩
  | .local _ .vmem, ⟨32, _⟩ => ⟨S16x1x6400, .i32⟩
  | .local _ .vmem, ⟨33, _⟩ => ⟨S64x1, .f32⟩
  | .local _ .vmem, ⟨34, _⟩ => ⟨S102400x64, .f32⟩
  | .local _ .vmem, ⟨35, _⟩ => ⟨S64x64, .f32⟩
  | .local _ .vmem, ⟨36, _⟩ => ⟨S16x1x6400, .i32⟩
  | .local _ .vmem, ⟨37, _⟩ => ⟨S64x1, .f32⟩
  | .local _ .vmem, ⟨38, _⟩ => ⟨S102400x64, .f32⟩
  | .local _ .vmem, ⟨39, _⟩ => ⟨S64x64, .f32⟩
  | .local _ .vmem, ⟨40, _⟩ => ⟨S16x1x6400, .i32⟩
  | .local _ .vmem, ⟨41, _⟩ => ⟨S64x1, .f32⟩
  | .local _ .vmem, ⟨42, _⟩ => ⟨S102400x64, .f32⟩
  | .local _ .vmem, ⟨43, _⟩ => ⟨S64x64, .f32⟩
  | .local _ .vmem, ⟨44, _⟩ => ⟨S16x1x6400, .i32⟩
  | .local _ .vmem, ⟨45, _⟩ => ⟨S64x1, .f32⟩
  | .local _ .vmem, ⟨46, _⟩ => ⟨S1x1x6400, .i32⟩
  | .local _ .vmem, ⟨47, _⟩ => ⟨S1x1x6400, .i32⟩
  | .local _ .vmem, ⟨48, _⟩ => ⟨S64x6400, .f32⟩
  | .local _ .vmem, ⟨49, _⟩ => ⟨S64x6400, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40_0 : Ref sig .tc := ⟨.hbm, 53, rfl⟩
abbrev main_v40_1 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52_0 : Ref sig .tc := ⟨.hbm, 68, rfl⟩
abbrev main_v52_1 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64_0 : Ref sig .tc := ⟨.hbm, 83, rfl⟩
abbrev main_v64_1 : Ref sig .tc := ⟨.hbm, 84, rfl⟩
abbrev main_v65 : Ref sig .tc := ⟨.hbm, 85, rfl⟩
abbrev main_v66 : Ref sig .tc := ⟨.hbm, 86, rfl⟩
abbrev main_cst_9 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_10 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76_0 : Ref sig .tc := ⟨.hbm, 98, rfl⟩
abbrev main_v76_1 : Ref sig .tc := ⟨.hbm, 99, rfl⟩
abbrev main_v77 : Ref sig .tc := ⟨.hbm, 100, rfl⟩
abbrev main_v78 : Ref sig .tc := ⟨.hbm, 101, rfl⟩
abbrev main_cst_11 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_12 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88_0 : Ref sig .tc := ⟨.hbm, 113, rfl⟩
abbrev main_v88_1 : Ref sig .tc := ⟨.hbm, 114, rfl⟩
abbrev main_v89 : Ref sig .tc := ⟨.hbm, 115, rfl⟩
abbrev main_v90 : Ref sig .tc := ⟨.hbm, 116, rfl⟩
abbrev main_cst_13 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_14 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100_0 : Ref sig .tc := ⟨.hbm, 128, rfl⟩
abbrev main_v100_1 : Ref sig .tc := ⟨.hbm, 129, rfl⟩
abbrev main_v101 : Ref sig .tc := ⟨.hbm, 130, rfl⟩
abbrev main_v102 : Ref sig .tc := ⟨.hbm, 131, rfl⟩
abbrev main_cst_15 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_16 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112_0 : Ref sig .tc := ⟨.hbm, 143, rfl⟩
abbrev main_v112_1 : Ref sig .tc := ⟨.hbm, 144, rfl⟩
abbrev main_v113 : Ref sig .tc := ⟨.hbm, 145, rfl⟩
abbrev main_v114 : Ref sig .tc := ⟨.hbm, 146, rfl⟩
abbrev main_cst_17 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_18 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc3_stg0_0 : Ref sig .tc := ⟨.vmem, 14, rfl⟩
abbrev cc3_stg1_0 : Ref sig .tc := ⟨.vmem, 15, rfl⟩
abbrev cc3_stg2_0 : Ref sig .tc := ⟨.vmem, 16, rfl⟩
abbrev cc3_stg3_0 : Ref sig .tc := ⟨.vmem, 17, rfl⟩
abbrev cc4_stg0_0 : Ref sig .tc := ⟨.vmem, 18, rfl⟩
abbrev cc4_stg1_0 : Ref sig .tc := ⟨.vmem, 19, rfl⟩
abbrev cc4_stg2_0 : Ref sig .tc := ⟨.vmem, 20, rfl⟩
abbrev cc4_stg3_0 : Ref sig .tc := ⟨.vmem, 21, rfl⟩
abbrev cc5_stg0_0 : Ref sig .tc := ⟨.vmem, 22, rfl⟩
abbrev cc5_stg1_0 : Ref sig .tc := ⟨.vmem, 23, rfl⟩
abbrev cc5_stg2_0 : Ref sig .tc := ⟨.vmem, 24, rfl⟩
abbrev cc5_stg3_0 : Ref sig .tc := ⟨.vmem, 25, rfl⟩
abbrev cc6_stg0_0 : Ref sig .tc := ⟨.vmem, 26, rfl⟩
abbrev cc6_stg1_0 : Ref sig .tc := ⟨.vmem, 27, rfl⟩
abbrev cc6_stg2_0 : Ref sig .tc := ⟨.vmem, 28, rfl⟩
abbrev cc6_stg3_0 : Ref sig .tc := ⟨.vmem, 29, rfl⟩
abbrev cc7_stg0_0 : Ref sig .tc := ⟨.vmem, 30, rfl⟩
abbrev cc7_stg1_0 : Ref sig .tc := ⟨.vmem, 31, rfl⟩
abbrev cc7_stg2_0 : Ref sig .tc := ⟨.vmem, 32, rfl⟩
abbrev cc7_stg3_0 : Ref sig .tc := ⟨.vmem, 33, rfl⟩
abbrev cc8_stg0_0 : Ref sig .tc := ⟨.vmem, 34, rfl⟩
abbrev cc8_stg1_0 : Ref sig .tc := ⟨.vmem, 35, rfl⟩
abbrev cc8_stg2_0 : Ref sig .tc := ⟨.vmem, 36, rfl⟩
abbrev cc8_stg3_0 : Ref sig .tc := ⟨.vmem, 37, rfl⟩
abbrev cc9_stg0_0 : Ref sig .tc := ⟨.vmem, 38, rfl⟩
abbrev cc9_stg1_0 : Ref sig .tc := ⟨.vmem, 39, rfl⟩
abbrev cc9_stg2_0 : Ref sig .tc := ⟨.vmem, 40, rfl⟩
abbrev cc9_stg3_0 : Ref sig .tc := ⟨.vmem, 41, rfl⟩
abbrev cc10_stg0_0 : Ref sig .tc := ⟨.vmem, 42, rfl⟩
abbrev cc10_stg1_0 : Ref sig .tc := ⟨.vmem, 43, rfl⟩
abbrev cc10_stg2_0 : Ref sig .tc := ⟨.vmem, 44, rfl⟩
abbrev cc10_stg3_0 : Ref sig .tc := ⟨.vmem, 45, rfl⟩
abbrev cc11_stg0_0 : Ref sig .tc := ⟨.vmem, 46, rfl⟩
abbrev cc11_stg0_1 : Ref sig .tc := ⟨.vmem, 47, rfl⟩
abbrev cc11_stg1_0 : Ref sig .tc := ⟨.vmem, 48, rfl⟩
abbrev cc11_stg1_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem1_0 : DmaSem sig := 11
abbrev cc2_sem2_0 : DmaSem sig := 12
abbrev cc2_sem3_0 : DmaSem sig := 13
abbrev cc3_sem0_0 : DmaSem sig := 14
abbrev cc3_sem1_0 : DmaSem sig := 15
abbrev cc3_sem2_0 : DmaSem sig := 16
abbrev cc3_sem3_0 : DmaSem sig := 17
abbrev cc4_sem0_0 : DmaSem sig := 18
abbrev cc4_sem1_0 : DmaSem sig := 19
abbrev cc4_sem2_0 : DmaSem sig := 20
abbrev cc4_sem3_0 : DmaSem sig := 21
abbrev cc5_sem0_0 : DmaSem sig := 22
abbrev cc5_sem1_0 : DmaSem sig := 23
abbrev cc5_sem2_0 : DmaSem sig := 24
abbrev cc5_sem3_0 : DmaSem sig := 25
abbrev cc6_sem0_0 : DmaSem sig := 26
abbrev cc6_sem1_0 : DmaSem sig := 27
abbrev cc6_sem2_0 : DmaSem sig := 28
abbrev cc6_sem3_0 : DmaSem sig := 29
abbrev cc7_sem0_0 : DmaSem sig := 30
abbrev cc7_sem1_0 : DmaSem sig := 31
abbrev cc7_sem2_0 : DmaSem sig := 32
abbrev cc7_sem3_0 : DmaSem sig := 33
abbrev cc8_sem0_0 : DmaSem sig := 34
abbrev cc8_sem1_0 : DmaSem sig := 35
abbrev cc8_sem2_0 : DmaSem sig := 36
abbrev cc8_sem3_0 : DmaSem sig := 37
abbrev cc9_sem0_0 : DmaSem sig := 38
abbrev cc9_sem1_0 : DmaSem sig := 39
abbrev cc9_sem2_0 : DmaSem sig := 40
abbrev cc9_sem3_0 : DmaSem sig := 41
abbrev cc10_sem0_0 : DmaSem sig := 42
abbrev cc10_sem1_0 : DmaSem sig := 43
abbrev cc10_sem2_0 : DmaSem sig := 44
abbrev cc10_sem3_0 : DmaSem sig := 45
abbrev cc11_sem0_0 : DmaSem sig := 46
abbrev cc11_sem0_1 : DmaSem sig := 47
abbrev cc11_sem1_0 : DmaSem sig := 48
abbrev cc11_sem1_1 : DmaSem sig := 49

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6400x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

@[reducible] def k1_t1_loop : Scf.Loop 32 :=
  let c0_i32 : BitVec 32 := 0#32
  let c16_i32 : BitVec 32 := 16#32
  let v9 : BitVec 32 := Scalar.addi c0_i32 c16_i32
  let c1_i32 : BitVec 32 := 1#32
  ⟨c0_i32, v9, c1_i32⟩
def k1_off1 (k1_t1 : Fin k1_t1_loop.trips) : Fin 2 → Nat :=
  let c0_i32 : BitVec 32 := 0#32
  let c1_i32 : BitVec 32 := 1#32
  let arg4 : BitVec 32 := Scf.iv c0_i32 c1_i32 k1_t1
  let c6400_i32 : BitVec 32 := 6400#32
  let v12 : BitVec 32 := Scalar.muli arg4 c6400_i32
  let v13 : Index := Scalar.indexCast v12
  let c0_6 : Index := 0#32
  ![v13.toNat, 0]
def k1_off2 (k1_t1 : Fin k1_t1_loop.trips) : Fin 3 → Nat :=
  let c0_i32 : BitVec 32 := 0#32
  let c1_i32 : BitVec 32 := 1#32
  let arg4 : BitVec 32 := Scf.iv c0_i32 c1_i32 k1_t1
  let v50 : Index := Scalar.indexCast arg4
  let c0_16 : Index := 0#32
  let c0_17 : Index := 0#32
  ![v50.toNat, 0, 0]
abbrev stage1_0 : Fin 1 → Memref sig .tc .vmem S102400x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x1x6400 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := .none

@[reducible] def k2_t1_loop : Scf.Loop 32 :=
  let c0_i32 : BitVec 32 := 0#32
  let c16_i32 : BitVec 32 := 16#32
  let v9 : BitVec 32 := Scalar.addi c0_i32 c16_i32
  let c1_i32 : BitVec 32 := 1#32
  ⟨c0_i32, v9, c1_i32⟩
def k2_off1 (k2_t1 : Fin k2_t1_loop.trips) : Fin 2 → Nat :=
  let c0_i32 : BitVec 32 := 0#32
  let c1_i32 : BitVec 32 := 1#32
  let arg4 : BitVec 32 := Scf.iv c0_i32 c1_i32 k2_t1
  let c6400_i32 : BitVec 32 := 6400#32
  let v12 : BitVec 32 := Scalar.muli arg4 c6400_i32
  let v13 : Index := Scalar.indexCast v12
  let c0_6 : Index := 0#32
  ![v13.toNat, 0]
def k2_off2 (k2_t1 : Fin k2_t1_loop.trips) : Fin 3 → Nat :=
  let c0_i32 : BitVec 32 := 0#32
  let c1_i32 : BitVec 32 := 1#32
  let arg4 : BitVec 32 := Scf.iv c0_i32 c1_i32 k2_t1
  let v50 : Index := Scalar.indexCast arg4
  let c0_16 : Index := 0#32
  let c0_17 : Index := 0#32
  ![v50.toNat, 0, 0]
abbrev stage2_0 : Fin 1 → Memref sig .tc .vmem S102400x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S16x1x6400 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev grid3 : Pipeline.Grid := .none

@[reducible] def k3_t1_loop : Scf.Loop 32 :=
  let c0_i32 : BitVec 32 := 0#32
  let c16_i32 : BitVec 32 := 16#32
  let v9 : BitVec 32 := Scalar.addi c0_i32 c16_i32
  let c1_i32 : BitVec 32 := 1#32
  ⟨c0_i32, v9, c1_i32⟩
def k3_off1 (k3_t1 : Fin k3_t1_loop.trips) : Fin 2 → Nat :=
  let c0_i32 : BitVec 32 := 0#32
  let c1_i32 : BitVec 32 := 1#32
  let arg4 : BitVec 32 := Scf.iv c0_i32 c1_i32 k3_t1
  let c6400_i32 : BitVec 32 := 6400#32
  let v12 : BitVec 32 := Scalar.muli arg4 c6400_i32
  let v13 : Index := Scalar.indexCast v12
  let c0_6 : Index := 0#32
  ![v13.toNat, 0]
def k3_off2 (k3_t1 : Fin k3_t1_loop.trips) : Fin 3 → Nat :=
  let c0_i32 : BitVec 32 := 0#32
  let c1_i32 : BitVec 32 := 1#32
  let arg4 : BitVec 32 := Scf.iv c0_i32 c1_i32 k3_t1
  let v50 : Index := Scalar.indexCast arg4
  let c0_16 : Index := 0#32
  let c0_17 : Index := 0#32
  ![v50.toNat, 0, 0]
abbrev stage3_0 : Fin 1 → Memref sig .tc .vmem S102400x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S16x1x6400 .i32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S64x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev grid4 : Pipeline.Grid := .none

@[reducible] def k4_t1_loop : Scf.Loop 32 :=
  let c0_i32 : BitVec 32 := 0#32
  let c16_i32 : BitVec 32 := 16#32
  let v9 : BitVec 32 := Scalar.addi c0_i32 c16_i32
  let c1_i32 : BitVec 32 := 1#32
  ⟨c0_i32, v9, c1_i32⟩
def k4_off1 (k4_t1 : Fin k4_t1_loop.trips) : Fin 2 → Nat :=
  let c0_i32 : BitVec 32 := 0#32
  let c1_i32 : BitVec 32 := 1#32
  let arg4 : BitVec 32 := Scf.iv c0_i32 c1_i32 k4_t1
  let c6400_i32 : BitVec 32 := 6400#32
  let v12 : BitVec 32 := Scalar.muli arg4 c6400_i32
  let v13 : Index := Scalar.indexCast v12
  let c0_6 : Index := 0#32
  ![v13.toNat, 0]
def k4_off2 (k4_t1 : Fin k4_t1_loop.trips) : Fin 3 → Nat :=
  let c0_i32 : BitVec 32 := 0#32
  let c1_i32 : BitVec 32 := 1#32
  let arg4 : BitVec 32 := Scf.iv c0_i32 c1_i32 k4_t1
  let v50 : Index := Scalar.indexCast arg4
  let c0_16 : Index := 0#32
  let c0_17 : Index := 0#32
  ![v50.toNat, 0, 0]
abbrev stage4_0 : Fin 1 → Memref sig .tc .vmem S102400x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S16x1x6400 .i32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev grid5 : Pipeline.Grid := .none

@[reducible] def k5_t1_loop : Scf.Loop 32 :=
  let c0_i32 : BitVec 32 := 0#32
  let c16_i32 : BitVec 32 := 16#32
  let v9 : BitVec 32 := Scalar.addi c0_i32 c16_i32
  let c1_i32 : BitVec 32 := 1#32
  ⟨c0_i32, v9, c1_i32⟩
def k5_off1 (k5_t1 : Fin k5_t1_loop.trips) : Fin 2 → Nat :=
  let c0_i32 : BitVec 32 := 0#32
  let c1_i32 : BitVec 32 := 1#32
  let arg4 : BitVec 32 := Scf.iv c0_i32 c1_i32 k5_t1
  let c6400_i32 : BitVec 32 := 6400#32
  let v12 : BitVec 32 := Scalar.muli arg4 c6400_i32
  let v13 : Index := Scalar.indexCast v12
  let c0_6 : Index := 0#32
  ![v13.toNat, 0]
def k5_off2 (k5_t1 : Fin k5_t1_loop.trips) : Fin 3 → Nat :=
  let c0_i32 : BitVec 32 := 0#32
  let c1_i32 : BitVec 32 := 1#32
  let arg4 : BitVec 32 := Scf.iv c0_i32 c1_i32 k5_t1
  let v50 : Index := Scalar.indexCast arg4
  let c0_16 : Index := 0#32
  let c0_17 : Index := 0#32
  ![v50.toNat, 0, 0]
abbrev stage5_0 : Fin 1 → Memref sig .tc .vmem S102400x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S16x1x6400 .i32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S64x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev grid6 : Pipeline.Grid := .none

@[reducible] def k6_t1_loop : Scf.Loop 32 :=
  let c0_i32 : BitVec 32 := 0#32
  let c16_i32 : BitVec 32 := 16#32
  let v9 : BitVec 32 := Scalar.addi c0_i32 c16_i32
  let c1_i32 : BitVec 32 := 1#32
  ⟨c0_i32, v9, c1_i32⟩
def k6_off1 (k6_t1 : Fin k6_t1_loop.trips) : Fin 2 → Nat :=
  let c0_i32 : BitVec 32 := 0#32
  let c1_i32 : BitVec 32 := 1#32
  let arg4 : BitVec 32 := Scf.iv c0_i32 c1_i32 k6_t1
  let c6400_i32 : BitVec 32 := 6400#32
  let v12 : BitVec 32 := Scalar.muli arg4 c6400_i32
  let v13 : Index := Scalar.indexCast v12
  let c0_6 : Index := 0#32
  ![v13.toNat, 0]
def k6_off2 (k6_t1 : Fin k6_t1_loop.trips) : Fin 3 → Nat :=
  let c0_i32 : BitVec 32 := 0#32
  let c1_i32 : BitVec 32 := 1#32
  let arg4 : BitVec 32 := Scf.iv c0_i32 c1_i32 k6_t1
  let v50 : Index := Scalar.indexCast arg4
  let c0_16 : Index := 0#32
  let c0_17 : Index := 0#32
  ![v50.toNat, 0, 0]
abbrev stage6_0 : Fin 1 → Memref sig .tc .vmem S102400x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S16x1x6400 .i32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))

abbrev grid7 : Pipeline.Grid := .none

@[reducible] def k7_t1_loop : Scf.Loop 32 :=
  let c0_i32 : BitVec 32 := 0#32
  let c16_i32 : BitVec 32 := 16#32
  let v9 : BitVec 32 := Scalar.addi c0_i32 c16_i32
  let c1_i32 : BitVec 32 := 1#32
  ⟨c0_i32, v9, c1_i32⟩
def k7_off1 (k7_t1 : Fin k7_t1_loop.trips) : Fin 2 → Nat :=
  let c0_i32 : BitVec 32 := 0#32
  let c1_i32 : BitVec 32 := 1#32
  let arg4 : BitVec 32 := Scf.iv c0_i32 c1_i32 k7_t1
  let c6400_i32 : BitVec 32 := 6400#32
  let v12 : BitVec 32 := Scalar.muli arg4 c6400_i32
  let v13 : Index := Scalar.indexCast v12
  let c0_6 : Index := 0#32
  ![v13.toNat, 0]
def k7_off2 (k7_t1 : Fin k7_t1_loop.trips) : Fin 3 → Nat :=
  let c0_i32 : BitVec 32 := 0#32
  let c1_i32 : BitVec 32 := 1#32
  let arg4 : BitVec 32 := Scf.iv c0_i32 c1_i32 k7_t1
  let v50 : Index := Scalar.indexCast arg4
  let c0_16 : Index := 0#32
  let c0_17 : Index := 0#32
  ![v50.toNat, 0, 0]
abbrev stage7_0 : Fin 1 → Memref sig .tc .vmem S102400x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))

abbrev stage7_2 : Fin 1 → Memref sig .tc .vmem S16x1x6400 .i32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))

abbrev stage7_3 : Fin 1 → Memref sig .tc .vmem S64x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))

abbrev grid8 : Pipeline.Grid := .none

@[reducible] def k8_t1_loop : Scf.Loop 32 :=
  let c0_i32 : BitVec 32 := 0#32
  let c16_i32 : BitVec 32 := 16#32
  let v9 : BitVec 32 := Scalar.addi c0_i32 c16_i32
  let c1_i32 : BitVec 32 := 1#32
  ⟨c0_i32, v9, c1_i32⟩
def k8_off1 (k8_t1 : Fin k8_t1_loop.trips) : Fin 2 → Nat :=
  let c0_i32 : BitVec 32 := 0#32
  let c1_i32 : BitVec 32 := 1#32
  let arg4 : BitVec 32 := Scf.iv c0_i32 c1_i32 k8_t1
  let c6400_i32 : BitVec 32 := 6400#32
  let v12 : BitVec 32 := Scalar.muli arg4 c6400_i32
  let v13 : Index := Scalar.indexCast v12
  let c0_6 : Index := 0#32
  ![v13.toNat, 0]
def k8_off2 (k8_t1 : Fin k8_t1_loop.trips) : Fin 3 → Nat :=
  let c0_i32 : BitVec 32 := 0#32
  let c1_i32 : BitVec 32 := 1#32
  let arg4 : BitVec 32 := Scf.iv c0_i32 c1_i32 k8_t1
  let v50 : Index := Scalar.indexCast arg4
  let c0_16 : Index := 0#32
  let c0_17 : Index := 0#32
  ![v50.toNat, 0, 0]
abbrev stage8_0 : Fin 1 → Memref sig .tc .vmem S102400x64 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))

abbrev stage8_2 : Fin 1 → Memref sig .tc .vmem S16x1x6400 .i32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))

abbrev stage8_3 : Fin 1 → Memref sig .tc .vmem S64x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))

abbrev grid9 : Pipeline.Grid := .none

@[reducible] def k9_t1_loop : Scf.Loop 32 :=
  let c0_i32 : BitVec 32 := 0#32
  let c16_i32 : BitVec 32 := 16#32
  let v9 : BitVec 32 := Scalar.addi c0_i32 c16_i32
  let c1_i32 : BitVec 32 := 1#32
  ⟨c0_i32, v9, c1_i32⟩
def k9_off1 (k9_t1 : Fin k9_t1_loop.trips) : Fin 2 → Nat :=
  let c0_i32 : BitVec 32 := 0#32
  let c1_i32 : BitVec 32 := 1#32
  let arg4 : BitVec 32 := Scf.iv c0_i32 c1_i32 k9_t1
  let c6400_i32 : BitVec 32 := 6400#32
  let v12 : BitVec 32 := Scalar.muli arg4 c6400_i32
  let v13 : Index := Scalar.indexCast v12
  let c0_6 : Index := 0#32
  ![v13.toNat, 0]
def k9_off2 (k9_t1 : Fin k9_t1_loop.trips) : Fin 3 → Nat :=
  let c0_i32 : BitVec 32 := 0#32
  let c1_i32 : BitVec 32 := 1#32
  let arg4 : BitVec 32 := Scf.iv c0_i32 c1_i32 k9_t1
  let v50 : Index := Scalar.indexCast arg4
  let c0_16 : Index := 0#32
  let c0_17 : Index := 0#32
  ![v50.toNat, 0, 0]
abbrev stage9_0 : Fin 1 → Memref sig .tc .vmem S102400x64 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))

abbrev stage9_2 : Fin 1 → Memref sig .tc .vmem S16x1x6400 .i32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))

abbrev stage9_3 : Fin 1 → Memref sig .tc .vmem S64x1 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))

abbrev grid10 : Pipeline.Grid := .none

@[reducible] def k10_t1_loop : Scf.Loop 32 :=
  let c0_i32 : BitVec 32 := 0#32
  let c16_i32 : BitVec 32 := 16#32
  let v9 : BitVec 32 := Scalar.addi c0_i32 c16_i32
  let c1_i32 : BitVec 32 := 1#32
  ⟨c0_i32, v9, c1_i32⟩
def k10_off1 (k10_t1 : Fin k10_t1_loop.trips) : Fin 2 → Nat :=
  let c0_i32 : BitVec 32 := 0#32
  let c1_i32 : BitVec 32 := 1#32
  let arg4 : BitVec 32 := Scf.iv c0_i32 c1_i32 k10_t1
  let c6400_i32 : BitVec 32 := 6400#32
  let v12 : BitVec 32 := Scalar.muli arg4 c6400_i32
  let v13 : Index := Scalar.indexCast v12
  let c0_6 : Index := 0#32
  ![v13.toNat, 0]
def k10_off2 (k10_t1 : Fin k10_t1_loop.trips) : Fin 3 → Nat :=
  let c0_i32 : BitVec 32 := 0#32
  let c1_i32 : BitVec 32 := 1#32
  let arg4 : BitVec 32 := Scf.iv c0_i32 c1_i32 k10_t1
  let v50 : Index := Scalar.indexCast arg4
  let c0_16 : Index := 0#32
  let c0_17 : Index := 0#32
  ![v50.toNat, 0, 0]
abbrev stage10_0 : Fin 1 → Memref sig .tc .vmem S102400x64 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))

abbrev stage10_2 : Fin 1 → Memref sig .tc .vmem S16x1x6400 .i32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))

abbrev stage10_3 : Fin 1 → Memref sig .tc .vmem S64x1 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))

abbrev grid11 : Pipeline.Grid := ⟨1, ![16], ![false]⟩

def cc11_transform_0 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc11_transform_1 (i : grid11.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage11_0 : Fin 2 → Memref sig .tc .vmem S1x1x6400 .i32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S64x6400 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]
-- ==== ReferenceIdeal.lean ====
abbrev S100000 : Shape := ⟨1, ![100000]⟩
abbrev S100000x64 : Shape := ⟨2, ![100000, 64]⟩
abbrev S64x64 : Shape := ⟨2, ![64, 64]⟩
abbrev S64 : Shape := ⟨1, ![64]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S1x64 : Shape := ⟨2, ![1, 64]⟩
abbrev S64x1 : Shape := ⟨2, ![64, 1]⟩
abbrev S64x100000 : Shape := ⟨2, ![64, 100000]⟩
abbrev S100000x2 : Shape := ⟨2, ![100000, 2]⟩

abbrev nBuf : Space → Nat
  | .hbm => 442
  | .vmem => 0
  | .smem => 0
  | _ => 0

abbrev hbmTy0_0 (i : Nat) : BufTy := match i % 128 with
  | 0 => ⟨S100000, .i32⟩
  | 1 => ⟨S100000x64, .f32⟩
  | 2 => ⟨S64x64, .f32⟩
  | 3 => ⟨S64, .f32⟩
  | 4 => ⟨S_, .i32⟩
  | 5 => ⟨S100000, .i32⟩
  | 6 => ⟨S100000, .i1⟩
  | 7 => ⟨S_, .i32⟩
  | 8 => ⟨S100000, .i32⟩
  | 9 => ⟨S100000, .i32⟩
  | 10 => ⟨S100000, .i32⟩
  | 11 => ⟨S100000x1, .i32⟩
  | 12 => ⟨S1, .i32⟩
  | 13 => ⟨S_, .i32⟩
  | 14 => ⟨S100000x1, .i32⟩
  | 15 => ⟨S100000x1, .i1⟩
  | 16 => ⟨S1x1, .i32⟩
  | 17 => ⟨S100000x1, .i32⟩
  | 18 => ⟨S100000x1, .i1⟩
  | 19 => ⟨S100000x1, .i1⟩
  | 20 => ⟨S_, .i1⟩
  | 21 => ⟨S100000, .i1⟩
  | 22 => ⟨S100000x64, .f32⟩
  | 23 => ⟨S100000x64, .i1⟩
  | 24 => ⟨S_, .f32⟩
  | 25 => ⟨S100000x64, .f32⟩
  | 26 => ⟨S100000x64, .f32⟩
  | 27 => ⟨S64x64, .f32⟩
  | 28 => ⟨S100000x64, .f32⟩
  | 29 => ⟨S1x64, .f32⟩
  | 30 => ⟨S100000x64, .f32⟩
  | 31 => ⟨S100000x64, .f32⟩
  | 32 => ⟨S_, .f32⟩
  | 33 => ⟨S100000x64, .f32⟩
  | 34 => ⟨S100000x64, .f32⟩
  | 35 => ⟨S100000x64, .f32⟩
  | 36 => ⟨S64x64, .f32⟩
  | 37 => ⟨S_, .i32⟩
  | 38 => ⟨S100000, .i32⟩
  | 39 => ⟨S100000x64, .f32⟩
  | 40 => ⟨S_, .f32⟩
  | 41 => ⟨S100000, .f32⟩
  | 42 => ⟨S64x64, .f32⟩
  | 43 => ⟨S_, .f32⟩
  | 44 => ⟨S64, .f32⟩
  | 45 => ⟨S100000x1, .f32⟩
  | 46 => ⟨S64x64, .f32⟩
  | 47 => ⟨S100000x64, .f32⟩
  | 48 => ⟨S_, .f32⟩
  | 49 => ⟨S100000x64, .f32⟩
  | 50 => ⟨S100000x64, .f32⟩
  | 51 => ⟨S100000x64, .f32⟩
  | 52 => ⟨S100000x64, .f32⟩
  | 53 => ⟨S1x64, .f32⟩
  | 54 => ⟨S100000x64, .f32⟩
  | 55 => ⟨S100000x64, .f32⟩
  | 56 => ⟨S100000x64, .i32⟩
  | 57 => ⟨S_, .f32⟩
  | 58 => ⟨S_, .i32⟩
  | 59 => ⟨S100000, .f32⟩
  | 60 => ⟨S100000, .i32⟩
  | 61 => ⟨S_, .f32⟩
  | 62 => ⟨S64x64, .f32⟩
  | 63 => ⟨S100000x1, .i32⟩
  | 64 => ⟨S64x64, .f32⟩
  | 65 => ⟨S_, .f32⟩
  | 66 => ⟨S100000, .f32⟩
  | 67 => ⟨S_, .f32⟩
  | 68 => ⟨S64, .f32⟩
  | 69 => ⟨S100000x1, .i32⟩
  | 70 => ⟨S64, .f32⟩
  | 71 => ⟨S_, .f32⟩
  | 72 => ⟨S64, .f32⟩
  | 73 => ⟨S64, .f32⟩
  | 74 => ⟨S64x1, .f32⟩
  | 75 => ⟨S64x64, .f32⟩
  | 76 => ⟨S64x64, .f32⟩
  | 77 => ⟨S100000x64, .f32⟩
  | 78 => ⟨S_, .f32⟩
  | 79 => ⟨S100000, .f32⟩
  | 80 => ⟨S64x64, .f32⟩
  | 81 => ⟨S_, .f32⟩
  | 82 => ⟨S64, .f32⟩
  | 83 => ⟨S100000x1, .f32⟩
  | 84 => ⟨S64x64, .f32⟩
  | 85 => ⟨S100000x64, .f32⟩
  | 86 => ⟨S_, .f32⟩
  | 87 => ⟨S100000x64, .f32⟩
  | 88 => ⟨S100000x64, .f32⟩
  | 89 => ⟨S100000x64, .f32⟩
  | 90 => ⟨S100000x64, .f32⟩
  | 91 => ⟨S1x64, .f32⟩
  | 92 => ⟨S100000x64, .f32⟩
  | 93 => ⟨S100000x64, .f32⟩
  | 94 => ⟨S100000x64, .i32⟩
  | 95 => ⟨S_, .f32⟩
  | 96 => ⟨S_, .i32⟩
  | 97 => ⟨S100000, .f32⟩
  | 98 => ⟨S100000, .i32⟩
  | 99 => ⟨S_, .f32⟩
  | 100 => ⟨S64x64, .f32⟩
  | 101 => ⟨S100000x1, .i32⟩
  | 102 => ⟨S64x64, .f32⟩
  | 103 => ⟨S_, .f32⟩
  | 104 => ⟨S100000, .f32⟩
  | 105 => ⟨S_, .f32⟩
  | 106 => ⟨S64, .f32⟩
  | 107 => ⟨S100000x1, .i32⟩
  | 108 => ⟨S64, .f32⟩
  | 109 => ⟨S_, .f32⟩
  | 110 => ⟨S64, .f32⟩
  | 111 => ⟨S64, .f32⟩
  | 112 => ⟨S64x1, .f32⟩
  | 113 => ⟨S64x64, .f32⟩
  | 114 => ⟨S64x64, .f32⟩
  | 115 => ⟨S100000x64, .f32⟩
  | 116 => ⟨S_, .f32⟩
  | 117 => ⟨S100000, .f32⟩
  | 118 => ⟨S64x64, .f32⟩
  | 119 => ⟨S_, .f32⟩
  | 120 => ⟨S64, .f32⟩
  | 121 => ⟨S100000x1, .f32⟩
  | 122 => ⟨S64x64, .f32⟩
  | 123 => ⟨S100000x64, .f32⟩
  | 124 => ⟨S_, .f32⟩
  | 125 => ⟨S100000x64, .f32⟩
  | 126 => ⟨S100000x64, .f32⟩
  | 127 => ⟨S100000x64, .f32⟩
  | _ => ⟨S100000, .i32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S100000x64, .i32⟩
  | 5 => ⟨S_, .f32⟩
  | 6 => ⟨S_, .i32⟩
  | 7 => ⟨S100000, .f32⟩
  | 8 => ⟨S100000, .i32⟩
  | 9 => ⟨S_, .f32⟩
  | 10 => ⟨S64x64, .f32⟩
  | 11 => ⟨S100000x1, .i32⟩
  | 12 => ⟨S64x64, .f32⟩
  | 13 => ⟨S_, .f32⟩
  | 14 => ⟨S100000, .f32⟩
  | 15 => ⟨S_, .f32⟩
  | 16 => ⟨S64, .f32⟩
  | 17 => ⟨S100000x1, .i32⟩
  | 18 => ⟨S64, .f32⟩
  | 19 => ⟨S_, .f32⟩
  | 20 => ⟨S64, .f32⟩
  | 21 => ⟨S64, .f32⟩
  | 22 => ⟨S64x1, .f32⟩
  | 23 => ⟨S64x64, .f32⟩
  | 24 => ⟨S64x64, .f32⟩
  | 25 => ⟨S100000x64, .f32⟩
  | 26 => ⟨S_, .f32⟩
  | 27 => ⟨S100000, .f32⟩
  | 28 => ⟨S64x64, .f32⟩
  | 29 => ⟨S_, .f32⟩
  | 30 => ⟨S64, .f32⟩
  | 31 => ⟨S100000x1, .f32⟩
  | 32 => ⟨S64x64, .f32⟩
  | 33 => ⟨S100000x64, .f32⟩
  | 34 => ⟨S_, .f32⟩
  | 35 => ⟨S100000x64, .f32⟩
  | 36 => ⟨S100000x64, .f32⟩
  | 37 => ⟨S100000x64, .f32⟩
  | 38 => ⟨S100000x64, .f32⟩
  | 39 => ⟨S1x64, .f32⟩
  | 40 => ⟨S100000x64, .f32⟩
  | 41 => ⟨S100000x64, .f32⟩
  | 42 => ⟨S100000x64, .i32⟩
  | 43 => ⟨S_, .f32⟩
  | 44 => ⟨S_, .i32⟩
  | 45 => ⟨S100000, .f32⟩
  | 46 => ⟨S100000, .i32⟩
  | 47 => ⟨S_, .f32⟩
  | 48 => ⟨S64x64, .f32⟩
  | 49 => ⟨S100000x1, .i32⟩
  | 50 => ⟨S64x64, .f32⟩
  | 51 => ⟨S_, .f32⟩
  | 52 => ⟨S100000, .f32⟩
  | 53 => ⟨S_, .f32⟩
  | 54 => ⟨S64, .f32⟩
  | 55 => ⟨S100000x1, .i32⟩
  | 56 => ⟨S64, .f32⟩
  | 57 => ⟨S_, .f32⟩
  | 58 => ⟨S64, .f32⟩
  | 59 => ⟨S64, .f32⟩
  | 60 => ⟨S64x1, .f32⟩
  | 61 => ⟨S64x64, .f32⟩
  | 62 => ⟨S64x64, .f32⟩
  | 63 => ⟨S100000x64, .f32⟩
  | 64 => ⟨S_, .f32⟩
  | 65 => ⟨S100000, .f32⟩
  | 66 => ⟨S64x64, .f32⟩
  | 67 => ⟨S_, .f32⟩
  | 68 => ⟨S64, .f32⟩
  | 69 => ⟨S100000x1, .f32⟩
  | 70 => ⟨S64x64, .f32⟩
  | 71 => ⟨S100000x64, .f32⟩
  | 72 => ⟨S_, .f32⟩
  | 73 => ⟨S100000x64, .f32⟩
  | 74 => ⟨S100000x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S100000x64, .i32⟩
  | 81 => ⟨S_, .f32⟩
  | 82 => ⟨S_, .i32⟩
  | 83 => ⟨S100000, .f32⟩
  | 84 => ⟨S100000, .i32⟩
  | 85 => ⟨S_, .f32⟩
  | 86 => ⟨S64x64, .f32⟩
  | 87 => ⟨S100000x1, .i32⟩
  | 88 => ⟨S64x64, .f32⟩
  | 89 => ⟨S_, .f32⟩
  | 90 => ⟨S100000, .f32⟩
  | 91 => ⟨S_, .f32⟩
  | 92 => ⟨S64, .f32⟩
  | 93 => ⟨S100000x1, .i32⟩
  | 94 => ⟨S64, .f32⟩
  | 95 => ⟨S_, .f32⟩
  | 96 => ⟨S64, .f32⟩
  | 97 => ⟨S64, .f32⟩
  | 98 => ⟨S64x1, .f32⟩
  | 99 => ⟨S64x64, .f32⟩
  | 100 => ⟨S64x64, .f32⟩
  | 101 => ⟨S100000x64, .f32⟩
  | 102 => ⟨S_, .f32⟩
  | 103 => ⟨S100000, .f32⟩
  | 104 => ⟨S64x64, .f32⟩
  | 105 => ⟨S_, .f32⟩
  | 106 => ⟨S64, .f32⟩
  | 107 => ⟨S100000x1, .f32⟩
  | 108 => ⟨S64x64, .f32⟩
  | 109 => ⟨S100000x64, .f32⟩
  | 110 => ⟨S_, .f32⟩
  | 111 => ⟨S100000x64, .f32⟩
  | 112 => ⟨S100000x64, .f32⟩
  | 113 => ⟨S100000x64, .f32⟩
  | 114 => ⟨S100000x64, .f32⟩
  | 115 => ⟨S1x64, .f32⟩
  | 116 => ⟨S100000x64, .f32⟩
  | 117 => ⟨S100000x64, .f32⟩
  | 118 => ⟨S100000x64, .i32⟩
  | 119 => ⟨S_, .f32⟩
  | 120 => ⟨S_, .i32⟩
  | 121 => ⟨S100000, .f32⟩
  | 122 => ⟨S100000, .i32⟩
  | 123 => ⟨S_, .f32⟩
  | 124 => ⟨S64x64, .f32⟩
  | 125 => ⟨S100000x1, .i32⟩
  | 126 => ⟨S64x64, .f32⟩
  | 127 => ⟨S_, .f32⟩
  | _ => ⟨S100000, .i32⟩

abbrev hbmTy0_2 (i : Nat) : BufTy := match i % 128 with
  | 0 => ⟨S100000, .f32⟩
  | 1 => ⟨S_, .f32⟩
  | 2 => ⟨S64, .f32⟩
  | 3 => ⟨S100000x1, .i32⟩
  | 4 => ⟨S64, .f32⟩
  | 5 => ⟨S_, .f32⟩
  | 6 => ⟨S64, .f32⟩
  | 7 => ⟨S64, .f32⟩
  | 8 => ⟨S64x1, .f32⟩
  | 9 => ⟨S64x64, .f32⟩
  | 10 => ⟨S64x64, .f32⟩
  | 11 => ⟨S100000x64, .f32⟩
  | 12 => ⟨S_, .f32⟩
  | 13 => ⟨S100000, .f32⟩
  | 14 => ⟨S64x64, .f32⟩
  | 15 => ⟨S_, .f32⟩
  | 16 => ⟨S64, .f32⟩
  | 17 => ⟨S100000x1, .f32⟩
  | 18 => ⟨S64x64, .f32⟩
  | 19 => ⟨S100000x64, .f32⟩
  | 20 => ⟨S_, .f32⟩
  | 21 => ⟨S100000x64, .f32⟩
  | 22 => ⟨S100000x64, .f32⟩
  | 23 => ⟨S100000x64, .f32⟩
  | 24 => ⟨S100000x64, .f32⟩
  | 25 => ⟨S1x64, .f32⟩
  | 26 => ⟨S100000x64, .f32⟩
  | 27 => ⟨S100000x64, .f32⟩
  | 28 => ⟨S100000x64, .i32⟩
  | 29 => ⟨S_, .f32⟩
  | 30 => ⟨S_, .i32⟩
  | 31 => ⟨S100000, .f32⟩
  | 32 => ⟨S100000, .i32⟩
  | 33 => ⟨S_, .f32⟩
  | 34 => ⟨S64x64, .f32⟩
  | 35 => ⟨S100000x1, .i32⟩
  | 36 => ⟨S64x64, .f32⟩
  | 37 => ⟨S_, .f32⟩
  | 38 => ⟨S100000, .f32⟩
  | 39 => ⟨S_, .f32⟩
  | 40 => ⟨S64, .f32⟩
  | 41 => ⟨S100000x1, .i32⟩
  | 42 => ⟨S64, .f32⟩
  | 43 => ⟨S_, .f32⟩
  | 44 => ⟨S64, .f32⟩
  | 45 => ⟨S64, .f32⟩
  | 46 => ⟨S64x1, .f32⟩
  | 47 => ⟨S64x64, .f32⟩
  | 48 => ⟨S64x64, .f32⟩
  | 49 => ⟨S100000x64, .f32⟩
  | 50 => ⟨S_, .f32⟩
  | 51 => ⟨S100000, .f32⟩
  | 52 => ⟨S64x64, .f32⟩
  | 53 => ⟨S_, .f32⟩
  | 54 => ⟨S64, .f32⟩
  | 55 => ⟨S100000x1, .f32⟩
  | 56 => ⟨S64x64, .f32⟩
  | 57 => ⟨S100000x64, .f32⟩
  | 58 => ⟨S_, .f32⟩
  | 59 => ⟨S100000x64, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S100000x64, .i32⟩
  | 67 => ⟨S_, .f32⟩
  | 68 => ⟨S_, .i32⟩
  | 69 => ⟨S100000, .f32⟩
  | 70 => ⟨S100000, .i32⟩
  | 71 => ⟨S_, .f32⟩
  | 72 => ⟨S64x64, .f32⟩
  | 73 => ⟨S100000x1, .i32⟩
  | 74 => ⟨S64x64, .f32⟩
  | 75 => ⟨S_, .f32⟩
  | 76 => ⟨S100000, .f32⟩
  | 77 => ⟨S_, .f32⟩
  | 78 => ⟨S64, .f32⟩
  | 79 => ⟨S100000x1, .i32⟩
  | 80 => ⟨S64, .f32⟩
  | 81 => ⟨S_, .f32⟩
  | 82 => ⟨S64, .f32⟩
  | 83 => ⟨S64, .f32⟩
  | 84 => ⟨S64x1, .f32⟩
  | 85 => ⟨S64x64, .f32⟩
  | 86 => ⟨S64x64, .f32⟩
  | 87 => ⟨S100000x64, .f32⟩
  | 88 => ⟨S_, .f32⟩
  | 89 => ⟨S100000, .f32⟩
  | 90 => ⟨S64x64, .f32⟩
  | 91 => ⟨S_, .f32⟩
  | 92 => ⟨S64, .f32⟩
  | 93 => ⟨S100000x1, .f32⟩
  | 94 => ⟨S64x64, .f32⟩
  | 95 => ⟨S100000x64, .f32⟩
  | 96 => ⟨S_, .f32⟩
  | 97 => ⟨S100000x64, .f32⟩
  | 98 => ⟨S100000x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S100000x64, .i32⟩
  | 105 => ⟨S_, .f32⟩
  | 106 => ⟨S_, .i32⟩
  | 107 => ⟨S100000, .f32⟩
  | 108 => ⟨S100000, .i32⟩
  | 109 => ⟨S_, .f32⟩
  | 110 => ⟨S64x64, .f32⟩
  | 111 => ⟨S100000x1, .i32⟩
  | 112 => ⟨S64x64, .f32⟩
  | 113 => ⟨S_, .f32⟩
  | 114 => ⟨S100000, .f32⟩
  | 115 => ⟨S_, .f32⟩
  | 116 => ⟨S64, .f32⟩
  | 117 => ⟨S100000x1, .i32⟩
  | 118 => ⟨S64, .f32⟩
  | 119 => ⟨S_, .f32⟩
  | 120 => ⟨S64, .f32⟩
  | 121 => ⟨S64, .f32⟩
  | 122 => ⟨S64x1, .f32⟩
  | 123 => ⟨S64x64, .f32⟩
  | 124 => ⟨S64x64, .f32⟩
  | 125 => ⟨S100000x64, .f32⟩
  | 126 => ⟨S_, .f32⟩
  | 127 => ⟨S100000, .f32⟩
  | _ => ⟨S100000, .i32⟩

abbrev hbmTy0_3 (i : Nat) : BufTy := match i % 128 with
  | 0 => ⟨S64x64, .f32⟩
  | 1 => ⟨S_, .f32⟩
  | 2 => ⟨S64, .f32⟩
  | 3 => ⟨S100000x1, .f32⟩
  | 4 => ⟨S64x64, .f32⟩
  | 5 => ⟨S100000x64, .f32⟩
  | 6 => ⟨S_, .f32⟩
  | 7 => ⟨S100000x64, .f32⟩
  | 8 => ⟨S100000x64, .f32⟩
  | 9 => ⟨S100000x64, .f32⟩
  | 10 => ⟨S100000x64, .f32⟩
  | 11 => ⟨S1x64, .f32⟩
  | 12 => ⟨S100000x64, .f32⟩
  | 13 => ⟨S100000x64, .f32⟩
  | 14 => ⟨S100000x64, .i32⟩
  | 15 => ⟨S_, .f32⟩
  | 16 => ⟨S_, .i32⟩
  | 17 => ⟨S100000, .f32⟩
  | 18 => ⟨S100000, .i32⟩
  | 19 => ⟨S_, .f32⟩
  | 20 => ⟨S64x64, .f32⟩
  | 21 => ⟨S100000x1, .i32⟩
  | 22 => ⟨S64x64, .f32⟩
  | 23 => ⟨S_, .f32⟩
  | 24 => ⟨S100000, .f32⟩
  | 25 => ⟨S_, .f32⟩
  | 26 => ⟨S64, .f32⟩
  | 27 => ⟨S100000x1, .i32⟩
  | 28 => ⟨S64, .f32⟩
  | 29 => ⟨S_, .f32⟩
  | 30 => ⟨S64, .f32⟩
  | 31 => ⟨S64, .f32⟩
  | 32 => ⟨S64x1, .f32⟩
  | 33 => ⟨S64x64, .f32⟩
  | 34 => ⟨S64x64, .f32⟩
  | 35 => ⟨S_, .f32⟩
  | 36 => ⟨S64x100000, .f32⟩
  | 37 => ⟨S100000, .i32⟩
  | 38 => ⟨S_, .i32⟩
  | 39 => ⟨S100000, .i32⟩
  | 40 => ⟨S100000, .i1⟩
  | 41 => ⟨S_, .i32⟩
  | 42 => ⟨S100000, .i32⟩
  | 43 => ⟨S100000, .i32⟩
  | 44 => ⟨S100000, .i32⟩
  | 45 => ⟨S_, .i32⟩
  | 46 => ⟨S100000, .i32⟩
  | 47 => ⟨S100000, .i1⟩
  | 48 => ⟨S_, .i32⟩
  | 49 => ⟨S100000, .i32⟩
  | 50 => ⟨S100000, .i32⟩
  | 51 => ⟨S100000, .i32⟩
  | 52 => ⟨S100000x1, .i32⟩
  | 53 => ⟨S100000x1, .i32⟩
  | 54 => ⟨S100000x2, .i32⟩
  | 55 => ⟨S_, .f32⟩
  | 56 => ⟨S100000, .f32⟩
  | 57 => ⟨S64x100000, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c : Ref sig .tc := ⟨.hbm, 37, rfl⟩
abbrev main_v10 : Ref sig .tc := ⟨.hbm, 38, rfl⟩
abbrev main_v11 : Ref sig .tc := ⟨.hbm, 39, rfl⟩
abbrev main_cst_0 : Ref sig .tc := ⟨.hbm, 40, rfl⟩
abbrev main_v12 : Ref sig .tc := ⟨.hbm, 41, rfl⟩
abbrev main_v13 : Ref sig .tc := ⟨.hbm, 42, rfl⟩
abbrev main_cst_1 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_2 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_call1_v0 : Ref sig .tc := ⟨.hbm, 56, rfl⟩
abbrev main_call1_cst : Ref sig .tc := ⟨.hbm, 57, rfl⟩
abbrev main_call1_c : Ref sig .tc := ⟨.hbm, 58, rfl⟩
abbrev main_call1_v1_0 : Ref sig .tc := ⟨.hbm, 59, rfl⟩
abbrev main_v25 : Ref sig .tc := ⟨.hbm, 60, rfl⟩
abbrev main_cst_3 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_4 : Ref sig .tc := ⟨.hbm, 65, rfl⟩
abbrev main_v29 : Ref sig .tc := ⟨.hbm, 66, rfl⟩
abbrev main_cst_5 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_6 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_7 : Ref sig .tc := ⟨.hbm, 78, rfl⟩
abbrev main_v39 : Ref sig .tc := ⟨.hbm, 79, rfl⟩
abbrev main_v40 : Ref sig .tc := ⟨.hbm, 80, rfl⟩
abbrev main_cst_8 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_9 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_call2_v0 : Ref sig .tc := ⟨.hbm, 94, rfl⟩
abbrev main_call2_cst : Ref sig .tc := ⟨.hbm, 95, rfl⟩
abbrev main_call2_c : Ref sig .tc := ⟨.hbm, 96, rfl⟩
abbrev main_call2_v1_0 : Ref sig .tc := ⟨.hbm, 97, rfl⟩
abbrev main_v52 : Ref sig .tc := ⟨.hbm, 98, rfl⟩
abbrev main_cst_10 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_11 : Ref sig .tc := ⟨.hbm, 103, rfl⟩
abbrev main_v56 : Ref sig .tc := ⟨.hbm, 104, rfl⟩
abbrev main_cst_12 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_cst_13 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_14 : Ref sig .tc := ⟨.hbm, 116, rfl⟩
abbrev main_v66 : Ref sig .tc := ⟨.hbm, 117, rfl⟩
abbrev main_v67 : Ref sig .tc := ⟨.hbm, 118, rfl⟩
abbrev main_cst_15 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_16 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_call3_v0 : Ref sig .tc := ⟨.hbm, 132, rfl⟩
abbrev main_call3_cst : Ref sig .tc := ⟨.hbm, 133, rfl⟩
abbrev main_call3_c : Ref sig .tc := ⟨.hbm, 134, rfl⟩
abbrev main_call3_v1_0 : Ref sig .tc := ⟨.hbm, 135, rfl⟩
abbrev main_v79 : Ref sig .tc := ⟨.hbm, 136, rfl⟩
abbrev main_cst_17 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_cst_18 : Ref sig .tc := ⟨.hbm, 141, rfl⟩
abbrev main_v83 : Ref sig .tc := ⟨.hbm, 142, rfl⟩
abbrev main_cst_19 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_cst_20 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_cst_21 : Ref sig .tc := ⟨.hbm, 154, rfl⟩
abbrev main_v93 : Ref sig .tc := ⟨.hbm, 155, rfl⟩
abbrev main_v94 : Ref sig .tc := ⟨.hbm, 156, rfl⟩
abbrev main_cst_22 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_cst_23 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_call4_v0 : Ref sig .tc := ⟨.hbm, 170, rfl⟩
abbrev main_call4_cst : Ref sig .tc := ⟨.hbm, 171, rfl⟩
abbrev main_call4_c : Ref sig .tc := ⟨.hbm, 172, rfl⟩
abbrev main_call4_v1_0 : Ref sig .tc := ⟨.hbm, 173, rfl⟩
abbrev main_v106 : Ref sig .tc := ⟨.hbm, 174, rfl⟩
abbrev main_cst_24 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_cst_25 : Ref sig .tc := ⟨.hbm, 179, rfl⟩
abbrev main_v110 : Ref sig .tc := ⟨.hbm, 180, rfl⟩
abbrev main_cst_26 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_cst_27 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_cst_28 : Ref sig .tc := ⟨.hbm, 192, rfl⟩
abbrev main_v120 : Ref sig .tc := ⟨.hbm, 193, rfl⟩
abbrev main_v121 : Ref sig .tc := ⟨.hbm, 194, rfl⟩
abbrev main_cst_29 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_cst_30 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_call5_v0 : Ref sig .tc := ⟨.hbm, 208, rfl⟩
abbrev main_call5_cst : Ref sig .tc := ⟨.hbm, 209, rfl⟩
abbrev main_call5_c : Ref sig .tc := ⟨.hbm, 210, rfl⟩
abbrev main_call5_v1_0 : Ref sig .tc := ⟨.hbm, 211, rfl⟩
abbrev main_v133 : Ref sig .tc := ⟨.hbm, 212, rfl⟩
abbrev main_cst_31 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_cst_32 : Ref sig .tc := ⟨.hbm, 217, rfl⟩
abbrev main_v137 : Ref sig .tc := ⟨.hbm, 218, rfl⟩
abbrev main_cst_33 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_cst_34 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_cst_35 : Ref sig .tc := ⟨.hbm, 230, rfl⟩
abbrev main_v147 : Ref sig .tc := ⟨.hbm, 231, rfl⟩
abbrev main_v148 : Ref sig .tc := ⟨.hbm, 232, rfl⟩
abbrev main_cst_36 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_cst_37 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_call6_v0 : Ref sig .tc := ⟨.hbm, 246, rfl⟩
abbrev main_call6_cst : Ref sig .tc := ⟨.hbm, 247, rfl⟩
abbrev main_call6_c : Ref sig .tc := ⟨.hbm, 248, rfl⟩
abbrev main_call6_v1_0 : Ref sig .tc := ⟨.hbm, 249, rfl⟩
abbrev main_v160 : Ref sig .tc := ⟨.hbm, 250, rfl⟩
abbrev main_cst_38 : Ref sig .tc := ⟨.hbm, 251, rfl⟩
abbrev main_v161 : Ref sig .tc := ⟨.hbm, 252, rfl⟩
abbrev main_v162 : Ref sig .tc := ⟨.hbm, 253, rfl⟩
abbrev main_v163 : Ref sig .tc := ⟨.hbm, 254, rfl⟩
abbrev main_cst_39 : Ref sig .tc := ⟨.hbm, 255, rfl⟩
abbrev main_v164 : Ref sig .tc := ⟨.hbm, 256, rfl⟩
abbrev main_cst_40 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_cst_41 : Ref sig .tc := ⟨.hbm, 261, rfl⟩
abbrev main_v168 : Ref sig .tc := ⟨.hbm, 262, rfl⟩
abbrev main_v169 : Ref sig .tc := ⟨.hbm, 263, rfl⟩
abbrev main_v170 : Ref sig .tc := ⟨.hbm, 264, rfl⟩
abbrev main_v171 : Ref sig .tc := ⟨.hbm, 265, rfl⟩
abbrev main_v172 : Ref sig .tc := ⟨.hbm, 266, rfl⟩
abbrev main_v173 : Ref sig .tc := ⟨.hbm, 267, rfl⟩
abbrev main_cst_42 : Ref sig .tc := ⟨.hbm, 268, rfl⟩
abbrev main_v174 : Ref sig .tc := ⟨.hbm, 269, rfl⟩
abbrev main_v175 : Ref sig .tc := ⟨.hbm, 270, rfl⟩
abbrev main_cst_43 : Ref sig .tc := ⟨.hbm, 271, rfl⟩
abbrev main_v176 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_cst_44 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_call7_v0 : Ref sig .tc := ⟨.hbm, 284, rfl⟩
abbrev main_call7_cst : Ref sig .tc := ⟨.hbm, 285, rfl⟩
abbrev main_call7_c : Ref sig .tc := ⟨.hbm, 286, rfl⟩
abbrev main_call7_v1_0 : Ref sig .tc := ⟨.hbm, 287, rfl⟩
abbrev main_v187 : Ref sig .tc := ⟨.hbm, 288, rfl⟩
abbrev main_cst_45 : Ref sig .tc := ⟨.hbm, 289, rfl⟩
abbrev main_v188 : Ref sig .tc := ⟨.hbm, 290, rfl⟩
abbrev main_v189 : Ref sig .tc := ⟨.hbm, 291, rfl⟩
abbrev main_v190 : Ref sig .tc := ⟨.hbm, 292, rfl⟩
abbrev main_cst_46 : Ref sig .tc := ⟨.hbm, 293, rfl⟩
abbrev main_v191 : Ref sig .tc := ⟨.hbm, 294, rfl⟩
abbrev main_cst_47 : Ref sig .tc := ⟨.hbm, 295, rfl⟩
abbrev main_v192 : Ref sig .tc := ⟨.hbm, 296, rfl⟩
abbrev main_v193 : Ref sig .tc := ⟨.hbm, 297, rfl⟩
abbrev main_v194 : Ref sig .tc := ⟨.hbm, 298, rfl⟩
abbrev main_cst_48 : Ref sig .tc := ⟨.hbm, 299, rfl⟩
abbrev main_v195 : Ref sig .tc := ⟨.hbm, 300, rfl⟩
abbrev main_v196 : Ref sig .tc := ⟨.hbm, 301, rfl⟩
abbrev main_v197 : Ref sig .tc := ⟨.hbm, 302, rfl⟩
abbrev main_v198 : Ref sig .tc := ⟨.hbm, 303, rfl⟩
abbrev main_v199 : Ref sig .tc := ⟨.hbm, 304, rfl⟩
abbrev main_v200 : Ref sig .tc := ⟨.hbm, 305, rfl⟩
abbrev main_cst_49 : Ref sig .tc := ⟨.hbm, 306, rfl⟩
abbrev main_v201 : Ref sig .tc := ⟨.hbm, 307, rfl⟩
abbrev main_v202 : Ref sig .tc := ⟨.hbm, 308, rfl⟩
abbrev main_cst_50 : Ref sig .tc := ⟨.hbm, 309, rfl⟩
abbrev main_v203 : Ref sig .tc := ⟨.hbm, 310, rfl⟩
abbrev main_v204 : Ref sig .tc := ⟨.hbm, 311, rfl⟩
abbrev main_v205 : Ref sig .tc := ⟨.hbm, 312, rfl⟩
abbrev main_v206 : Ref sig .tc := ⟨.hbm, 313, rfl⟩
abbrev main_cst_51 : Ref sig .tc := ⟨.hbm, 314, rfl⟩
abbrev main_v207 : Ref sig .tc := ⟨.hbm, 315, rfl⟩
abbrev main_v208 : Ref sig .tc := ⟨.hbm, 316, rfl⟩
abbrev main_v209 : Ref sig .tc := ⟨.hbm, 317, rfl⟩
abbrev main_v210 : Ref sig .tc := ⟨.hbm, 318, rfl⟩
abbrev main_v211 : Ref sig .tc := ⟨.hbm, 319, rfl⟩
abbrev main_v212 : Ref sig .tc := ⟨.hbm, 320, rfl⟩
abbrev main_v213 : Ref sig .tc := ⟨.hbm, 321, rfl⟩
abbrev main_call8_v0 : Ref sig .tc := ⟨.hbm, 322, rfl⟩
abbrev main_call8_cst : Ref sig .tc := ⟨.hbm, 323, rfl⟩
abbrev main_call8_c : Ref sig .tc := ⟨.hbm, 324, rfl⟩
abbrev main_call8_v1_0 : Ref sig .tc := ⟨.hbm, 325, rfl⟩
abbrev main_v214 : Ref sig .tc := ⟨.hbm, 326, rfl⟩
abbrev main_cst_52 : Ref sig .tc := ⟨.hbm, 327, rfl⟩
abbrev main_v215 : Ref sig .tc := ⟨.hbm, 328, rfl⟩
abbrev main_v216 : Ref sig .tc := ⟨.hbm, 329, rfl⟩
abbrev main_v217 : Ref sig .tc := ⟨.hbm, 330, rfl⟩
abbrev main_cst_53 : Ref sig .tc := ⟨.hbm, 331, rfl⟩
abbrev main_v218 : Ref sig .tc := ⟨.hbm, 332, rfl⟩
abbrev main_cst_54 : Ref sig .tc := ⟨.hbm, 333, rfl⟩
abbrev main_v219 : Ref sig .tc := ⟨.hbm, 334, rfl⟩
abbrev main_v220 : Ref sig .tc := ⟨.hbm, 335, rfl⟩
abbrev main_v221 : Ref sig .tc := ⟨.hbm, 336, rfl⟩
abbrev main_cst_55 : Ref sig .tc := ⟨.hbm, 337, rfl⟩
abbrev main_v222 : Ref sig .tc := ⟨.hbm, 338, rfl⟩
abbrev main_v223 : Ref sig .tc := ⟨.hbm, 339, rfl⟩
abbrev main_v224 : Ref sig .tc := ⟨.hbm, 340, rfl⟩
abbrev main_v225 : Ref sig .tc := ⟨.hbm, 341, rfl⟩
abbrev main_v226 : Ref sig .tc := ⟨.hbm, 342, rfl⟩
abbrev main_v227 : Ref sig .tc := ⟨.hbm, 343, rfl⟩
abbrev main_cst_56 : Ref sig .tc := ⟨.hbm, 344, rfl⟩
abbrev main_v228 : Ref sig .tc := ⟨.hbm, 345, rfl⟩
abbrev main_v229 : Ref sig .tc := ⟨.hbm, 346, rfl⟩
abbrev main_cst_57 : Ref sig .tc := ⟨.hbm, 347, rfl⟩
abbrev main_v230 : Ref sig .tc := ⟨.hbm, 348, rfl⟩
abbrev main_v231 : Ref sig .tc := ⟨.hbm, 349, rfl⟩
abbrev main_v232 : Ref sig .tc := ⟨.hbm, 350, rfl⟩
abbrev main_v233 : Ref sig .tc := ⟨.hbm, 351, rfl⟩
abbrev main_cst_58 : Ref sig .tc := ⟨.hbm, 352, rfl⟩
abbrev main_v234 : Ref sig .tc := ⟨.hbm, 353, rfl⟩
abbrev main_v235 : Ref sig .tc := ⟨.hbm, 354, rfl⟩
abbrev main_v236 : Ref sig .tc := ⟨.hbm, 355, rfl⟩
abbrev main_v237 : Ref sig .tc := ⟨.hbm, 356, rfl⟩
abbrev main_v238 : Ref sig .tc := ⟨.hbm, 357, rfl⟩
abbrev main_v239 : Ref sig .tc := ⟨.hbm, 358, rfl⟩
abbrev main_v240 : Ref sig .tc := ⟨.hbm, 359, rfl⟩
abbrev main_call9_v0 : Ref sig .tc := ⟨.hbm, 360, rfl⟩
abbrev main_call9_cst : Ref sig .tc := ⟨.hbm, 361, rfl⟩
abbrev main_call9_c : Ref sig .tc := ⟨.hbm, 362, rfl⟩
abbrev main_call9_v1_0 : Ref sig .tc := ⟨.hbm, 363, rfl⟩
abbrev main_v241 : Ref sig .tc := ⟨.hbm, 364, rfl⟩
abbrev main_cst_59 : Ref sig .tc := ⟨.hbm, 365, rfl⟩
abbrev main_v242 : Ref sig .tc := ⟨.hbm, 366, rfl⟩
abbrev main_v243 : Ref sig .tc := ⟨.hbm, 367, rfl⟩
abbrev main_v244 : Ref sig .tc := ⟨.hbm, 368, rfl⟩
abbrev main_cst_60 : Ref sig .tc := ⟨.hbm, 369, rfl⟩
abbrev main_v245 : Ref sig .tc := ⟨.hbm, 370, rfl⟩
abbrev main_cst_61 : Ref sig .tc := ⟨.hbm, 371, rfl⟩
abbrev main_v246 : Ref sig .tc := ⟨.hbm, 372, rfl⟩
abbrev main_v247 : Ref sig .tc := ⟨.hbm, 373, rfl⟩
abbrev main_v248 : Ref sig .tc := ⟨.hbm, 374, rfl⟩
abbrev main_cst_62 : Ref sig .tc := ⟨.hbm, 375, rfl⟩
abbrev main_v249 : Ref sig .tc := ⟨.hbm, 376, rfl⟩
abbrev main_v250 : Ref sig .tc := ⟨.hbm, 377, rfl⟩
abbrev main_v251 : Ref sig .tc := ⟨.hbm, 378, rfl⟩
abbrev main_v252 : Ref sig .tc := ⟨.hbm, 379, rfl⟩
abbrev main_v253 : Ref sig .tc := ⟨.hbm, 380, rfl⟩
abbrev main_v254 : Ref sig .tc := ⟨.hbm, 381, rfl⟩
abbrev main_cst_63 : Ref sig .tc := ⟨.hbm, 382, rfl⟩
abbrev main_v255 : Ref sig .tc := ⟨.hbm, 383, rfl⟩
abbrev main_v256 : Ref sig .tc := ⟨.hbm, 384, rfl⟩
abbrev main_cst_64 : Ref sig .tc := ⟨.hbm, 385, rfl⟩
abbrev main_v257 : Ref sig .tc := ⟨.hbm, 386, rfl⟩
abbrev main_v258 : Ref sig .tc := ⟨.hbm, 387, rfl⟩
abbrev main_v259 : Ref sig .tc := ⟨.hbm, 388, rfl⟩
abbrev main_v260 : Ref sig .tc := ⟨.hbm, 389, rfl⟩
abbrev main_cst_65 : Ref sig .tc := ⟨.hbm, 390, rfl⟩
abbrev main_v261 : Ref sig .tc := ⟨.hbm, 391, rfl⟩
abbrev main_v262 : Ref sig .tc := ⟨.hbm, 392, rfl⟩
abbrev main_v263 : Ref sig .tc := ⟨.hbm, 393, rfl⟩
abbrev main_v264 : Ref sig .tc := ⟨.hbm, 394, rfl⟩
abbrev main_v265 : Ref sig .tc := ⟨.hbm, 395, rfl⟩
abbrev main_v266 : Ref sig .tc := ⟨.hbm, 396, rfl⟩
abbrev main_v267 : Ref sig .tc := ⟨.hbm, 397, rfl⟩
abbrev main_call10_v0 : Ref sig .tc := ⟨.hbm, 398, rfl⟩
abbrev main_call10_cst : Ref sig .tc := ⟨.hbm, 399, rfl⟩
abbrev main_call10_c : Ref sig .tc := ⟨.hbm, 400, rfl⟩
abbrev main_call10_v1_0 : Ref sig .tc := ⟨.hbm, 401, rfl⟩
abbrev main_v268 : Ref sig .tc := ⟨.hbm, 402, rfl⟩
abbrev main_cst_66 : Ref sig .tc := ⟨.hbm, 403, rfl⟩
abbrev main_v269 : Ref sig .tc := ⟨.hbm, 404, rfl⟩
abbrev main_v270 : Ref sig .tc := ⟨.hbm, 405, rfl⟩
abbrev main_v271 : Ref sig .tc := ⟨.hbm, 406, rfl⟩
abbrev main_cst_67 : Ref sig .tc := ⟨.hbm, 407, rfl⟩
abbrev main_v272 : Ref sig .tc := ⟨.hbm, 408, rfl⟩
abbrev main_cst_68 : Ref sig .tc := ⟨.hbm, 409, rfl⟩
abbrev main_v273 : Ref sig .tc := ⟨.hbm, 410, rfl⟩
abbrev main_v274 : Ref sig .tc := ⟨.hbm, 411, rfl⟩
abbrev main_v275 : Ref sig .tc := ⟨.hbm, 412, rfl⟩
abbrev main_cst_69 : Ref sig .tc := ⟨.hbm, 413, rfl⟩
abbrev main_v276 : Ref sig .tc := ⟨.hbm, 414, rfl⟩
abbrev main_v277 : Ref sig .tc := ⟨.hbm, 415, rfl⟩
abbrev main_v278 : Ref sig .tc := ⟨.hbm, 416, rfl⟩
abbrev main_v279 : Ref sig .tc := ⟨.hbm, 417, rfl⟩
abbrev main_v280 : Ref sig .tc := ⟨.hbm, 418, rfl⟩
abbrev main_cst_70 : Ref sig .tc := ⟨.hbm, 419, rfl⟩
abbrev main_v281 : Ref sig .tc := ⟨.hbm, 420, rfl⟩
abbrev main_v282 : Ref sig .tc := ⟨.hbm, 421, rfl⟩
abbrev main_c_71 : Ref sig .tc := ⟨.hbm, 422, rfl⟩
abbrev main_v283 : Ref sig .tc := ⟨.hbm, 423, rfl⟩
abbrev main_v284 : Ref sig .tc := ⟨.hbm, 424, rfl⟩
abbrev main_c_72 : Ref sig .tc := ⟨.hbm, 425, rfl⟩
abbrev main_v285 : Ref sig .tc := ⟨.hbm, 426, rfl⟩
abbrev main_v286 : Ref sig .tc := ⟨.hbm, 427, rfl⟩
abbrev main_v287 : Ref sig .tc := ⟨.hbm, 428, rfl⟩
abbrev main_c_73 : Ref sig .tc := ⟨.hbm, 429, rfl⟩
abbrev main_v288 : Ref sig .tc := ⟨.hbm, 430, rfl⟩
abbrev main_v289 : Ref sig .tc := ⟨.hbm, 431, rfl⟩
abbrev main_c_74 : Ref sig .tc := ⟨.hbm, 432, rfl⟩
abbrev main_v290 : Ref sig .tc := ⟨.hbm, 433, rfl⟩
abbrev main_v291 : Ref sig .tc := ⟨.hbm, 434, rfl⟩
abbrev main_v292 : Ref sig .tc := ⟨.hbm, 435, rfl⟩
abbrev main_v293 : Ref sig .tc := ⟨.hbm, 436, rfl⟩
abbrev main_v294 : Ref sig .tc := ⟨.hbm, 437, rfl⟩
abbrev main_v295 : Ref sig .tc := ⟨.hbm, 438, rfl⟩
abbrev main_cst_75 : Ref sig .tc := ⟨.hbm, 439, rfl⟩
abbrev main_v296 : Ref sig .tc := ⟨.hbm, 440, rfl⟩
abbrev main_v297 : Ref sig .tc := ⟨.hbm, 441, rfl⟩

abbrev nD : Nat := 1
abbrev τ : Topo := Topo.v7x

variable {F : FTy → Type} [FloatOps F]
-- ==== Proof.Region.lean ====
/- Running @main as a list of steps, host stretches and kernel regions, from any contents of the buffers: the contents a
   list of steps may end at, and the run that ends at one of them. -/
module

public import proofs.«01_k».proof.Proof.Gen.KernelIdeal.Launch
public import Idealize.ShloMosaic.Lib.Pipeline.FrameBody
public import Idealize.ShloMosaic.Lib.Pipeline.RegionsLoop
public import Idealize.ShloMosaic.Lib.Pipeline.FrameSuffix

@[expose] public section

set_option maxRecDepth 16384

noncomputable section

namespace Cert.KernelIdeal.Km

open Cert.KernelIdeal.Gen
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Two copies of the pipelines' ghost state: the launch's and the regions'. -/
abbrev UU : Type := UR sig nD τ × UR sig nD τ

local notation "𝕄" => MT nD τ sig Unit (Elt F) ℕ UU ℕ

/-- No pipeline has a prefetched table. -/
abbrev adm : (p : Fin 12) → (pcfgs (F := F) p).Adm := fun p => (cfgs p).toPCfg_adm
/-- The pipelines, as the launch reads them. -/
abbrev pn (p : Fin 12) : Pipeline.Cfg sig Λ₀ := Pipeline.pin (pcfgs (F := F)) adm p
abbrev 𝒱₀ : Variants := Variants.none
/-- No core owes another anything: no level is assigned. -/
abbrev L : GSem nD τ sig → Finset Unit := fun _ => ∅
abbrev lv : GSem nD τ sig → Unit → ℕ := fun _ _ => 0
/-- The regions' copy of the ghost state. -/
abbrev emb : Emb (UR sig nD τ) 𝕄 := embR
/-- What a core holds beside its buffers: its generator register and its empty debts. -/
abbrev R (c : Dev nD) : sProp 𝕄 := iprop((∃ r, prngReg c r) ∗ ∃ W, owes (c : Thread nD τ) (0 : CellTallies nD τ sig Unit) W)

/-- What is known of one kernel region, from any contents of the buffers at its entry. -/
structure Region (p : Fin 12) where
  /-- How the windows lie. -/
  facts : Pipeline.LaunchFacts (nD := nD) (τ := τ) cfgs p
  /-- The proof data from the contents `V`, -/
  rdat : Valuation τ sig (Elt F) → (c : Dev nD) → Pipeline.RDat τ (Elt F) Unit ℕ UU ℕ (pn (F := F) p) c
  /-- whose arrays are read off `V`, -/
  hA : ∀ V c w, (rdat V c).A w = V (Proc.devRef .tc (Pipeline.arrRef (pn (F := F) p).spec w))
  /-- whose invariant is the plain one, -/
  hΦ : ∀ V c t, (rdat V c).Φ t = Pipeline.ΦA (pn (F := F) p).spec c
  /-- which holds its arrays whole, -/
  hq : ∀ V c w, (rdat V c).share w = fullShare
  /-- which owes nothing -/
  howed : ∀ V c t, (rdat V c).owed t = 0
  /-- and bounds no wait. -/
  hrec : ∀ V c t, (rdat V c).recorded t = Set.univ
  /-- The body keeps to it. -/
  hbody : ∀ V c, (rdat V c).BodyObligation (defs₀ (F := F)) 𝒱₀ () Set.univ

/-- One step of @main. -/
inductive Step
  /-- a stretch of host operations -/
  | host (ops : List (HloOp τ sig (Elt F))) (sub : ops.Forall fun op => op.bufs ⊆ StableHlo.tcRefs τ sig)
      (fresh : ops.Forall fun op => op.fresh = ∅)
  /-- a kernel region -/
  | region (p : Fin 12) (D : Region (F := F) p)

/-- A step's program. -/
def Step.prog : Step (F := F) → Prog (TpuEff nD τ sig (Elt F) (Pipeline.Sig Λ₀ (Fin 12) fun p => (pcfgs (F := F) p).Adm) .tc) PUnit
  | .host ops _ _ => StableHlo.seq ops
  | .region p _ => Prog.lift (.customCall (Pipeline.entry p) ())

/-- The regions of a list of steps. -/
def pipes : List (Step (F := F)) → List (Fin 12)
  | [] => []
  | .host .. :: l => pipes l
  | .region p _ :: l => p :: pipes l

/-- The contents a list of steps may end at, from the contents `V`: a host stretch computes them, a region leaves its
    arrays at contents its data allows and everything else alone. -/
def Reaches (c : Dev nD) : List (Step (F := F)) → Valuation τ sig (Elt F) → Valuation τ sig (Elt F) → Prop
  | [], V, V' => V = V'
  | .host ops _ _ :: l, V, V' => Reaches c l (StableHlo.after ops V) V'
  | .region p D :: l, V, V' => ∃ G, (∀ w, (D.rdat V c).ArrAt w (pn (F := F) p).N (G w))
      ∧ Reaches c l (Pipeline.withArrays (pn (F := F) p).spec c V G) V'

/-- A region's debts are none, whatever its waits recorded. -/
theorem owesAt_eq {p : Fin 12} (D : Region (F := F) p) (V : Valuation τ sig (Elt F)) (c : Dev nD) (t) :
    ((D.rdat V c).owesAt () t : sProp 𝕄) ⊣⊢ iprop(∃ W, owes (c : Thread nD τ) (0 : CellTallies nD τ sig Unit) W) := by
  constructor
  · unfold Pipeline.RDat.owesAt Pipeline.owesWithin
    rw [D.howed V c t]
    iintro ⟨%W, -, H⟩; iexists W; iexact H
  · unfold Pipeline.RDat.owesAt Pipeline.owesWithin
    rw [D.howed V c t]
    iintro ⟨%W, H⟩; iexists W; isplitr
    · ipureintro
      intro x _
      exact Or.inl (by rw [D.hrec V c t]; trivial)
    iexact H

set_option backward.isDefEq.respectTransparency.types false in
/-- A region, entered from the contents `V`, as the launch takes it. -/
def regionSeg {p : Fin 12} (D : Region (F := F) p) (V : Valuation τ sig (Elt F)) :
    Pipeline.RDat.RegionSeg (pcfgs (F := F)) adm (Pipeline.RDat.familyOf (pcfgs (F := F)) adm p (D.rdat V)) () defs₀ 𝒱₀ L lv p where
  win := D.facts.win.to₀
  block_pos := D.facts.block_pos
  stage_whole := D.facts.stage_whole
  K := PEmpty
  osem k := k.elim
  ho := Pipeline.OwnSemFacts.none _
  hbody c := by rw [Pipeline.RDat.familyOf_self]; exact D.hbody V c
  hwaits := Pipeline.RDat.hwaits_of_owed_zero _ _ _ _ L lv p fun c t => by rw [Pipeline.RDat.familyOf_self]; exact D.howed V c t
  pre c := iprop(StableHlo.held (c : Thread nD τ) (Pipeline.ucRefs τ sig) V ∗ R c)
  post c := iprop(∃ G, ⌜∀ w, (D.rdat V c).ArrAt w (pn (F := F) p).N (G w)⌝
    ∗ StableHlo.held (c : Thread nD τ) (Pipeline.ucRefs τ sig) (Pipeline.withArrays (pn (F := F) p).spec c V G) ∗ R c)
  X c := iprop(∃ r, prngReg c r)
  Y c := iprop(∃ r, prngReg c r)
  Z c := Pipeline.unscopedRest (Ix := Unit) (Name := ℕ) (U := UU) (Lvl := ℕ) (pn (F := F) p).spec c (fun b => V (Proc.devRef .tc b))
  hentry c := by
    have hsplit := Pipeline.RDat.arrays_of_unscopedBufs (p := p) (pcfgs (F := F)) adm
      (Pipeline.RDat.familyOf (pcfgs (F := F)) adm p (D.rdat V)) D.facts.win D.facts.arr_whole c
      (fun w => by rw [Pipeline.RDat.familyOf_self]; exact D.hq V c w) (fun b => V (Proc.devRef .tc b))
      (fun w => by rw [Pipeline.RDat.familyOf_self]; exact D.hA V c w)
    rw [Pipeline.RDat.familyOf_self] at hsplit ⊢
    rw [Pipeline.ownSems0_none]
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_eq D V c 0).2; iexact HO
    isplitl [Hp]; · iexact Hp
    iexact Hrest
  hin c := by
    rw [Pipeline.RDat.familyOf_self, D.hΦ]; unfold Pipeline.ΦA
    iintro ⟨Hp, -, Hr⟩
    isplitl [Hr]; · iexact Hr
    iexact Hp
  hout c := by
    rw [Pipeline.RDat.familyOf_self, Pipeline.ownSems0_none, D.hΦ]; unfold Pipeline.ΦA
    iintro ⟨Hr, Hp⟩
    isplitl [Hp]; · iexact Hp
    isplitr; · iempintro
    iexact Hr
  hexit c := by
    have harr := Pipeline.RDat.arraysAt_eq (p := p) (pcfgs (F := F)) adm
      (Pipeline.RDat.familyOf (pcfgs (F := F)) adm p (D.rdat V)) c D.facts.arr_whole
      (fun w => by rw [Pipeline.RDat.familyOf_self]; exact D.hq V c w) (pn (F := F) p).N
    rw [harr, Pipeline.RDat.familyOf_self]
    iintro ⟨Ha, HO, HY, Hrest⟩
    imodintro
    ihave Ha := (BI.bigSep_exists_pi Finset.univ _) $$ Ha
    icases Ha with ⟨%G, Ha⟩
    ihave Ha := (BI.bigSep_pure_sep Finset.univ _ _) $$ Ha
    icases Ha with ⟨%hG, Ha⟩
    have hw : ∀ w, Pipeline.withArrays (pn (F := F) p).spec c V G (Proc.devRef .tc (Pipeline.arrRef (pn (F := F) p).spec w)) = G w :=
      fun w => Pipeline.withArrays_arr _ D.facts.win.arr_inj c V G w
    iexists G
    isplitr; · ipureintro; exact fun w => hG w (Finset.mem_univ w)
    isplitl [Ha Hrest]
    · rw [← Pipeline.unscopedBufs_held, Pipeline.unscopedBufs_split (Pipeline.pin (pcfgs (F := F)) adm) p D.facts.win.arr_unscoped D.facts.win.arr_inj c]
      isplitl [Ha]
      · iapply (Entails.of_eq (bigSep_congr fun w _ => by rw [hw w])); iexact Ha
      · unfold Pipeline.unscopedRest
        iapply (Entails.of_eq (bigSep_congr fun b hb => congrArg (fun x => ((c : Thread nD τ).loc b ↦{fullShare} x : sProp 𝕄))
          (Pipeline.withArrays_of_ne (pn (F := F) p).spec c V G b fun w e =>
            (Finset.mem_sdiff.mp hb).2 (Finset.mem_image.mpr ⟨w, Finset.mem_univ _, e⟩)).symm))
        iexact Hrest
    isplitl [HY]; · iexact HY
    iapply (owesAt_eq D V c _).1; iexact HO

/-- The ghost state of the regions `S`, on core `c`. -/
abbrev ghosts (S : Finset (Fin 12)) (c : Dev nD) : sProp 𝕄 := Pipeline.PerCore.ghostOn (pcfgs (F := F)) (fun _ => adm) emb S c

/-- A list of steps, each region in it at most once, runs from the contents `V` to contents it may end at. -/
theorem wp_steps (c : Dev nD) {β : Type} (k : PUnit → Prog (TpuEff nD τ sig (Elt F) (Pipeline.Sig Λ₀ (Fin 12) fun p => (pcfgs (F := F) p).Adm) .tc) β)
    (K : β → sProp 𝕄) : ∀ (l : List (Step (F := F))) (V : Valuation τ sig (Elt F)) (S : Finset (Fin 12)) (hnd : (pipes l).Nodup) (hS : ∀ p ∈ pipes l, p ∈ S),
    iprop((iprop(boundary (c : Thread nD τ) ∗ (∃ V', ⌜Reaches c l V V'⌝ ∗ StableHlo.held (c : Thread nD τ) (Pipeline.ucRefs τ sig) V') ∗ R c)
          -∗ wp frame (wpE (Pipeline.defs pcfgs defs₀) (Variants.lift 𝒱₀) (c : Thread nD τ) none) Set.univ (k ⟨⟩) K)
        ∗ boundary (c : Thread nD τ) ∗ (StableHlo.held (c : Thread nD τ) (Pipeline.ucRefs τ sig) V ∗ R c ∗ ghosts S c) ∗ levAts L lv)
      ⊢ wp frame (wpE (Pipeline.defs pcfgs defs₀) (Variants.lift 𝒱₀) (c : Thread nD τ) none) Set.univ
          (Pipeline.chain (l.map Step.prog) >>= k) K
  | [], V, S, _, _ => by
    rw [List.map_nil, Pipeline.chain_nil, pure_bind]
    iintro ⟨Hk, Hb, ⟨Hh, HR, -⟩, -⟩
    iapply Hk
    isplitl [Hb]; · iexact Hb
    isplitl [Hh]
    · iexists V; isplitr; · ipureintro; exact rfl
      iexact Hh
    iexact HR
  | .host ops sub fresh :: l, V, S, hnd, hS => by
    rw [List.map_cons, Pipeline.chain_cons, bind_assoc]
    have h := StableHlo.wp_seq (defs := Pipeline.defs pcfgs (defs₀ (F := F))) (Variants.lift 𝒱₀) none (E := Set.univ) c (Pipeline.ucRefs τ sig)
      (fun _ => Pipeline.chain (l.map Step.prog) >>= k) (K := K) ops
      (fun op h => Pipeline.sub_ucRefs op ((List.forall_iff_forall_mem.mp sub) op h)) (fun op h => (List.forall_iff_forall_mem.mp fresh) op h) V
    iintro ⟨Hk, Hb, ⟨Hh, HR, HG⟩, Hl⟩
    ihave H := h $$ [Hb Hh]
    · isplitl [Hb] <;> iassumption
    iapply H
    iintro ⟨Hb, Hh⟩
    iapply (wp_steps c k K l (StableHlo.after ops V) S hnd hS)
    isplitl [Hk]; · iexact Hk
    isplitl [Hb]; · iexact Hb
    isplitr [Hl]
    · isplitl [Hh]; · iexact Hh
      isplitl [HR] <;> iassumption
    iexact Hl
  | .region p D :: l, V, S, hnd, hS => by
    have hp : p ∈ S := hS p List.mem_cons_self
    have hS' : ∀ q ∈ pipes l, q ∈ S.erase p := fun q hq =>
      Finset.mem_erase.mpr ⟨fun e => (List.nodup_cons.mp hnd).1 (e ▸ hq), hS q (List.mem_cons_of_mem _ hq)⟩
    have ih := fun V' => wp_steps c k K l V' (S.erase p) (List.nodup_cons.mp hnd).2 hS'
    rw [List.map_cons, Pipeline.chain_cons, bind_assoc]
    rw [show ghosts S c = _ from Pipeline.PerCore.ghostOn_erase (pcfgs (F := F)) (fun _ => adm) emb hp c]
    have h := Pipeline.RDat.RegionSeg.wp (pcfgs (F := F)) adm (Pipeline.RDat.familyOf (pcfgs (F := F)) adm p (D.rdat V)) () cellOf_inj emb
      defs₀ 𝒱₀ L lv (regionSeg D V) c none (fun u h => by cases h) (fun x => (fun _ => Pipeline.chain (l.map Step.prog)) x >>= k) K
    rw [show (regionSeg D V).pre c = iprop(StableHlo.held (c : Thread nD τ) (Pipeline.ucRefs τ sig) V ∗ R c) from rfl,
      show (regionSeg D V).post c = iprop(∃ G, ⌜∀ w, (D.rdat V c).ArrAt w (pn (F := F) p).N (G w)⌝
        ∗ StableHlo.held (c : Thread nD τ) (Pipeline.ucRefs τ sig) (Pipeline.withArrays (pn (F := F) p).spec c V G) ∗ R c) from rfl] at h
    iintro ⟨Hk, Hb, ⟨Hh, HR, ⟨Hc, Ht⟩, HG⟩, #Hl⟩
    iapply h
    isplitr [Hb Hh HR Hc Ht]
    swap
    · isplitl [Hb]; · iexact Hb
      isplitl [Hh HR]
      · isplitl [Hh] <;> iassumption
      isplitr; · iexact Hl
      isplitl [Hc] <;> iassumption
    iintro ⟨Hb, %G, %hG, Hh, HR⟩
    iapply (ih (Pipeline.withArrays (pn (F := F) p).spec c V G))
    isplitl [Hk]
    · iintro ⟨Hb, ⟨%V', %hV', Hh⟩, HR⟩
      iapply Hk
      isplitl [Hb]; · iexact Hb
      isplitl [Hh]
      · iexists V'; isplitr; · ipureintro; exact ⟨G, hG, hV'⟩
        iexact Hh
      iexact HR
    isplitl [Hb]; · iexact Hb
    isplitr []
    · isplitl [Hh]; · iexact Hh
      isplitl [HR] <;> iassumption
    iexact Hl

end Cert.KernelIdeal.Km

end
-- ==== Proof.Assign.lean ====
/- The assignment kernel's body as a triple: the labels of every row and the count of every cluster. -/
module

public import proofs.«01_k».proof.Proof.Gen.KernelIdeal.Loops
public import Idealize.ShloMosaic.Lib.Pipeline.FrameBody
public import Idealize.ShloMosaic.Lib.Pipeline.Value
public import Idealize.ShloMosaic.Lib.Tactic
public import Idealize.ShloMosaic.Lib.Ring

@[expose] public section

set_option maxRecDepth 16384

noncomputable section

namespace Cert.KernelIdeal.Km

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ × UR sig nD τ) ℕ

/-- Tile `k` of the transformed rows: rows `6400 k … 6400 k + 6399`. -/
abbrev tile (t : Vec F S102400x64 .f32) (k : Fin k1_t1_loop.trips) : Vec F S6400x64 .f32 :=
  View.ld t (Rect.unit (s := S102400x64) (k1_off1 k) S6400x64.size (k1_off1_inb k))

/-- One tile's indicator matrix: row `r`, column `j` is one when row `r` is a real row labelled `j`. -/
abbrev tileInd (t : Vec F S102400x64 .f32) (ce : Vec F S64x64 .f32) (k : Fin k1_t1_loop.trips) : FVec F S6400x64 .f32 :=
  k1_pay6 (k1_pay2 ce) (k1_pay3 ce) 0#32 1#32 k (tile t k)

/-- One tile's labels, as the kernel stores them. -/
abbrev tileLab (t : Vec F S102400x64 .f32) (ce : Vec F S64x64 .f32) (k : Fin k1_t1_loop.trips) : IVec S1x1x6400 32 :=
  k1_pay7 k1_pay1 (k1_pay2 ce) (k1_pay3 ce) 0#32 1#32 k (tile t k)

/-- The counts after the first `n` tiles, from the counts `init`. -/
def cntFrom (t : Vec F S102400x64 .f32) (ce : Vec F S64x64 .f32) (init : FVec F S64x1 .f32) : ℕ → FVec F S64x1 .f32
  | 0 => init
  | n + 1 => if h : n < k1_t1_loop.trips then
      k1_pay5 (cntFrom t ce init n) (tileInd t ce ⟨n, h⟩) (constant S64x1 .f32 0x00000000#32)
    else cntFrom t ce init n

/-- The stores of the first `n` tiles' labels, last first. -/
def labAfter (t : Vec F S102400x64 .f32) (ce : Vec F S64x64 .f32) : ℕ → List (View.Piece (Elt F) S16x1x6400 .i32)
  | 0 => []
  | n + 1 => if h : n < k1_t1_loop.trips then
      ⟨Rect.unit (s := S16x1x6400) (k1_off2 ⟨n, h⟩) S1x1x6400.size (k1_off2_inb ⟨n, h⟩), tileLab t ce ⟨n, h⟩⟩ :: labAfter t ce n
    else labAfter t ce n

variable (𝒱 : Variants) (c : Dev nD) (bd : Option 𝒱.V)
  (arg0 : Memref sig .tc .vmem S102400x64 .f32) (harg0 : arg0.IsWhole)
  (arg1 : Memref sig .tc .vmem S64x64 .f32) (harg1 : arg1.IsWhole)
  (arg2 : Memref sig .tc .vmem S16x1x6400 .i32) (harg2 : arg2.IsWhole)
  (arg3 : Memref sig .tc .vmem S64x1 .f32) (harg3 : arg3.IsWhole)

/-- One trip's piece: the tile's labels at its slab. -/
abbrev labPiece (t : Vec F S102400x64 .f32) (ce : Vec F S64x64 .f32) (k : Fin k1_t1_loop.trips) : View.Piece (Elt F) S16x1x6400 .i32 :=
  ⟨Rect.unit (s := S16x1x6400) (k1_off2 k) S1x1x6400.size (k1_off2_inb k), tileLab t ce k⟩

set_option maxHeartbeats 1000000 in
/-- One trip of the loop: it adds the tile's counts and stores the tile's labels. -/
theorem trip_run (ce : Vec F S64x64 .f32) (X : BufTy.Contents (Elt F) arg0.view.ty) (k : Fin k1_t1_loop.trips)
    (E : Set ℕ) (acc : FVec F S64x1 .f32) (f : BufTy.Contents (Elt F) arg2.view.ty) :
    (iprop((arg0.view.loc (c : Thread nD τ) ↦[arg0.view.set]{fullShare} X) ∗ (arg2.view.loc (c : Thread nD τ) ↦[arg2.view.set]{fullShare} f)) : sProp 𝕄)
      ⊢ wp frame (wpE (defs₀ (F := F)) 𝒱 (c : Thread nD τ) bd) E (k1_t1_body (F := F) arg0 harg0 arg1 harg1 arg2 harg2 arg3 harg3 ce k acc)
          (fun yld => iprop(⌜yld = k1_pay5 acc (tileInd (arg0.view.read (Elt F) X) ce k) (constant S64x1 .f32 0x00000000#32)⌝
            ∗ (arg0.view.loc (c : Thread nD τ) ↦[arg0.view.set]{fullShare} X)
            ∗ (arg2.view.loc (c : Thread nD τ) ↦[arg2.view.set]{fullShare} arg2.view.writes (Elt F) f [labPiece (arg0.view.read (Elt F) X) ce k]))) := by
  have hk : k.val < 16 := Nat.lt_of_lt_of_le k.isLt k1_t1_abs.2.1
  unfold k1_t1_body
  iintro ⟨H0, H2⟩
  sl_exec
  sl_step
  isplitr; · ipureintro; rfl
  isplitl [H0]; · iexact H0
  iexact H2

set_option warn.classDefReducibility false in
/-- The loop by its invariant: before trip `k` the counts and the stored labels are those of the first `k` tiles. -/
@[sl_loop] def loopInv (E : Set ℕ) (ce : Vec F S64x64 .f32) (X : BufTy.Contents (Elt F) arg0.view.ty)
    (G : BufTy.Contents (Elt F) arg2.view.ty) (init : FVec F S64x1 .f32) :
    LoopInvTy_k1_t1 (F := F) Unit ℕ (UR sig nD τ × UR sig nD τ) ℕ 𝒱 c bd E arg0 harg0 arg1 harg1 arg2 harg2 arg3 harg3 ce init where
  inv k acc := iprop((arg0.view.loc (c : Thread nD τ) ↦[arg0.view.set]{fullShare} X)
    ∗ (∃ f, (arg2.view.loc (c : Thread nD τ) ↦[arg2.view.set]{fullShare} f) ∗ ⌜f = arg2.view.writes (Elt F) G (labAfter (arg0.view.read (Elt F) X) ce k)⌝)
    ∗ ⌜acc = cntFrom (arg0.view.read (Elt F) X) ce init k⌝)
  step k acc := by
    iintro ⟨H0, ⟨%f, H2, %hf⟩, %hacc⟩
    subst hacc
    iapply (wp_wand_r Idealize.ShloMosaic.frame (wpE (defs₀ (F := F)) 𝒱 (c : Thread nD τ) bd) E)
    isplitl [H0 H2]
    · iapply (trip_run 𝒱 c bd arg0 harg0 arg1 harg1 arg2 harg2 arg3 harg3 ce X k E _ f)
      isplitl [H0]; · iexact H0
      iexact H2
    · iintro %yld ⟨%hy, H0, H2⟩
      isplitl [H0]; · iexact H0
      isplitl [H2]
      · iexists _; isplitl [H2]; · iexact H2
        ipureintro
        rw [hf, labAfter, dif_pos k.isLt, ← View.writes_append]
        rfl
      ipureintro
      rw [hy, cntFrom, dif_pos k.isLt]

/-- The sixteen stores of labels tile the label array. -/
theorem lab_cover (t : Vec F S102400x64 .f32) (ce : Vec F S64x64 .f32) (y : S16x1x6400.Idx) :
    ∃ pc ∈ labAfter t ce k1_t1_loop.trips, y ∈ pc.1.set :=
  View.cover_of_tiledL (labAfter t ce k1_t1_loop.trips) S1x1x6400.size (by sl_kernel_rfl) y

/-- The labels of every row, tile by tile. -/
def labels (t : Vec F S102400x64 .f32) (ce : Vec F S64x64 .f32) : Vec F S16x1x6400 .i32 :=
  View.canon (labAfter t ce k1_t1_loop.trips)

/-- The count of every cluster. -/
def counts (t : Vec F S102400x64 .f32) (ce : Vec F S64x64 .f32) : Vec F S64x1 .f32 :=
  cntFrom t ce k1_pay4 k1_t1_loop.trips

set_option maxHeartbeats 1000000 in
/-- The assignment body, on whole buffers, leaves the labels and the counts of its two inputs. -/
theorem assign_triple (E : Set ℕ) (t : Vec F S102400x64 .f32) (ce : Vec F S64x64 .f32) (K : PUnit → sProp 𝕄) :
    iprop(owns (c : Thread nD τ) arg0 fullShare t ∗ owns (c : Thread nD τ) arg1 fullShare ce ∗ (∃ d, owns (c : Thread nD τ) arg2 fullShare d) ∗ (∃ d, owns (c : Thread nD τ) arg3 fullShare d)
        ∗ (iprop(owns (c : Thread nD τ) arg0 fullShare t ∗ owns (c : Thread nD τ) arg1 fullShare ce ∗ owns (c : Thread nD τ) arg2 fullShare (labels t ce) ∗ owns (c : Thread nD τ) arg3 fullShare (counts t ce)) -∗ K ⟨⟩))
      ⊢ wp frame (wpE (defs₀ (F := F)) Variants.none c none) E (cc1__assign_body arg0 harg0 arg1 harg1 arg2 harg2 arg3 harg3) K := by
  simp only [cc1__assign_body_eq_skeleton]; unfold cc1__assign_body_skel
  unfold owns
  iintro ⟨⟨%f0, %hf0, H0⟩, ⟨%f1, %hf1, H1⟩, ⟨%d2, %f2, -, H2⟩, ⟨%d3, %f3, -, H3⟩, Hk⟩
  obtain rfl := hf0; obtain rfl := hf1
  sl_exec
  sl_step
  have h1 : View.readAt (Elt F) arg1.view (Rect.unit ![0, 0] S64x64.size inb_S64x64_S64x64_0_0).toLoadRect f1 = arg1.view.read (Elt F) f1 :=
    View.ld_unit_zero (funext fun a => by fin_cases a <;> rfl) _ _
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (congrArg (fun ce => View.read (Elt F) arg2.view (arg2.view.writes (Elt F) f2 (labAfter (arg0.view.read (Elt F) f0) ce k1_t1_loop.trips))) h1).trans ?_
    exact View.read_writes_eq_canon _ _ _ (lab_cover _ _)
  · iexists _; isplitr
    swap; · iexact H3
    ipureintro
    refine (congrArg (fun ce => View.read (Elt F) arg3.view (arg3.view.writes (Elt F) f3 [⟨Rect.unit ![0, 0] S64x1.size inb_S64x1_S64x1_0_0, cntFrom (arg0.view.read (Elt F) f0) ce k1_pay4 k1_t1_loop.trips⟩])) h1).trans ?_
    refine (View.read_writes_eq_canon _ _ _ fun y => View.cover_of_tiled [⟨_, _⟩] S64x1.size (by rfl) y).trans ?_
    exact View.canon_unit_zero (funext fun a => by fin_cases a <;> rfl) _ _

end Cert.KernelIdeal.Km

end
-- ==== Proof.Body.lean ====
/- A region from its body's run: what the body leaves in every buffer, a function of what its input buffers hold. -/
module

public import proofs.«01_k».proof.Proof.Region
public import proofs.«01_k».proof.Proof.Assign
public import proofs.«01_k».proof.Proof.Gen.KernelIdeal.Points

@[expose] public section

set_option maxRecDepth 16384

noncomputable section

namespace Cert.KernelIdeal.Km

open Cert.KernelIdeal.Gen
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The contents of window `w`'s staging buffers, in region `p`. -/
abbrev St (p : Fin 12) (w : Fin (pn (F := F) p).W) : Type := ((pn (F := F) p).win w).block.Idx → Elt F ((pn (F := F) p).win w).elt

/-- What window `w`'s fetch at point `t` puts into a buffer that held `d`, from the contents `V`. -/
def fetchedAt {p : Fin 12} (V : Valuation τ sig (Elt F)) (w : Fin (pn (F := F) p).W) (t : Fin (pn (F := F) p).N) (d : St (F := F) p w) : St (F := F) p w :=
  ((pn (F := F) p).win w).fill ((pn (F := F) p).grid.coords t) d
    ((((pn (F := F) p).win w).blk t).view.read (Elt F) (V (Proc.devRef .tc (Pipeline.arrRef (pn (F := F) p).spec w))))

/-- The run of a region's body, at any point. -/
structure Body (p : Fin 12) where
  /-- How the windows lie. -/
  facts : Pipeline.LaunchFacts (nD := nD) (τ := τ) cfgs p
  /-- An input's cuts go by its block. -/
  clip : ∀ w, ((pn (F := F) p).win w).isOut = false → ∀ t t', ((pn (F := F) p).win w).index t = ((pn (F := F) p).win w).index t' →
    ((pn (F := F) p).win w).clip ((pn (F := F) p).grid.coords t) = ((pn (F := F) p).win w).clip ((pn (F := F) p).grid.coords t')
  /-- What the body leaves, from what it finds. -/
  out : (pn (F := F) p).grid.Coords → ((w : Fin (pn (F := F) p).W) → St (F := F) p w) → (w : Fin (pn (F := F) p).W) → St (F := F) p w
  /-- Inputs are left alone. -/
  keep : ∀ i Y w, ((pn (F := F) p).win w).isOut = false → out i Y w = Y w
  /-- The run. -/
  run : ∀ (c : Dev nD) (t : Fin (pn (F := F) p).N) (Y : (w : Fin (pn (F := F) p).W) → St (F := F) p w) (K : PUnit → sProp 𝕄),
    iprop((bigSep Finset.univ fun w => owns (c : Thread nD τ) (((pn (F := F) p).win w).stage ((pn (F := F) p).slots t w)) fullShare (Y w))
      ∗ ((bigSep Finset.univ fun w => owns (c : Thread nD τ) (((pn (F := F) p).win w).stage ((pn (F := F) p).slots t w)) fullShare
          (out ((pn (F := F) p).grid.coords t) Y w)) -∗ K ⟨⟩))
    ⊢ wp frame (wpE (defs₀ (F := F)) 𝒱₀ (c : Thread nD τ) none) Set.univ
        (defs₀ (F := F) .tc (pn (F := F) p).body ((pn (F := F) p).bodyArgs t ((pn (F := F) p).slots t))) K

/-- What the body may leave in window `w` at point `t`: an input as found, an output at the body's result from some contents
    that the inputs' fetches may have put there. -/
def Body.after {p : Fin 12} (B : Body (F := F) p) (V : Valuation τ sig (Elt F)) (w : Fin (pn (F := F) p).W) (t : Fin (pn (F := F) p).N)
    (Y X : St (F := F) p w) : Prop :=
  if ((pn (F := F) p).win w).isOut = false then X = Y
  else ∃ ys : (w : Fin (pn (F := F) p).W) → St (F := F) p w,
    (∀ w', ((pn (F := F) p).win w').isOut = false → ∃ d, ys w' = fetchedAt V w' t d) ∧ X = B.out ((pn (F := F) p).grid.coords t) ys w

/-- The region's proof data, from the contents `V`. -/
def Body.rdat {p : Fin 12} (B : Body (F := F) p) (V : Valuation τ sig (Elt F)) (c : Dev nD) :
    Pipeline.RDat τ (Elt F) Unit ℕ UU ℕ (pn (F := F) p) c where
  A w := V (Proc.devRef .tc (Pipeline.arrRef (pn (F := F) p).spec w))
  after := B.after V
  Φ _ := Pipeline.ΦA (pn (F := F) p).spec c
  q _ := fullShare
  owed _ := 0

/-- The body keeps to its data. -/
theorem Body.obligation {p : Fin 12} (B : Body (F := F) p) (V : Valuation τ sig (Elt F)) (c : Dev nD) :
    (B.rdat V c).BodyObligation (defs₀ (F := F)) 𝒱₀ () Set.univ := fun t Y hY => by
  have hin : ∀ w', ((pn (F := F) p).win w').isOut = false → ∃ d, Y w' = fetchedAt V w' t d := fun w' hw =>
    (B.rdat V c).finds_in_eq_fetched w' hw (B.clip w' hw)
      (fun t Y X (h : B.after V w' t Y X) => by unfold Body.after at h; rwa [if_pos hw] at h) t (Y w') (hY w')
  have hout : ∀ w, B.after V w t (Y w) (B.out ((pn (F := F) p).grid.coords t) Y w) := fun w => by
    unfold Body.after
    split
    · next h => exact B.keep _ _ _ h
    · exact ⟨Y, hin, rfl⟩
  have hX1 : ∀ w, (owns (c : Thread nD τ) (((pn (F := F) p).win w).stage ((pn (F := F) p).slots t w)) fullShare (B.out ((pn (F := F) p).grid.coords t) Y w) : sProp 𝕄)
      ⊢ iprop(∃ X, ⌜(B.rdat V c).after w t (Y w) X⌝ ∗ owns (c : Thread nD τ) (((pn (F := F) p).win w).stage ((pn (F := F) p).slots t w)) fullShare X) := fun w => by
    iintro H
    iexists (B.out ((pn (F := F) p).grid.coords t) Y w)
    isplitr; · ipureintro; exact hout w
    iexact H
  have hX : (bigSep Finset.univ fun w => owns (c : Thread nD τ) (((pn (F := F) p).win w).stage ((pn (F := F) p).slots t w)) fullShare
        (B.out ((pn (F := F) p).grid.coords t) Y w) : sProp 𝕄)
      ⊢ bigSep Finset.univ fun w => iprop(∃ X, ⌜(B.rdat V c).after w t (Y w) X⌝
        ∗ owns (c : Thread nD τ) (((pn (F := F) p).win w).stage ((pn (F := F) p).slots t w)) fullShare X) :=
    BI.bigSep_mono fun w _ => hX1 w
  rw [show (B.rdat V c).Φ t.succ = (B.rdat V c).Φ t.castSucc from rfl,
    show (B.rdat V c).owesAt () t.succ = (B.rdat V c).owesAt () t.castSucc from rfl]
  refine .trans ?_ (B.run c t Y _)
  iintro ⟨HΦ, Ho, HY⟩
  isplitl [HY]; · iexact HY
  iintro HX
  isplitl [HΦ]; · iexact HΦ
  isplitl [Ho]; · iexact Ho
  iapply hX
  iexact HX

/-- The region. -/
def Body.region {p : Fin 12} (B : Body (F := F) p) : Region (F := F) p where
  facts := B.facts
  rdat := B.rdat
  hA _ _ _ := rfl
  hΦ _ _ _ := rfl
  hq V c w := by unfold Pipeline.RDat.share; split <;> rfl
  howed _ _ _ := rfl
  hrec _ _ _ := rfl
  hbody := B.obligation

end Cert.KernelIdeal.Km

end
-- ==== Proof.Points.lean ====
/- The three kernels' bodies as regions. -/
module

public import proofs.«01_k».proof.Proof.Body

@[expose] public section

set_option maxRecDepth 16384

noncomputable section

namespace Cert.KernelIdeal.Km

open Cert.KernelIdeal.Gen
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The transform body leaves its payload of the three inputs in the output buffer. -/
theorem transform_triple (c : Dev nD) (i : grid0.Coords) (arg1 : Memref sig .tc .vmem S6400x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S6400x64 .f32) (harg4 : arg4.IsWhole) (E : Set ℕ)
    (x : Vec F S6400x64 .f32) (w : Vec F S64x64 .f32) (b : Vec F S1x64 .f32) (y : Vec F S6400x64 .f32) (K : PUnit → sProp 𝕄) :
    iprop((owns (c : Thread nD τ) arg1 fullShare x ∗ owns (c : Thread nD τ) arg2 fullShare w ∗ owns (c : Thread nD τ) arg3 fullShare b ∗ owns (c : Thread nD τ) arg4 fullShare y)
        ∗ (iprop(owns (c : Thread nD τ) arg1 fullShare x ∗ owns (c : Thread nD τ) arg2 fullShare w ∗ owns (c : Thread nD τ) arg3 fullShare b ∗ owns (c : Thread nD τ) arg4 fullShare (k0_pay1 i x w b)) -∗ K ⟨⟩))
      ⊢ wp frame (wpE (defs₀ (F := F)) Variants.none c none) E (cc0__transform_body i arg1 harg1 arg2 harg2 arg3 harg3 arg4 harg4) K := by
  simp only [cc0__transform_body_eq_skeleton]; unfold cc0__transform_body_skel
  unfold owns
  iintro ⟨⟨⟨%f0, %hf0, H0⟩, ⟨%f1, %hf1, H1⟩, ⟨%f2, %hf2, H2⟩, ⟨%f3, -, H3⟩⟩, Hk⟩
  obtain rfl := hf0; obtain rfl := hf1; obtain rfl := hf2
  sl_exec
  sl_step
  have h0 : View.readAt (Elt F) arg1.view (Rect.unit ![0, 0] S6400x64.size inb_S6400x64_S6400x64_0_0).toLoadRect f0 = arg1.view.read (Elt F) f0 :=
    View.ld_unit_zero (funext fun a => by fin_cases a <;> rfl) _ _
  have h1 : View.readAt (Elt F) arg2.view (Rect.unit ![0, 0] S64x64.size inb_S64x64_S64x64_0_0).toLoadRect f1 = arg2.view.read (Elt F) f1 :=
    View.ld_unit_zero (funext fun a => by fin_cases a <;> rfl) _ _
  have h2 : View.readAt (Elt F) arg3.view (Rect.unit ![0, 0] S1x64.size inb_S1x64_S1x64_0_0).toLoadRect f2 = arg3.view.read (Elt F) f2 :=
    View.ld_unit_zero (funext fun a => by fin_cases a <;> rfl) _ _
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  · iexists _; isplitr
    swap; · iexact H3
    ipureintro
    refine (View.read_writes_eq_canon _ _ _ fun y => View.cover_of_tiled [⟨_, _⟩] S6400x64.size (by rfl) y).trans ?_
    refine (View.canon_unit_zero (funext fun a => by fin_cases a <;> rfl) _ _).trans ?_
    rw [← h0, ← h1, ← h2]

/-- The one-hot body leaves its payload of the labels in the output buffer. -/
theorem onehot_triple (c : Dev nD) (i : grid11.Coords) (arg1 : Memref sig .tc .vmem S1x1x6400 .i32) (harg1 : arg1.IsWhole) (arg2 : Memref sig .tc .vmem S64x6400 .f32) (harg2 : arg2.IsWhole) (E : Set ℕ)
    (x : Vec F S1x1x6400 .i32) (y : Vec F S64x6400 .f32) (K : PUnit → sProp 𝕄) :
    iprop((owns (c : Thread nD τ) arg1 fullShare x ∗ owns (c : Thread nD τ) arg2 fullShare y)
        ∗ (iprop(owns (c : Thread nD τ) arg1 fullShare x ∗ owns (c : Thread nD τ) arg2 fullShare (k11_pay1 x)) -∗ K ⟨⟩))
      ⊢ wp frame (wpE (defs₀ (F := F)) Variants.none c none) E (cc11__onehot_body i arg1 harg1 arg2 harg2) K := by
  simp only [cc11__onehot_body_eq_skeleton]; unfold cc11__onehot_body_skel
  unfold owns
  iintro ⟨⟨⟨%f0, %hf0, H0⟩, ⟨%f1, -, H1⟩⟩, Hk⟩
  obtain rfl := hf0
  sl_exec
  sl_step
  have h0 : View.readAt (Elt F) arg1.view (Rect.unit ![0, 0, 0] S1x1x6400.size inb_S1x1x6400_S1x1x6400_0_0_0).toLoadRect f0 = arg1.view.read (Elt F) f0 :=
    View.ld_unit_zero (funext fun a => by fin_cases a <;> rfl) _ _
  iapply Hk
  isplitl [H0]
  · iexists f0; isplitr; · ipureintro; rfl
    iexact H0
  · iexists _; isplitr
    swap; · iexact H1
    ipureintro
    refine (View.read_writes_eq_canon _ _ _ fun y => View.cover_of_tiled [⟨_, _⟩] S64x6400.size (by rfl) y).trans ?_
    refine (View.canon_unit_zero (funext fun a => by fin_cases a <;> rfl) _ _).trans ?_
    rw [← h0]

/-- The assignment's triple over the four buffers at known contents. -/
theorem assign_triple' (c : Dev nD) (arg0 : Memref sig .tc .vmem S102400x64 .f32) (harg0 : arg0.IsWhole) (arg1 : Memref sig .tc .vmem S64x64 .f32) (harg1 : arg1.IsWhole)
    (arg2 : Memref sig .tc .vmem S16x1x6400 .i32) (harg2 : arg2.IsWhole) (arg3 : Memref sig .tc .vmem S64x1 .f32) (harg3 : arg3.IsWhole) (E : Set ℕ)
    (t : Vec F S102400x64 .f32) (ce : Vec F S64x64 .f32) (l : Vec F S16x1x6400 .i32) (n : Vec F S64x1 .f32) (K : PUnit → sProp 𝕄) :
    iprop((owns (c : Thread nD τ) arg0 fullShare t ∗ owns (c : Thread nD τ) arg1 fullShare ce ∗ owns (c : Thread nD τ) arg2 fullShare l ∗ owns (c : Thread nD τ) arg3 fullShare n)
        ∗ (iprop(owns (c : Thread nD τ) arg0 fullShare t ∗ owns (c : Thread nD τ) arg1 fullShare ce ∗ owns (c : Thread nD τ) arg2 fullShare (labels t ce) ∗ owns (c : Thread nD τ) arg3 fullShare (counts t ce)) -∗ K ⟨⟩))
      ⊢ wp frame (wpE (defs₀ (F := F)) Variants.none c none) E (cc1__assign_body arg0 harg0 arg1 harg1 arg2 harg2 arg3 harg3) K := by
  refine .trans ?_ (assign_triple c arg0 harg0 arg1 harg1 arg2 harg2 arg3 harg3 E t ce K)
  iintro ⟨⟨H0, H1, H2, H3⟩, Hk⟩
  isplitl [H0]; · iexact H0
  isplitl [H1]; · iexact H1
  isplitl [H2]; · iexists _; iexact H2
  isplitl [H3]; · iexists _; iexact H3
  iexact Hk

end Cert.KernelIdeal.Km

end
-- ==== Proof.Launch.lean ====
/- A launch of @main as a list of steps: every run ends, at contents the steps may end at, with every counter at zero. -/
module

public import proofs.«01_k».proof.Proof.Region

@[expose] public section

set_option maxRecDepth 16384

noncomputable section

namespace Cert.KernelIdeal.Km

open Cert.KernelIdeal.Gen
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The steps from the contents `V c` as one host fragment. -/
def stepsSeg (l : List (Step (F := F))) (hnd : (pipes l).Nodup) (V : Dev nD → Valuation τ sig (Elt F)) :
    Pipeline.HostSeg (Name := ℕ) (U := UU) (pcfgs (F := F)) defs₀ 𝒱₀ L lv where
  prog := Pipeline.chain (l.map Step.prog)
  pre c := iprop(StableHlo.held (c : Thread nD τ) (Pipeline.ucRefs τ sig) (V c) ∗ R c ∗ ghosts Finset.univ c)
  post c := iprop(((∃ V', ⌜Reaches c l (V c) V'⌝ ∗ StableHlo.held (c : Thread nD τ) (Pipeline.ucRefs τ sig) V') ∗ ∃ r, prngReg c r)
    ∗ ∃ W, owes (c : Thread nD τ) (0 : CellTallies nD τ sig Unit) W)
  run c β k K := by
    refine .trans ?_ (wp_steps c k K l (V c) Finset.univ hnd fun _ _ => Finset.mem_univ _)
    iintro ⟨Hk, Hb, Hp, Hl⟩
    isplitl [Hk]
    · iintro ⟨Hb, HV, Hp, HO⟩
      iapply Hk
      isplitl [Hb]; · iexact Hb
      isplitl [HV Hp]; · isplitl [HV] <;> iassumption
      iexact HO
    isplitl [Hb]; · iexact Hb
    isplitl [Hp] <;> iassumption

/-- Data of every pipeline, asked nothing of. -/
def rd₀ : (p : Fin 12) → (c : Dev nD) → Pipeline.RDat τ (Elt F) Unit ℕ UU ℕ (pn (F := F) p) c := fun p c =>
  { A := fun _ => Classical.arbitrary _, after := fun _ _ _ _ => True, Φ := fun _ => BI.emp, q := fun _ => fullShare, owed := fun _ => 0 }

/-- The TensorCore has no unscoped semaphore. -/
theorem no_unscoped : ∀ sm : SemLoc sig, sm.isScoped .tc = true := by decide

/-- One copy of the launch's ghost state deals every region its own. -/
theorem fund_ghosts :
    (BI.own (emb (F := F) (initOf (Pipeline.cells cfgs cellOf_inj) (Pipeline.launchToks cfgs cellOf_inj))) : sProp 𝕄)
      ⊢ |={Set.univ}=> bigSep Finset.univ fun c : Dev nD => ghosts (F := F) Finset.univ c := by
  iintro Hu
  ihave H := (Pipeline.fund_ghost (Pipeline.pin (pcfgs (F := F)) adm) (emb (F := F)) cellOf_inj) $$ Hu
  imod H
  imodintro
  unfold ghosts Pipeline.PerCore.ghostOn
  simp only [BI.bigSep_sep']
  iexact H

set_option backward.isDefEq.respectTransparency.types false in
/-- Every run of @main, a list of steps, from any memory ends with every counter at zero and every unscoped buffer at contents the
    steps may end at. -/
theorem run_steps (m : (ℓ : Loc nD τ sig) → Buf (Elt F) ℓ) (ρ : Dev nD → PrngReg)
    (main : Dev nD → Prog (TpuEff nD τ sig (Elt F) (Pipeline.Sig Λ₀ (Fin 12) fun p => (pcfgs (F := F) p).Adm) .tc) PUnit)
    (l : List (Step (F := F))) (hnd : (pipes l).Nodup) (hmain : ∀ c, main c = Pipeline.chain (l.map Step.prog)) :
    θ_run (Pipeline.defs pcfgs defs₀) (onTc (τ := τ) main) ⟨m, fun _ => 0, ρ⟩ (fun r =>
      (∀ c : Dev nD, ∃ V', Reaches c l (fun b => m (c, b)) V' ∧ ∀ b ∈ Pipeline.ucRefs τ sig, r.2.mem (c, b) = V' b)
      ∧ r.2.sem = fun _ => 0) :=
  Pipeline.RDat.θ_run_regions_kit_sems (pcfgs (F := F)) adm rd₀ () cellOf_inj embL defs₀ 𝒱₀ L lv m ρ main
    [.host (stepsSeg l hnd fun c b => m (c, b))]
    (fun c Q => by
      rw [hmain c]
      exact Entails.of_eq (congrArg (fun q => wp _ _ _ q Q) (bind_pure_unit (x := Pipeline.chain (l.map Step.prog)))))
    (by simp only [Pipeline.RDat.Seg.pipes_host, Pipeline.RDat.Seg.pipes_nil]; exact List.nodup_nil)
    (O₀ := 0) (hL := fun _ _ => rfl) (G := fun c => ghosts Finset.univ c)
    (u₀ := (initOf (Pipeline.cells cfgs cellOf_inj) (Pipeline.launchToks cfgs cellOf_inj), initOf (Pipeline.cells cfgs cellOf_inj) (Pipeline.launchToks cfgs cellOf_inj)))
    (hu₀ := by
      iintro Hu
      ihave H := (ownU_pair _ _) $$ Hu
      icases H with ⟨Ha, Hb⟩
      ihave H := fund_ghosts $$ Hb
      imod H
      imodintro
      isplitl [Ha] <;> iassumption)
    (T₀ := fun c => iprop(StableHlo.held (c : Thread nD τ) (Pipeline.ucRefs τ sig) (fun b => m (c, b)) ∗ R c ∗ ghosts Finset.univ c))
    (Tₙ := fun c => iprop((∃ V', ⌜Reaches c l (fun b => m (c, b)) V'⌝ ∗ StableHlo.held (c : Thread nD τ) (Pipeline.ucRefs τ sig) V') ∗ ∃ r, prngReg c r))
    (hch := ⟨fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, HG⟩, -⟩
      imodintro
      isplitl [Hh]; · iexact Hh
      isplitr [HG]
      · isplitl [Hp]; · iexists _; iexact Hp
        iexists ∅; iexact HO
      iexact HG)
    (QY := fun c s => ∃ V', Reaches c l (fun b => m (c, b)) V' ∧ ∀ b ∈ Pipeline.ucRefs τ sig, s.mem (c, b) = V' b)
    (hfin := fun c s' => by
      iintro ⟨⟨⟨%V', %hV, Hh⟩, -⟩, HSI⟩
      unfold StableHlo.held
      ihave H := (pointsTo_read_all (Pipeline.ucRefs τ sig) (fun b => (((c : Thread nD τ)).1, b)) V' s') $$ [Hh HSI]
      · isplitl [Hh] <;> iassumption
      icases H with ⟨%h, HSI⟩
      imodintro
      isplitr; · ipureintro; exact ⟨V', hV, h⟩
      iexact HSI)
    (hQ := fun s h hz => ⟨h, funext fun g => hz g (.inr (no_unscoped g.2))⟩)

end Cert.KernelIdeal.Km

end
-- ==== Proof.Steps.lean ====
/- The twelve regions of @main, @main as its steps, and its run. -/
module

public import proofs.«01_k».proof.Proof.Points
public import proofs.«01_k».proof.Proof.Launch
public import proofs.«01_k».proof.Proof.Gen.KernelIdeal.Regions

@[expose] public section

set_option maxRecDepth 16384

noncomputable section

namespace Cert.KernelIdeal.Km

open Cert.KernelIdeal.Gen
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- What the transform leaves. -/
def out0 (i : grid0.Coords) (Y : (w : Fin 4) → (win0 w).block.Idx → Elt F (win0 w).elt) : (w : Fin 4) → (win0 w).block.Idx → Elt F (win0 w).elt
  | 0 => Y 0
  | 1 => Y 1
  | 2 => Y 2
  | 3 => k0_pay1 i (Y 0) (Y 1) (Y 2)

/-- The embedding's cut at the last block goes by the block. -/
theorem clip0 (t t' : Fin grid0.N) (h : win0_0.index t = win0_0.index t') : win0_0.clip (grid0.coords t) = win0_0.clip (grid0.coords t') :=
  funext fun a => congrArg (fun n : ℕ => Pipeline.Clip.of n (S6400x64.size a) (S100000x64.size a)) (congrFun h a)

/-- The transform. -/
def body0 : Body (F := F) 0 where
  facts := launch0
  clip := fun
    | 0, _, t, t', h => clip0 t t' h
    | 1, _, _, _, _ => rfl
    | 2, _, _, _, _ => rfl
    | 3, h, _, _, _ => Bool.noConfusion (h : true = false)
  out := out0
  keep i Y := fun | 0, _ => rfl | 1, _ => rfl | 2, _ => rfl | 3, h => Bool.noConfusion (h : true = false)
  run c t Y K := by
    rw [bigSep_W0, bigSep_W0]
    exact transform_triple c (grid0.coords t) _ (launch0.stage_whole 0 _) _ (launch0.stage_whole 1 _) _ (launch0.stage_whole 2 _) _ (launch0.stage_whole 3 _) Set.univ (Y 0) (Y 1) (Y 2) (Y 3) K

/-- What the one-hot kernel leaves. -/
def out11 (Y : (w : Fin 2) → (win11 w).block.Idx → Elt F (win11 w).elt) : (w : Fin 2) → (win11 w).block.Idx → Elt F (win11 w).elt
  | 0 => Y 0
  | 1 => k11_pay1 (Y 0)

/-- The one-hot kernel. -/
def body11 : Body (F := F) 11 where
  facts := launch11
  clip := fun | 0, _, _, _, _ => rfl | 1, h, _, _, _ => Bool.noConfusion (h : true = false)
  out _ := out11
  keep i Y := fun | 0, _ => rfl | 1, h => Bool.noConfusion (h : true = false)
  run c t Y K := by
    rw [bigSep_W11, bigSep_W11]
    exact onehot_triple c (grid11.coords t) _ (launch11.stage_whole 0 _) _ (launch11.stage_whole 1 _) Set.univ (Y 0) (Y 1) K

/-- Two results computed from two inputs, in buffers of the types `T`. -/
def outs {T : Fin 4 → Type} (l : T 0 → T 1 → T 2) (n : T 0 → T 1 → T 3) (Y : (w : Fin 4) → T w) : (w : Fin 4) → T w
  | 0 => Y 0
  | 1 => Y 1
  | 2 => l (Y 0) (Y 1)
  | 3 => n (Y 0) (Y 1)

/-- The inputs are left alone. -/
theorem outs_keep {T : Fin 4 → Type} (l : T 0 → T 1 → T 2) (n : T 0 → T 1 → T 3) (Y : (w : Fin 4) → T w) (o : Fin 4 → Bool) (h2 : o 2 = true) (h3 : o 3 = true) :
    ∀ w, o w = false → outs l n Y w = Y w
  | 0, _ => rfl
  | 1, _ => rfl
  | 2, h => Bool.noConfusion (h2.symm.trans h)
  | 3, h => Bool.noConfusion (h3.symm.trans h)

/-- What an assignment leaves in window 0. -/
theorem outs_0 {T : Fin 4 → Type} (l : T 0 → T 1 → T 2) (n : T 0 → T 1 → T 3) (Y : (w : Fin 4) → T w) : outs l n Y 0 = Y 0 := rfl
/-- What an assignment leaves in window 1. -/
theorem outs_1 {T : Fin 4 → Type} (l : T 0 → T 1 → T 2) (n : T 0 → T 1 → T 3) (Y : (w : Fin 4) → T w) : outs l n Y 1 = Y 1 := rfl
/-- What an assignment leaves in window 2. -/
theorem outs_2 {T : Fin 4 → Type} (l : T 0 → T 1 → T 2) (n : T 0 → T 1 → T 3) (Y : (w : Fin 4) → T w) : outs l n Y 2 = l (Y 0) (Y 1) := rfl
/-- What an assignment leaves in window 3. -/
theorem outs_3 {T : Fin 4 → Type} (l : T 0 → T 1 → T 2) (n : T 0 → T 1 → T 3) (Y : (w : Fin 4) → T w) : outs l n Y 3 = n (Y 0) (Y 1) := rfl

/-- Assignment 1. -/
def body1 : Body (F := F) 1 where
  facts := launch1
  clip _ _ t t' _ := congrArg _ (congrArg _ (Subsingleton.elim (α := Fin 1) t t'))
  out _ := outs (T := St (F := F) 1) labels counts
  keep _ Y := outs_keep _ _ Y (fun w => (win1 w).isOut) rfl rfl
  run c t Y K := by
    rw [bigSep_W1, bigSep_W1, outs_0, outs_1, outs_2, outs_3]
    exact assign_triple' c _ (launch1.stage_whole 0 _) _ (launch1.stage_whole 1 _) _ (launch1.stage_whole 2 _) _ (launch1.stage_whole 3 _) Set.univ (Y 0) (Y 1) (Y 2) (Y 3) K

/-- Assignment 2. -/
def body2 : Body (F := F) 2 where
  facts := launch2
  clip _ _ t t' _ := congrArg _ (congrArg _ (Subsingleton.elim (α := Fin 1) t t'))
  out _ := outs (T := St (F := F) 2) labels counts
  keep _ Y := outs_keep _ _ Y (fun w => (win2 w).isOut) rfl rfl
  run c t Y K := by
    rw [bigSep_W2, bigSep_W2, outs_0, outs_1, outs_2, outs_3]
    exact assign_triple' c _ (launch2.stage_whole 0 _) _ (launch2.stage_whole 1 _) _ (launch2.stage_whole 2 _) _ (launch2.stage_whole 3 _) Set.univ (Y 0) (Y 1) (Y 2) (Y 3) K

/-- Assignment 3. -/
def body3 : Body (F := F) 3 where
  facts := launch3
  clip _ _ t t' _ := congrArg _ (congrArg _ (Subsingleton.elim (α := Fin 1) t t'))
  out _ := outs (T := St (F := F) 3) labels counts
  keep _ Y := outs_keep _ _ Y (fun w => (win3 w).isOut) rfl rfl
  run c t Y K := by
    rw [bigSep_W3, bigSep_W3, outs_0, outs_1, outs_2, outs_3]
    exact assign_triple' c _ (launch3.stage_whole 0 _) _ (launch3.stage_whole 1 _) _ (launch3.stage_whole 2 _) _ (launch3.stage_whole 3 _) Set.univ (Y 0) (Y 1) (Y 2) (Y 3) K

/-- Assignment 4. -/
def body4 : Body (F := F) 4 where
  facts := launch4
  clip _ _ t t' _ := congrArg _ (congrArg _ (Subsingleton.elim (α := Fin 1) t t'))
  out _ := outs (T := St (F := F) 4) labels counts
  keep _ Y := outs_keep _ _ Y (fun w => (win4 w).isOut) rfl rfl
  run c t Y K := by
    rw [bigSep_W4, bigSep_W4, outs_0, outs_1, outs_2, outs_3]
    exact assign_triple' c _ (launch4.stage_whole 0 _) _ (launch4.stage_whole 1 _) _ (launch4.stage_whole 2 _) _ (launch4.stage_whole 3 _) Set.univ (Y 0) (Y 1) (Y 2) (Y 3) K

/-- Assignment 5. -/
def body5 : Body (F := F) 5 where
  facts := launch5
  clip _ _ t t' _ := congrArg _ (congrArg _ (Subsingleton.elim (α := Fin 1) t t'))
  out _ := outs (T := St (F := F) 5) labels counts
  keep _ Y := outs_keep _ _ Y (fun w => (win5 w).isOut) rfl rfl
  run c t Y K := by
    rw [bigSep_W5, bigSep_W5, outs_0, outs_1, outs_2, outs_3]
    exact assign_triple' c _ (launch5.stage_whole 0 _) _ (launch5.stage_whole 1 _) _ (launch5.stage_whole 2 _) _ (launch5.stage_whole 3 _) Set.univ (Y 0) (Y 1) (Y 2) (Y 3) K

/-- Assignment 6. -/
def body6 : Body (F := F) 6 where
  facts := launch6
  clip _ _ t t' _ := congrArg _ (congrArg _ (Subsingleton.elim (α := Fin 1) t t'))
  out _ := outs (T := St (F := F) 6) labels counts
  keep _ Y := outs_keep _ _ Y (fun w => (win6 w).isOut) rfl rfl
  run c t Y K := by
    rw [bigSep_W6, bigSep_W6, outs_0, outs_1, outs_2, outs_3]
    exact assign_triple' c _ (launch6.stage_whole 0 _) _ (launch6.stage_whole 1 _) _ (launch6.stage_whole 2 _) _ (launch6.stage_whole 3 _) Set.univ (Y 0) (Y 1) (Y 2) (Y 3) K

/-- Assignment 7. -/
def body7 : Body (F := F) 7 where
  facts := launch7
  clip _ _ t t' _ := congrArg _ (congrArg _ (Subsingleton.elim (α := Fin 1) t t'))
  out _ := outs (T := St (F := F) 7) labels counts
  keep _ Y := outs_keep _ _ Y (fun w => (win7 w).isOut) rfl rfl
  run c t Y K := by
    rw [bigSep_W7, bigSep_W7, outs_0, outs_1, outs_2, outs_3]
    exact assign_triple' c _ (launch7.stage_whole 0 _) _ (launch7.stage_whole 1 _) _ (launch7.stage_whole 2 _) _ (launch7.stage_whole 3 _) Set.univ (Y 0) (Y 1) (Y 2) (Y 3) K

/-- Assignment 8. -/
def body8 : Body (F := F) 8 where
  facts := launch8
  clip _ _ t t' _ := congrArg _ (congrArg _ (Subsingleton.elim (α := Fin 1) t t'))
  out _ := outs (T := St (F := F) 8) labels counts
  keep _ Y := outs_keep _ _ Y (fun w => (win8 w).isOut) rfl rfl
  run c t Y K := by
    rw [bigSep_W8, bigSep_W8, outs_0, outs_1, outs_2, outs_3]
    exact assign_triple' c _ (launch8.stage_whole 0 _) _ (launch8.stage_whole 1 _) _ (launch8.stage_whole 2 _) _ (launch8.stage_whole 3 _) Set.univ (Y 0) (Y 1) (Y 2) (Y 3) K

/-- Assignment 9. -/
def body9 : Body (F := F) 9 where
  facts := launch9
  clip _ _ t t' _ := congrArg _ (congrArg _ (Subsingleton.elim (α := Fin 1) t t'))
  out _ := outs (T := St (F := F) 9) labels counts
  keep _ Y := outs_keep _ _ Y (fun w => (win9 w).isOut) rfl rfl
  run c t Y K := by
    rw [bigSep_W9, bigSep_W9, outs_0, outs_1, outs_2, outs_3]
    exact assign_triple' c _ (launch9.stage_whole 0 _) _ (launch9.stage_whole 1 _) _ (launch9.stage_whole 2 _) _ (launch9.stage_whole 3 _) Set.univ (Y 0) (Y 1) (Y 2) (Y 3) K

/-- Assignment 10. -/
def body10 : Body (F := F) 10 where
  facts := launch10
  clip _ _ t t' _ := congrArg _ (congrArg _ (Subsingleton.elim (α := Fin 1) t t'))
  out _ := outs (T := St (F := F) 10) labels counts
  keep _ Y := outs_keep _ _ Y (fun w => (win10 w).isOut) rfl rfl
  run c t Y K := by
    rw [bigSep_W10, bigSep_W10, outs_0, outs_1, outs_2, outs_3]
    exact assign_triple' c _ (launch10.stage_whole 0 _) _ (launch10.stage_whole 1 _) _ (launch10.stage_whole 2 _) _ (launch10.stage_whole 3 _) Set.univ (Y 0) (Y 1) (Y 2) (Y 3) K

/-- @main as its steps. -/
def steps : List (Step (F := F)) :=
  [ .host hostOps0 hostOps0_sub hostOps0_fresh, .region 0 body0.region,
    .host hostOps1 hostOps1_sub hostOps1_fresh, .region 1 body1.region,
    .host hostOps2 hostOps2_sub hostOps2_fresh, .region 2 body2.region,
    .host hostOps3 hostOps3_sub hostOps3_fresh, .region 3 body3.region,
    .host hostOps4 hostOps4_sub hostOps4_fresh, .region 4 body4.region,
    .host hostOps5 hostOps5_sub hostOps5_fresh, .region 5 body5.region,
    .host hostOps6 hostOps6_sub hostOps6_fresh, .region 6 body6.region,
    .host hostOps7 hostOps7_sub hostOps7_fresh, .region 7 body7.region,
    .host hostOps8 hostOps8_sub hostOps8_fresh, .region 8 body8.region,
    .host hostOps9 hostOps9_sub hostOps9_fresh, .region 9 body9.region,
    .host hostOps10 hostOps10_sub hostOps10_fresh, .region 10 body10.region,
    .host hostOps11 hostOps11_sub hostOps11_fresh, .region 11 body11.region ]

/-- Each region is entered once. -/
theorem steps_nodup : (pipes (steps (F := F))).Nodup := by
  rw [show pipes (steps (F := F)) = [0, 1, 2, 3, 4, 5, 6, 7, 8, 9, 10, 11] from rfl]; decide

/-- Every run of @main ends, at contents its steps may end at, with every counter at zero. -/
theorem run_main (m : (ℓ : Loc nD τ sig) → Buf (Elt F) ℓ) (ρ : Dev nD → PrngReg) :
    θ_run defs (onTc (τ := τ) (main (F := F))) ⟨m, fun _ => 0, ρ⟩ (fun r =>
      (∀ c : Dev nD, ∃ V', Reaches c steps (fun b => m (c, b)) V' ∧ ∀ b ∈ Pipeline.ucRefs τ sig, r.2.mem (c, b) = V' b)
      ∧ r.2.sem = fun _ => 0) :=
  run_steps m ρ main steps steps_nodup fun c => (main_chain c).trans rfl

end Cert.KernelIdeal.Km

end
-- ==== Proof.Frame.lean ====
/- What no step of @main writes is at the end as it was at launch. -/
module

public import proofs.«01_k».proof.Defs
public import proofs.«01_k».proof.Proof.Steps

@[expose] public section

set_option maxRecDepth 16384

noncomputable section

namespace Cert.KernelIdeal.Km

open Cert.KernelIdeal.Gen
open Idealize.ShloMosaic Idealize.ShloMosaic.TcCoe Idealize.SL.Sem

variable {F : FTy → Type} [FloatOps F]

/-- The step writes none of the references `bs`. -/
def Step.Keeps (bs : List (Ref sig .tc)) : Step (F := F) → Prop
  | .host ops _ _ => ∃ W : List (Ref sig .tc), (ops.Forall fun op => op.writes ⊆ (W.map (Proc.devRef (τ := τ) .tc)).toFinset) ∧ ∀ b ∈ bs, b ∉ W
  | .region p _ => ∀ b ∈ bs, ∀ w, Pipeline.arrRef (pn (F := F) p).spec w = b → ((pn (F := F) p).win w).isOut = false

/-- A region leaves the array of an input window alone, and whatever is no array of it. -/
theorem region_keeps {p : Fin 12} (D : Region (F := F) p) (c : Dev nD) (V : Valuation τ sig (Elt F))
    (G : (w : Fin (pn (F := F) p).W) → Buf (Elt F) (((pn (F := F) p).win w).arr.view.loc (c.tc : Thread nD τ)))
    (hG : ∀ w, (D.rdat V c).ArrAt w (pn (F := F) p).N (G w)) (b : Ref sig .tc)
    (hb : ∀ w, Pipeline.arrRef (pn (F := F) p).spec w = b → ((pn (F := F) p).win w).isOut = false) :
    Pipeline.withArrays (pn (F := F) p).spec c V G (Proc.devRef .tc b) = V (Proc.devRef .tc b) := by
  by_cases h : ∃ w, Pipeline.arrRef (pn (F := F) p).spec w = b
  · obtain ⟨w, rfl⟩ := h
    have hA := hG w
    rw [(D.rdat V c).ArrAt_in w (hb w rfl)] at hA
    rw [Pipeline.withArrays_arr (pn (F := F) p).spec D.facts.win.arr_inj c V G w]
    exact (hA : G w = (D.rdat V c).A w).trans (D.hA V c w)
  · exact Pipeline.withArrays_of_ne _ c V G b fun w e => h ⟨w, e⟩

/-- Steps that write none of the references `bs` leave each as it was. -/
theorem Reaches.keeps {c : Dev nD} {bs : List (Ref sig .tc)} {b : Ref sig .tc} (hb : b ∈ bs) :
    ∀ {l : List (Step (F := F))} {V V' : Valuation τ sig (Elt F)}, l.Forall (Step.Keeps bs) → Reaches c l V V' → V' (Proc.devRef .tc b) = V (Proc.devRef .tc b)
  | [], V, V', _, h => by rw [show V = V' from h]
  | .host ops hs hf :: l, V, V', hk, h => by
    obtain ⟨⟨W, hW, hn⟩, hl⟩ := List.forall_cons _ _ _ |>.mp hk
    exact (Reaches.keeps hb hl h).trans (StableHlo.after_of_writes_sub ops V hW (hn b hb))
  | .region p D :: l, V, V', hk, h => by
    obtain ⟨hr, hl⟩ := List.forall_cons _ _ _ |>.mp hk
    obtain ⟨G, hG, h⟩ := h
    exact (Reaches.keeps hb hl h).trans (region_keeps D c V G hG b (hr b hb))

/-- @main's arguments. -/
abbrev args : List (Ref sig .tc) := [main_arg0, main_arg1, main_arg2, main_arg3]

/-- No step writes an argument. -/
theorem steps_args : (steps (F := F)).Forall (Step.Keeps args) := by
  unfold steps
  simp only [List.Forall]
  refine ⟨⟨_, hostOps0_writes, by decide⟩, (by decide : ∀ b ∈ args, ∀ w, Pipeline.arrRef spec0 w = b → (win0 w).isOut = false),
    ⟨_, hostOps1_writes, by decide⟩, (by decide : ∀ b ∈ args, ∀ w, Pipeline.arrRef spec1 w = b → (win1 w).isOut = false),
    ⟨_, hostOps2_writes, by decide⟩, (by decide : ∀ b ∈ args, ∀ w, Pipeline.arrRef spec2 w = b → (win2 w).isOut = false),
    ⟨_, hostOps3_writes, by decide⟩, (by decide : ∀ b ∈ args, ∀ w, Pipeline.arrRef spec3 w = b → (win3 w).isOut = false),
    ⟨_, hostOps4_writes, by decide⟩, (by decide : ∀ b ∈ args, ∀ w, Pipeline.arrRef spec4 w = b → (win4 w).isOut = false),
    ⟨_, hostOps5_writes, by decide⟩, (by decide : ∀ b ∈ args, ∀ w, Pipeline.arrRef spec5 w = b → (win5 w).isOut = false),
    ⟨_, hostOps6_writes, by decide⟩, (by decide : ∀ b ∈ args, ∀ w, Pipeline.arrRef spec6 w = b → (win6 w).isOut = false),
    ⟨_, hostOps7_writes, by decide⟩, (by decide : ∀ b ∈ args, ∀ w, Pipeline.arrRef spec7 w = b → (win7 w).isOut = false),
    ⟨_, hostOps8_writes, by decide⟩, (by decide : ∀ b ∈ args, ∀ w, Pipeline.arrRef spec8 w = b → (win8 w).isOut = false),
    ⟨_, hostOps9_writes, by decide⟩, (by decide : ∀ b ∈ args, ∀ w, Pipeline.arrRef spec9 w = b → (win9 w).isOut = false),
    ⟨_, hostOps10_writes, by decide⟩, (by decide : ∀ b ∈ args, ∀ w, Pipeline.arrRef spec10 w = b → (win10 w).isOut = false),
    ⟨_, hostOps11_writes, by decide⟩, (by decide : ∀ b ∈ args, ∀ w, Pipeline.arrRef spec11 w = b → (win11 w).isOut = false)⟩

/-- A reference outside every scope is among those the run accounts for. -/
theorem mem_uc (b : Ref sig .tc) (h : ¬ (Proc.devRef .tc b : DevRef τ sig).isScoped) : (Proc.devRef .tc b : DevRef τ sig) ∈ Pipeline.ucRefs τ sig :=
  Finset.mem_filter.mpr ⟨StableHlo.devRef_mem_tcRefs b, h⟩

/-- Every run of @main ends with its arguments as they were and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => by
    obtain ⟨V', hR, hm⟩ := h.1 c
    exact ⟨(hm _ (mem_uc main_arg0 (by decide))).trans (hR.keeps (bs := args) (by decide) steps_args),
      (hm _ (mem_uc main_arg1 (by decide))).trans (hR.keeps (bs := args) (by decide) steps_args),
      (hm _ (mem_uc main_arg2 (by decide))).trans (hR.keeps (bs := args) (by decide) steps_args),
      (hm _ (mem_uc main_arg3 (by decide))).trans (hR.keeps (bs := args) (by decide) steps_args)⟩, h.2⟩)
    (run_main m ρ)

end Cert.KernelIdeal.Km

end
-- ==== Proof.Transfer.lean ====
/- The frame of the kernel as it is, from the frame proved of its other reading: the two are one program. -/
module

public import proofs.«01_k».proof.Proof.Frame
public import proofs.«01_k».proof.Proof.Gen.Kernel
public import Idealize.ShloMosaic.Lib.Tactic
public import Idealize.ShloMosaic.Lib.Exec

@[expose] public section

namespace Cert.Transfer

open Idealize.ShloMosaic Idealize.SL.Sem

/-- The kernel as it is, run from any memory, leaves its arguments alone and every counter at zero. -/
def FrameK (F : FTy → Type) [FloatOps F] : Prop := ∀ (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)
/-- The same of the kernel read over exact numbers. -/
def FrameI (F : FTy → Type) [FloatOps F] : Prop := ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- Over any floats the two readings are the same program. -/
theorem frame_eq {F : FTy → Type} [FloatOps F] : FrameK F = FrameI F := by sl_kernel_rfl

/-- So the kernel as it is has its frame. -/
theorem frame_kernel : FrameK Bits := by
  rw [frame_eq]
  exact fun m g => Cert.KernelIdeal.Km.frame m g

end Cert.Transfer

end
-- ==== Proof.RegVal1.lean ====
/- What the assignment regions leave in their arrays. -/
module

public import proofs.«01_k».proof.Proof.Steps
public import proofs.«01_k».proof.Proof.Frame
public import Idealize.ShloMosaic.Lib.Pipeline.ArrRel
public import Idealize.ShloMosaic.Lib.Pipeline.ValueKit.Geometry

@[expose] public section

set_option maxRecDepth 16384

noncomputable section

namespace Cert.KernelIdeal.Km

open Cert.KernelIdeal Cert.KernelIdeal.Gen Idealize.ShloMosaic Idealize.ShloMosaic.TcCoe Idealize.ShloMosaic.Pipeline Idealize.ShloMosaic.StableHlo

variable {F : FTy → Type} [FloatOps F]

/-- What a region may leave in a buffer of an output is its body's result, of what the inputs' fetches may have left. -/
theorem Body.leaves {p : Fin 12} (B : Body (F := F) p) (V : Valuation τ sig (Elt F)) (c : Dev nD) (w : Fin (pn (F := F) p).W)
    (hw : ((pn (F := F) p).win w).isOut = true) (t : Fin (pn (F := F) p).N) (X : St (F := F) p w) (h : (B.rdat V c).Leaves w t X) :
    ∃ ys : (w : Fin (pn (F := F) p).W) → St (F := F) p w,
      (∀ w', ((pn (F := F) p).win w').isOut = false → ∃ d, ys w' = fetchedAt V w' t d) ∧ X = B.out ((pn (F := F) p).grid.coords t) ys w := by
  obtain ⟨Y, hY, ha⟩ := h
  have ha : B.after V w t Y X := ha
  unfold Body.after at ha
  rwa [if_neg (by rw [hw]; exact Bool.noConfusion)] at ha

/-- A block that is the whole array is fetched whole. -/
theorem fill_whole {gr : Grid} (w : Window sig gr) (t : Fin gr.N) (h : ∀ a, w.index t a = 0 ∧ w.xsize (gr.coords t) a = w.size a)
    {Val : EltTy → Type} (d : w.block.Idx → Val w.elt) (X : w.arr.view.ty.Contents Val) (j : w.shape.Idx) (hj : ∀ a, (j a).val < w.size a) :
    w.fill (gr.coords t) d ((w.blk t).view.read Val X) (fun a => ⟨(j a).val, hj a⟩) = w.arr.view.read Val X j := by
  have hm : w.moved (gr.coords t) (fun a => ⟨(j a).val, hj a⟩) = true :=
    (w.moved_iff _ _).mpr fun a => by rw [(h a).2]; exact hj a
  unfold Window.fill
  rw [dif_pos hm]
  show w.arr.view.read Val X ((w.rect t).emb _) = _
  refine congrArg _ (funext fun a => Fin.ext ?_)
  rw [Window.rect_emb_val_of_index_zero _ _ _ (h a).1]

/-- What a region leaves in an array written once and whole. -/
theorem Body.leaves_whole {p : Fin 12} (B : Body (F := F) p) (V : Valuation τ sig (Elt F)) (c : Dev nD) (w : Fin (pn (F := F) p).W)
    (hw : ((pn (F := F) p).win w).isOut = true) (t : Fin (pn (F := F) p).N) (h : ((pn (F := F) p).win w).WholeAt t)
    (G : Buf (Elt F) (((pn (F := F) p).win w).arr.view.loc (c.tc : Thread nD τ))) (hG : (B.region.rdat V c).ArrAt w (pn (F := F) p).N G) :
    ∃ ys : (w : Fin (pn (F := F) p).W) → St (F := F) p w,
      (∀ w', ((pn (F := F) p).win w').isOut = false → ∃ d, ys w' = fetchedAt V w' t d)
        ∧ ∀ j : ((pn (F := F) p).win w).shape.Idx, G (((pn (F := F) p).win w).arr.view.emb j)
          = _root_.cast (congrArg (Elt F) ((pn (F := F) p).win w).arr.view.elt_eq.symm) (B.out ((pn (F := F) p).grid.coords t) ys w fun a => ⟨j a, h.lt_size j a⟩) := by
  obtain ⟨X, hX, e⟩ := hG.emb_eq_of_wholeAt h
  obtain ⟨ys, hy, rfl⟩ := B.leaves V c w hw t X hX
  exact ⟨ys, hy, e⟩

attribute [local irreducible] labels counts

/-- What a region may leave its arrays at, from the contents `V`. -/
abbrev Left {p : Fin 12} (B : Body (F := F) p) (V : Valuation τ sig (Elt F)) (c : Dev nD)
    (G : (w : Fin (pn (F := F) p).W) → Buf (Elt F) (((pn (F := F) p).win w).arr.view.loc (c.tc : Thread nD τ))) : Prop :=
  ∀ w, (B.region.rdat V c).ArrAt w (pn (F := F) p).N (G w)

/-- What the inputs' fetches may leave in the buffers. -/
abbrev Fetched {p : Fin 12} (V : Valuation τ sig (Elt F)) (t : Fin (pn (F := F) p).N) (ys : (w : Fin (pn (F := F) p).W) → St (F := F) p w) : Prop :=
  ∀ w, ((pn (F := F) p).win w).isOut = false → ∃ d, ys w = fetchedAt V w t d

/-- The region assigns: it leaves the labels and the counts of the rows `t` against the centres `ce`, and nothing else changed. -/
def Assigns {p : Fin 12} (B : Body (F := F) p) (t : TRef sig ⟨S102400x64, .f32⟩) (ce : TRef sig ⟨S64x64, .f32⟩)
    (lab : TRef sig ⟨S16x1x6400, .i32⟩) (cnt : TRef sig ⟨S64x1, .f32⟩) : Prop :=
  ∀ V c G, Left B V c G →
    lab.ofBuf (withArrays (pn (F := F) p).spec c V G (Proc.devRef .tc lab.ref)) = labels (t.ofBuf (V (Proc.devRef .tc t.ref))) (ce.ofBuf (V (Proc.devRef .tc ce.ref)))
    ∧ cnt.ofBuf (withArrays (pn (F := F) p).spec c V G (Proc.devRef .tc cnt.ref)) = counts (t.ofBuf (V (Proc.devRef .tc t.ref))) (ce.ofBuf (V (Proc.devRef .tc ce.ref)))
    ∧ ∀ b : Ref sig .tc, b ≠ lab.ref → b ≠ cnt.ref → withArrays (pn (F := F) p).spec c V G (Proc.devRef .tc b) = V (Proc.devRef .tc b)

/-- A region assigns when its body does, its inputs are fetched whole and its outputs are written back whole. The maps `u` are the
    identity, between the types of the buffers and their own. -/
theorem assigns_of {p : Fin 12} (B : Body (F := F) p) (t : TRef sig ⟨S102400x64, .f32⟩) (ce : TRef sig ⟨S64x64, .f32⟩)
    (lab : TRef sig ⟨S16x1x6400, .i32⟩) (cnt : TRef sig ⟨S64x1, .f32⟩) (w0 w1 w2 w3 : Fin (pn (F := F) p).W) (t₀ : Fin (pn (F := F) p).N)
    (u0 : St (F := F) p w0 → Vec F S102400x64 .f32) (u1 : St (F := F) p w1 → Vec F S64x64 .f32)
    (u2 : Vec F S16x1x6400 .i32 → St (F := F) p w2) (u3 : Vec F S64x1 .f32 → St (F := F) p w3)
    (o : ((pn (F := F) p).win w0).isOut = false ∧ ((pn (F := F) p).win w1).isOut = false ∧ ((pn (F := F) p).win w2).isOut = true ∧ ((pn (F := F) p).win w3).isOut = true)
    (f0 : ∀ (V : Valuation τ sig (Elt F)) d, u0 (fetchedAt V w0 t₀ d) = t.ofBuf (V (Proc.devRef .tc t.ref)))
    (f1 : ∀ (V : Valuation τ sig (Elt F)) d, u1 (fetchedAt V w1 t₀ d) = ce.ofBuf (V (Proc.devRef .tc ce.ref)))
    (b2 : ∀ i ys, B.out i ys w2 = u2 (labels (u0 (ys w0)) (u1 (ys w1)))) (b3 : ∀ i ys, B.out i ys w3 = u3 (counts (u0 (ys w0)) (u1 (ys w1))))
    (h2 : ((pn (F := F) p).win w2).WholeAt t₀) (h3 : ((pn (F := F) p).win w3).WholeAt t₀)
    (g2 : ∀ (V : Valuation τ sig (Elt F)) (c : Dev nD) G L,
      (∀ j : ((pn (F := F) p).win w2).shape.Idx, G w2 (((pn (F := F) p).win w2).arr.view.emb j)
        = _root_.cast (congrArg (Elt F) ((pn (F := F) p).win w2).arr.view.elt_eq.symm) (u2 L fun a => ⟨j a, h2.lt_size j a⟩)) →
      lab.ofBuf (withArrays (pn (F := F) p).spec c V G (Proc.devRef .tc lab.ref)) = L)
    (g3 : ∀ (V : Valuation τ sig (Elt F)) (c : Dev nD) G L,
      (∀ j : ((pn (F := F) p).win w3).shape.Idx, G w3 (((pn (F := F) p).win w3).arr.view.emb j)
        = _root_.cast (congrArg (Elt F) ((pn (F := F) p).win w3).arr.view.elt_eq.symm) (u3 L fun a => ⟨j a, h3.lt_size j a⟩)) →
      cnt.ofBuf (withArrays (pn (F := F) p).spec c V G (Proc.devRef .tc cnt.ref)) = L)
    (hk : ∀ b : Ref sig .tc, b ≠ lab.ref → b ≠ cnt.ref → ∀ w, arrRef (pn (F := F) p).spec w = b → ((pn (F := F) p).win w).isOut = false) :
    Assigns B t ce lab cnt := fun V c G hG => by
  obtain ⟨ys, hy, e⟩ := B.leaves_whole V c w2 o.2.2.1 t₀ h2 (G w2) (hG w2)
  obtain ⟨zs, hz, e'⟩ := B.leaves_whole V c w3 o.2.2.2 t₀ h3 (G w3) (hG w3)
  obtain ⟨d, y0⟩ := hy w0 o.1
  obtain ⟨d', y1⟩ := hy w1 o.2.1
  obtain ⟨x, z0⟩ := hz w0 o.1
  obtain ⟨x', z1⟩ := hz w1 o.2.1
  rw [b2, y0, y1, f0, f1] at e
  rw [b3, z0, z1, f0, f1] at e'
  exact ⟨g2 V c G _ e, g3 V c G _ e', fun b hl hn => region_keeps B.region c V G hG b (hk b hl hn)⟩

/-- Region 1 assigns. -/
theorem assigns1 : Assigns (F := F) body1 (.of main_v1) (.of main_v3) (.of main_v4_0) (.of main_v4_1) :=
  assigns_of body1 _ _ _ _ 0 1 2 3 (⟨0, by decide⟩ : Fin grid1.N) (fun x => x) (fun x => x) (fun x => x) (fun x => x) ⟨rfl, rfl, rfl, rfl⟩
    (fun V d => funext fun j => fill_whole (win1 0) ⟨0, by decide⟩ (by decide +kernel) d (V (Proc.devRef .tc main_v1)) j fun a => (j a).isLt)
    (fun V d => funext fun j => fill_whole (win1 1) ⟨0, by decide⟩ (by decide +kernel) d (V (Proc.devRef .tc main_v3)) j fun a => (j a).isLt)
    (fun _ _ => rfl) (fun _ _ => rfl)
    (show (win1 2).WholeAt (⟨0, by decide⟩ : Fin grid1.N) from ⟨flush1_2 _, fun t _ => Subsingleton.elim (α := Fin 1) _ _, by decide +kernel⟩)
    (show (win1 3).WholeAt (⟨0, by decide⟩ : Fin grid1.N) from ⟨flush1_3 _, fun t _ => Subsingleton.elim (α := Fin 1) _ _, by decide +kernel⟩)
    (fun V c G L e => (withArrays_arr (pn (F := F) 1).spec launch1.win.arr_inj c V G 2).trans (funext e))
    (fun V c G L e => (withArrays_arr (pn (F := F) 1).spec launch1.win.arr_inj c V G 3).trans (funext e))
    fun b hl hn => fun | 0, _ => rfl | 1, _ => rfl | 2, h => absurd h.symm hl | 3, h => absurd h.symm hn

/-- Region 2 assigns. -/
theorem assigns2 : Assigns (F := F) body2 (.of main_v1) (.of main_v15) (.of main_v16_0) (.of main_v16_1) :=
  assigns_of body2 _ _ _ _ 0 1 2 3 (⟨0, by decide⟩ : Fin grid2.N) (fun x => x) (fun x => x) (fun x => x) (fun x => x) ⟨rfl, rfl, rfl, rfl⟩
    (fun V d => funext fun j => fill_whole (win2 0) ⟨0, by decide⟩ (by decide +kernel) d (V (Proc.devRef .tc main_v1)) j fun a => (j a).isLt)
    (fun V d => funext fun j => fill_whole (win2 1) ⟨0, by decide⟩ (by decide +kernel) d (V (Proc.devRef .tc main_v15)) j fun a => (j a).isLt)
    (fun _ _ => rfl) (fun _ _ => rfl)
    (show (win2 2).WholeAt (⟨0, by decide⟩ : Fin grid2.N) from ⟨flush2_2 _, fun t _ => Subsingleton.elim (α := Fin 1) _ _, by decide +kernel⟩)
    (show (win2 3).WholeAt (⟨0, by decide⟩ : Fin grid2.N) from ⟨flush2_3 _, fun t _ => Subsingleton.elim (α := Fin 1) _ _, by decide +kernel⟩)
    (fun V c G L e => (withArrays_arr (pn (F := F) 2).spec launch2.win.arr_inj c V G 2).trans (funext e))
    (fun V c G L e => (withArrays_arr (pn (F := F) 2).spec launch2.win.arr_inj c V G 3).trans (funext e))
    fun b hl hn => fun | 0, _ => rfl | 1, _ => rfl | 2, h => absurd h.symm hl | 3, h => absurd h.symm hn

/-- Region 3 assigns. -/
theorem assigns3 : Assigns (F := F) body3 (.of main_v1) (.of main_v27) (.of main_v28_0) (.of main_v28_1) :=
  assigns_of body3 _ _ _ _ 0 1 2 3 (⟨0, by decide⟩ : Fin grid3.N) (fun x => x) (fun x => x) (fun x => x) (fun x => x) ⟨rfl, rfl, rfl, rfl⟩
    (fun V d => funext fun j => fill_whole (win3 0) ⟨0, by decide⟩ (by decide +kernel) d (V (Proc.devRef .tc main_v1)) j fun a => (j a).isLt)
    (fun V d => funext fun j => fill_whole (win3 1) ⟨0, by decide⟩ (by decide +kernel) d (V (Proc.devRef .tc main_v27)) j fun a => (j a).isLt)
    (fun _ _ => rfl) (fun _ _ => rfl)
    (show (win3 2).WholeAt (⟨0, by decide⟩ : Fin grid3.N) from ⟨flush3_2 _, fun t _ => Subsingleton.elim (α := Fin 1) _ _, by decide +kernel⟩)
    (show (win3 3).WholeAt (⟨0, by decide⟩ : Fin grid3.N) from ⟨flush3_3 _, fun t _ => Subsingleton.elim (α := Fin 1) _ _, by decide +kernel⟩)
    (fun V c G L e => (withArrays_arr (pn (F := F) 3).spec launch3.win.arr_inj c V G 2).trans (funext e))
    (fun V c G L e => (withArrays_arr (pn (F := F) 3).spec launch3.win.arr_inj c V G 3).trans (funext e))
    fun b hl hn => fun | 0, _ => rfl | 1, _ => rfl | 2, h => absurd h.symm hl | 3, h => absurd h.symm hn

/-- Region 4 assigns. -/
theorem assigns4 : Assigns (F := F) body4 (.of main_v1) (.of main_v39) (.of main_v40_0) (.of main_v40_1) :=
  assigns_of body4 _ _ _ _ 0 1 2 3 (⟨0, by decide⟩ : Fin grid4.N) (fun x => x) (fun x => x) (fun x => x) (fun x => x) ⟨rfl, rfl, rfl, rfl⟩
    (fun V d => funext fun j => fill_whole (win4 0) ⟨0, by decide⟩ (by decide +kernel) d (V (Proc.devRef .tc main_v1)) j fun a => (j a).isLt)
    (fun V d => funext fun j => fill_whole (win4 1) ⟨0, by decide⟩ (by decide +kernel) d (V (Proc.devRef .tc main_v39)) j fun a => (j a).isLt)
    (fun _ _ => rfl) (fun _ _ => rfl)
    (show (win4 2).WholeAt (⟨0, by decide⟩ : Fin grid4.N) from ⟨flush4_2 _, fun t _ => Subsingleton.elim (α := Fin 1) _ _, by decide +kernel⟩)
    (show (win4 3).WholeAt (⟨0, by decide⟩ : Fin grid4.N) from ⟨flush4_3 _, fun t _ => Subsingleton.elim (α := Fin 1) _ _, by decide +kernel⟩)
    (fun V c G L e => (withArrays_arr (pn (F := F) 4).spec launch4.win.arr_inj c V G 2).trans (funext e))
    (fun V c G L e => (withArrays_arr (pn (F := F) 4).spec launch4.win.arr_inj c V G 3).trans (funext e))
    fun b hl hn => fun | 0, _ => rfl | 1, _ => rfl | 2, h => absurd h.symm hl | 3, h => absurd h.symm hn

/-- Region 5 assigns. -/
theorem assigns5 : Assigns (F := F) body5 (.of main_v1) (.of main_v51) (.of main_v52_0) (.of main_v52_1) :=
  assigns_of body5 _ _ _ _ 0 1 2 3 (⟨0, by decide⟩ : Fin grid5.N) (fun x => x) (fun x => x) (fun x => x) (fun x => x) ⟨rfl, rfl, rfl, rfl⟩
    (fun V d => funext fun j => fill_whole (win5 0) ⟨0, by decide⟩ (by decide +kernel) d (V (Proc.devRef .tc main_v1)) j fun a => (j a).isLt)
    (fun V d => funext fun j => fill_whole (win5 1) ⟨0, by decide⟩ (by decide +kernel) d (V (Proc.devRef .tc main_v51)) j fun a => (j a).isLt)
    (fun _ _ => rfl) (fun _ _ => rfl)
    (show (win5 2).WholeAt (⟨0, by decide⟩ : Fin grid5.N) from ⟨flush5_2 _, fun t _ => Subsingleton.elim (α := Fin 1) _ _, by decide +kernel⟩)
    (show (win5 3).WholeAt (⟨0, by decide⟩ : Fin grid5.N) from ⟨flush5_3 _, fun t _ => Subsingleton.elim (α := Fin 1) _ _, by decide +kernel⟩)
    (fun V c G L e => (withArrays_arr (pn (F := F) 5).spec launch5.win.arr_inj c V G 2).trans (funext e))
    (fun V c G L e => (withArrays_arr (pn (F := F) 5).spec launch5.win.arr_inj c V G 3).trans (funext e))
    fun b hl hn => fun | 0, _ => rfl | 1, _ => rfl | 2, h => absurd h.symm hl | 3, h => absurd h.symm hn

/-- Region 6 assigns. -/
theorem assigns6 : Assigns (F := F) body6 (.of main_v1) (.of main_v63) (.of main_v64_0) (.of main_v64_1) :=
  assigns_of body6 _ _ _ _ 0 1 2 3 (⟨0, by decide⟩ : Fin grid6.N) (fun x => x) (fun x => x) (fun x => x) (fun x => x) ⟨rfl, rfl, rfl, rfl⟩
    (fun V d => funext fun j => fill_whole (win6 0) ⟨0, by decide⟩ (by decide +kernel) d (V (Proc.devRef .tc main_v1)) j fun a => (j a).isLt)
    (fun V d => funext fun j => fill_whole (win6 1) ⟨0, by decide⟩ (by decide +kernel) d (V (Proc.devRef .tc main_v63)) j fun a => (j a).isLt)
    (fun _ _ => rfl) (fun _ _ => rfl)
    (show (win6 2).WholeAt (⟨0, by decide⟩ : Fin grid6.N) from ⟨flush6_2 _, fun t _ => Subsingleton.elim (α := Fin 1) _ _, by decide +kernel⟩)
    (show (win6 3).WholeAt (⟨0, by decide⟩ : Fin grid6.N) from ⟨flush6_3 _, fun t _ => Subsingleton.elim (α := Fin 1) _ _, by decide +kernel⟩)
    (fun V c G L e => (withArrays_arr (pn (F := F) 6).spec launch6.win.arr_inj c V G 2).trans (funext e))
    (fun V c G L e => (withArrays_arr (pn (F := F) 6).spec launch6.win.arr_inj c V G 3).trans (funext e))
    fun b hl hn => fun | 0, _ => rfl | 1, _ => rfl | 2, h => absurd h.symm hl | 3, h => absurd h.symm hn

/-- Region 7 assigns. -/
theorem assigns7 : Assigns (F := F) body7 (.of main_v1) (.of main_v75) (.of main_v76_0) (.of main_v76_1) :=
  assigns_of body7 _ _ _ _ 0 1 2 3 (⟨0, by decide⟩ : Fin grid7.N) (fun x => x) (fun x => x) (fun x => x) (fun x => x) ⟨rfl, rfl, rfl, rfl⟩
    (fun V d => funext fun j => fill_whole (win7 0) ⟨0, by decide⟩ (by decide +kernel) d (V (Proc.devRef .tc main_v1)) j fun a => (j a).isLt)
    (fun V d => funext fun j => fill_whole (win7 1) ⟨0, by decide⟩ (by decide +kernel) d (V (Proc.devRef .tc main_v75)) j fun a => (j a).isLt)
    (fun _ _ => rfl) (fun _ _ => rfl)
    (show (win7 2).WholeAt (⟨0, by decide⟩ : Fin grid7.N) from ⟨flush7_2 _, fun t _ => Subsingleton.elim (α := Fin 1) _ _, by decide +kernel⟩)
    (show (win7 3).WholeAt (⟨0, by decide⟩ : Fin grid7.N) from ⟨flush7_3 _, fun t _ => Subsingleton.elim (α := Fin 1) _ _, by decide +kernel⟩)
    (fun V c G L e => (withArrays_arr (pn (F := F) 7).spec launch7.win.arr_inj c V G 2).trans (funext e))
    (fun V c G L e => (withArrays_arr (pn (F := F) 7).spec launch7.win.arr_inj c V G 3).trans (funext e))
    fun b hl hn => fun | 0, _ => rfl | 1, _ => rfl | 2, h => absurd h.symm hl | 3, h => absurd h.symm hn

/-- Region 8 assigns. -/
theorem assigns8 : Assigns (F := F) body8 (.of main_v1) (.of main_v87) (.of main_v88_0) (.of main_v88_1) :=
  assigns_of body8 _ _ _ _ 0 1 2 3 (⟨0, by decide⟩ : Fin grid8.N) (fun x => x) (fun x => x) (fun x => x) (fun x => x) ⟨rfl, rfl, rfl, rfl⟩
    (fun V d => funext fun j => fill_whole (win8 0) ⟨0, by decide⟩ (by decide +kernel) d (V (Proc.devRef .tc main_v1)) j fun a => (j a).isLt)
    (fun V d => funext fun j => fill_whole (win8 1) ⟨0, by decide⟩ (by decide +kernel) d (V (Proc.devRef .tc main_v87)) j fun a => (j a).isLt)
    (fun _ _ => rfl) (fun _ _ => rfl)
    (show (win8 2).WholeAt (⟨0, by decide⟩ : Fin grid8.N) from ⟨flush8_2 _, fun t _ => Subsingleton.elim (α := Fin 1) _ _, by decide +kernel⟩)
    (show (win8 3).WholeAt (⟨0, by decide⟩ : Fin grid8.N) from ⟨flush8_3 _, fun t _ => Subsingleton.elim (α := Fin 1) _ _, by decide +kernel⟩)
    (fun V c G L e => (withArrays_arr (pn (F := F) 8).spec launch8.win.arr_inj c V G 2).trans (funext e))
    (fun V c G L e => (withArrays_arr (pn (F := F) 8).spec launch8.win.arr_inj c V G 3).trans (funext e))
    fun b hl hn => fun | 0, _ => rfl | 1, _ => rfl | 2, h => absurd h.symm hl | 3, h => absurd h.symm hn

/-- Region 9 assigns. -/
theorem assigns9 : Assigns (F := F) body9 (.of main_v1) (.of main_v99) (.of main_v100_0) (.of main_v100_1) :=
  assigns_of body9 _ _ _ _ 0 1 2 3 (⟨0, by decide⟩ : Fin grid9.N) (fun x => x) (fun x => x) (fun x => x) (fun x => x) ⟨rfl, rfl, rfl, rfl⟩
    (fun V d => funext fun j => fill_whole (win9 0) ⟨0, by decide⟩ (by decide +kernel) d (V (Proc.devRef .tc main_v1)) j fun a => (j a).isLt)
    (fun V d => funext fun j => fill_whole (win9 1) ⟨0, by decide⟩ (by decide +kernel) d (V (Proc.devRef .tc main_v99)) j fun a => (j a).isLt)
    (fun _ _ => rfl) (fun _ _ => rfl)
    (show (win9 2).WholeAt (⟨0, by decide⟩ : Fin grid9.N) from ⟨flush9_2 _, fun t _ => Subsingleton.elim (α := Fin 1) _ _, by decide +kernel⟩)
    (show (win9 3).WholeAt (⟨0, by decide⟩ : Fin grid9.N) from ⟨flush9_3 _, fun t _ => Subsingleton.elim (α := Fin 1) _ _, by decide +kernel⟩)
    (fun V c G L e => (withArrays_arr (pn (F := F) 9).spec launch9.win.arr_inj c V G 2).trans (funext e))
    (fun V c G L e => (withArrays_arr (pn (F := F) 9).spec launch9.win.arr_inj c V G 3).trans (funext e))
    fun b hl hn => fun | 0, _ => rfl | 1, _ => rfl | 2, h => absurd h.symm hl | 3, h => absurd h.symm hn

/-- Region 10 assigns. -/
theorem assigns10 : Assigns (F := F) body10 (.of main_v1) (.of main_v111) (.of main_v112_0) (.of main_v112_1) :=
  assigns_of body10 _ _ _ _ 0 1 2 3 (⟨0, by decide⟩ : Fin grid10.N) (fun x => x) (fun x => x) (fun x => x) (fun x => x) ⟨rfl, rfl, rfl, rfl⟩
    (fun V d => funext fun j => fill_whole (win10 0) ⟨0, by decide⟩ (by decide +kernel) d (V (Proc.devRef .tc main_v1)) j fun a => (j a).isLt)
    (fun V d => funext fun j => fill_whole (win10 1) ⟨0, by decide⟩ (by decide +kernel) d (V (Proc.devRef .tc main_v111)) j fun a => (j a).isLt)
    (fun _ _ => rfl) (fun _ _ => rfl)
    (show (win10 2).WholeAt (⟨0, by decide⟩ : Fin grid10.N) from ⟨flush10_2 _, fun t _ => Subsingleton.elim (α := Fin 1) _ _, by decide +kernel⟩)
    (show (win10 3).WholeAt (⟨0, by decide⟩ : Fin grid10.N) from ⟨flush10_3 _, fun t _ => Subsingleton.elim (α := Fin 1) _ _, by decide +kernel⟩)
    (fun V c G L e => (withArrays_arr (pn (F := F) 10).spec launch10.win.arr_inj c V G 2).trans (funext e))
    (fun V c G L e => (withArrays_arr (pn (F := F) 10).spec launch10.win.arr_inj c V G 3).trans (funext e))
    fun b hl hn => fun | 0, _ => rfl | 1, _ => rfl | 2, h => absurd h.symm hl | 3, h => absurd h.symm hn

end Cert.KernelIdeal.Km

end
-- ==== Proof.RegVal0.lean ====
/- What the transform leaves: the embedded rows. -/
module

public import proofs.«01_k».proof.Proof.RegVal1
public import Idealize.ShloMosaic.Lib.Pointwise
public import Idealize.ShloMosaic.Lib.WordCmp

@[expose] public section

set_option maxRecDepth 16384

noncomputable section

namespace Cert.KernelIdeal.Km

open Cert.KernelIdeal Cert.KernelIdeal.Gen Idealize.ShloMosaic Idealize.ShloMosaic.TcCoe Idealize.ShloMosaic.Pipeline

variable {F : FTy → Type} [FloatOps F]

/-- What a fetch puts at an index it moves. -/
theorem fill_moved {gr : Grid} (w : Window sig gr) (hk : w.kind = .blocked) (t : Fin gr.N) {Val : EltTy → Type} (d : w.block.Idx → Val w.elt) (X : w.arr.view.ty.Contents Val)
    (j : w.block.Idx) (hj : ∀ a, (j a).val < w.xsize (gr.coords t) a) (i : w.shape.Idx) (hi : ∀ a, (i a).val = w.index t a * w.size a + (j a).val) :
    w.fill (gr.coords t) d ((w.blk t).view.read Val X) j = w.arr.view.read Val X i := by
  unfold Window.fill
  rw [dif_pos ((w.moved_iff _ _).mpr hj)]
  show w.arr.view.read Val X ((w.rect t).emb _) = _
  refine congrArg _ (funext fun a => Fin.ext ?_)
  rw [Window.rect_emb_val _ _ _ _ hk, hi]

/-- What a region leaves in a block of an array, where the flushed blocks are apart. -/
theorem Body.leaves_block {p : Fin 12} (B : Body (F := F) p) (V : Valuation τ sig (Elt F)) (c : Dev nD) (w : Fin (pn (F := F) p).W)
    (hw : ((pn (F := F) p).win w).isOut = true)
    (hd : ∀ t t' : Fin (pn (F := F) p).N, ((pn (F := F) p).win w).flush t = true → ((pn (F := F) p).win w).flush t' = true → t ≠ t' →
      Disjoint (((pn (F := F) p).win w).blk t).view.set (((pn (F := F) p).win w).blk t').view.set)
    (t : Fin (pn (F := F) p).N) (hf : ((pn (F := F) p).win w).flush t = true)
    (G : Buf (Elt F) (((pn (F := F) p).win w).arr.view.loc (c.tc : Thread nD τ))) (hG : (B.region.rdat V c).ArrAt w (pn (F := F) p).N G) :
    ∃ ys, Fetched V t ys ∧ ∀ y : (((pn (F := F) p).win w).xblock ((pn (F := F) p).grid.coords t)).Idx,
      G ((((pn (F := F) p).win w).blk t).view.emb y) = _root_.cast (congrArg (Elt F) (((pn (F := F) p).win w).blk t).view.elt_eq.symm)
        (B.out ((pn (F := F) p).grid.coords t) ys w (((pn (F := F) p).win w).xinj ((pn (F := F) p).grid.coords t) y)) := by
  obtain ⟨X, hX, hA⟩ := hG.exists_exact
  obtain ⟨ys, hy, hx⟩ := B.leaves V c w hw t (X t) (hX t t.isLt hf)
  refine ⟨ys, hy, fun y => ?_⟩
  have e := hA (Function.update (fun _ _ _ => Classical.arbitrary _) w X) fun u _ _ => by rw [Function.update_self]
  rw [e, Dat.arrAt_emb_eq_flushed _ w hd t hf y, ← hx]
  unfold Dat.flushed
  rw [RDat.withAfter_after, Function.update_self]

/-- How many rows of a block of the embedding there are. -/
theorem xsize0 : ∀ t : Fin grid0.N, (win0 0).xsize (grid0.coords t) 0 = (if t.val = 15 then 4000 else 6400) ∧ (win0 0).xsize (grid0.coords t) 1 = 64 := by
  decide +kernel

/-- Where the blocks start. -/
theorem index0 : ∀ t : Fin grid0.N, ((win0 0).index t 0 = t.val ∧ (win0 0).index t 1 = 0) ∧ ((win0 3).index t 0 = t.val ∧ (win0 3).index t 1 = 0)
    ∧ (grid0.coords t 0).val = t.val := by decide +kernel

/-- The weights and the biases are fetched whole. -/
theorem whole0 (t : Fin grid0.N) : (∀ a, (win0 1).index t a = 0 ∧ (win0 1).xsize (grid0.coords t) a = (win0 1).size a)
    ∧ ∀ a, (win0 2).index t a = 0 ∧ (win0 2).xsize (grid0.coords t) a = (win0 2).size a := by
  revert t; decide +kernel

/-- A transformed row that is not padding. -/
theorem transform_apply (i : grid0.Coords) (e : FVec Ideal S6400x64 .f32) (w : FVec Ideal S64x64 .f32) (b : FVec Ideal S1x64 .f32) (r : Fin 6400) (j : Fin 64)
    (h : 6400 * (i 0).val + r.val < 100000) :
    (k0_pay1 (F := Ideal) i e w b : FVec Ideal S6400x64 .f32) (ix2 r j) = Ideal.tanh (Ideal.ofBits .f32 0x40400000#32 * (∑ k : Fin 64, e (ix2 r k) * w (ix2 j k) + b (ix2 0 j))) := by
  pointwise [k0_pay1]
  have hw : IntOp.addi (Scalar.muli (BitVec.ofNat 32 (i 0).val) 6400#32) (BitVec.ofNat 32 r.val) = BitVec.ofNat 32 (6400 * (i 0).val + r.val) := by
    refine BitVec.eq_of_toNat_eq ?_
    simp [IntOp.addi, Scalar.muli, IntOp.muli]
    omega
  rw [hw, show (100000#32 : BitVec 32) = BitVec.ofNat 32 100000 from rfl, WordCmp.cmpi_slt_ofNat (by omega) (by omega), decide_eq_true h]
  exact ValueIdx.select_one _ _

/-- An entry of the embedding from the bias as a row. -/
def embedRow (e : FVec Ideal S100000x64 .f32) (w : FVec Ideal S64x64 .f32) (b : FVec Ideal S1x64 .f32) (r : Fin 100000) (j : Fin 64) : EReal :=
  Ideal.tanh (Ideal.ofBits .f32 0x40400000#32 * (∑ k : Fin 64, e (ix2 r k) * w (ix2 j k) + b (ix2 0 j)))

/-- The transform leaves the embedded rows; the rest is as it was. -/
theorem transforms (V : Valuation τ sig (Elt Ideal)) (c : Dev nD) (G) (hG : Left (F := Ideal) body0 V c G) (q : Fin 102400) (hq : q.val < 100000) (j : Fin 64) :
    (withArrays (pn (F := Ideal) 0).spec c V G (Proc.devRef .tc main_v1) : FVec Ideal S102400x64 .f32) (ix2 q j)
      = embedRow (V (Proc.devRef .tc main_arg1)) (V (Proc.devRef .tc main_arg2)) (V (Proc.devRef .tc main_v0)) ⟨q.val, hq⟩ j := by
  let t : Fin grid0.N := ⟨q.val / 6400, by show q.val / 6400 < 16; omega⟩
  let r : Fin 6400 := ⟨q.val % 6400, by omega⟩
  have hx := xsize0 t
  have hi := index0 t
  have ht : t.val = q.val / 6400 := rfl
  have hr : r.val = q.val % 6400 := rfl
  obtain ⟨ys, hy, e⟩ := body0.leaves_block V c 3 rfl (Window.hdisj_of_index_inj (win0 3) fun t t' _ _ h => Fin.ext (by
    have h0 := congrFun h 0
    rw [(index0 t).2.1.1, (index0 t').2.1.1] at h0
    exact h0)) t (flush0_3 t) (G 3) (hG 3)
  have y0 : ∀ k : Fin 64, (ys 0 : FVec Ideal S6400x64 .f32) (ix2 r k) = (V (Proc.devRef .tc main_arg1) : FVec Ideal S100000x64 .f32) (ix2 ⟨q.val, hq⟩ k) := fun k => by
    obtain ⟨d, h⟩ := hy 0 rfl
    rw [h]
    refine fill_moved (win0 0) rfl t d (V (Proc.devRef .tc main_arg1)) (ix2 r k) (fun a => ?_) (ix2 ⟨q.val, hq⟩ k) fun a => ?_
    · match a with
      | ⟨0, _⟩ => exact lt_of_lt_of_eq (show r.val < if t.val = 15 then 4000 else 6400 by split <;> omega) hx.1.symm
      | ⟨1, _⟩ => exact lt_of_lt_of_eq k.isLt hx.2.symm
    · match a with
      | ⟨0, _⟩ =>
        refine Eq.trans ?_ (congrArg (fun n => n * 6400 + r.val) hi.1.1.symm)
        show q.val = t.val * 6400 + r.val
        omega
      | ⟨1, _⟩ =>
        refine Eq.trans ?_ (congrArg (fun n => n * 64 + k.val) hi.1.2.symm)
        show k.val = 0 * 64 + k.val
        omega
  have y1 : ys 1 = V (Proc.devRef .tc main_arg2) := by
    obtain ⟨d, h⟩ := hy 1 rfl
    exact h.trans (funext fun j => fill_whole (win0 1) t (whole0 t).1 d (V (Proc.devRef .tc main_arg2)) j fun a => (j a).isLt)
  have y2 : ys 2 = V (Proc.devRef .tc main_v0) := by
    obtain ⟨d, h⟩ := hy 2 rfl
    exact h.trans (funext fun j => fill_whole (win0 2) t (whole0 t).2 d (V (Proc.devRef .tc main_v0)) j fun a => (j a).isLt)
  have e := e (ix2 r j)
  rw [show ∀ i, (body0 (F := Ideal)).out i ys 3 = k0_pay1 i (ys 0) (ys 1) (ys 2) from fun _ => rfl, y1, y2] at e
  refine (congrFun (withArrays_arr (pn (F := Ideal) 0).spec launch0.win.arr_inj c V G 3) (ix2 q j)).trans ?_
  have hemb : (((win0 3).blk t).view.emb (ix2 r j) : S102400x64.Idx) = ix2 q j := by
    refine funext fun a => Fin.ext ?_
    match a with
    | ⟨0, _⟩ =>
      refine (Window.rect_emb_val (win0 3) t (ix2 r j) 0 rfl).trans ?_
      refine (congrArg (fun n => n * 6400 + r.val) hi.2.1.1).trans ?_
      show t.val * 6400 + r.val = q.val
      omega
    | ⟨1, _⟩ =>
      refine (Window.rect_emb_val (win0 3) t (ix2 r j) 1 rfl).trans ?_
      refine (congrArg (fun n => n * 64 + j.val) hi.2.1.2).trans ?_
      show 0 * 64 + j.val = j.val
      omega
  refine (congrArg (G 3) hemb.symm).trans (e.trans ?_)
  refine (transform_apply (grid0.coords t) (ys 0) _ _ r j (by rw [hi.2.2]; omega)).trans ?_
  simp only [y0]
  rfl

end Cert.KernelIdeal.Km

end
-- ==== Proof.Slots.lean ====
/- Straight lines of host operations over named slots: what a line does to the contents of its slots is computed on
   the contents alone, whichever buffers the slots are. -/
module

public import Idealize.ShloMosaic.Lib.StableHlo.Run
public import Idealize.ShloMosaic.Lib.Pipeline.Frame

@[expose] public section

noncomputable section

namespace Cert.Slots

open Idealize.ShloMosaic Idealize.ShloMosaic.TcCoe Idealize.ShloMosaic.StableHlo

variable {τ : Topo} {sig : RefSig} {Val : EltTy → Type} {ι : Type} [DecidableEq ι] {T : ι → BufTy}

/-- One operation over slots of the types `T`. -/
inductive Ins (Val : EltTy → Type) {ι : Type} (T : ι → BufTy)
  /-- a value -/
  | nul (j : ι) (v : (T j).Contents Val)
  /-- a function of one slot -/
  | un (i j : ι) (f : (T i).Contents Val → (T j).Contents Val)
  /-- a function of two -/
  | bin (a b j : ι) (f : (T a).Contents Val → (T b).Contents Val → (T j).Contents Val)
  /-- a function of three -/
  | ter (a b c j : ι) (f : (T a).Contents Val → (T b).Contents Val → (T c).Contents Val → (T j).Contents Val)
  /-- a function of four -/
  | qua (a b c d j : ι) (f : (T a).Contents Val → (T b).Contents Val → (T c).Contents Val → (T d).Contents Val → (T j).Contents Val)

/-- What it does to the slots' contents. -/
def Ins.act : Ins Val T → ((k : ι) → (T k).Contents Val) → (k : ι) → (T k).Contents Val
  | .nul j v, L => Function.update L j v
  | .un i j f, L => Function.update L j (f (L i))
  | .bin a b j f, L => Function.update L j (f (L a) (L b))
  | .ter a b c j f, L => Function.update L j (f (L a) (L b) (L c))
  | .qua a b c d j f, L => Function.update L j (f (L a) (L b) (L c) (L d))

/-- The operation, at the slots' buffers. -/
def Ins.op (B : (k : ι) → TRef sig (T k)) : Ins Val T → HloOp τ sig Val
  | .nul j v => TRef.nullary (B j) v
  | .un i j f => TRef.unary (B i) (B j) f
  | .bin a b j f => TRef.binary (B a) (B b) (B j) f
  | .ter a b c j f => TRef.ternary (B a) (B b) (B c) (B j) f
  | .qua a b c d j f => TRef.quaternary (B a) (B b) (B c) (B d) (B j) f

/-- The contents of the slots. -/
def loc (B : (k : ι) → TRef sig (T k)) (V : Valuation τ sig Val) (k : ι) : (T k).Contents Val :=
  (B k).ofBuf (V (Proc.devRef .tc (B k).ref))

/-- An operation that writes slot `j` alone. -/
theorem loc_result (B : (k : ι) → TRef sig (T k)) (hB : Function.Injective fun k => (B k).ref) (op : HloOp τ sig Val)
    (V : Valuation τ sig Val) (j : ι) (v : (T j).Contents Val)
    (hj : op.result V (Proc.devRef .tc (B j).ref) = (B j).toBuf v)
    (hr : ∀ r : Ref sig .tc, r ≠ (B j).ref → op.result V (Proc.devRef .tc r) = V (Proc.devRef .tc r)) :
    loc B (op.result V) = Function.update (loc B V) j v := by
  funext k
  by_cases h : k = j
  · subst h
    rw [Function.update_self, loc, hj]
    exact TRef.ofBuf_toBuf _ v
  · rw [Function.update_of_ne h, loc, hr _ fun e => h (hB e)]
    rfl

/-- The operation does to the slots' contents what is computed of them. -/
theorem Ins.loc_op (B : (k : ι) → TRef sig (T k)) (hB : Function.Injective fun k => (B k).ref) (V : Valuation τ sig Val) :
    ∀ i : Ins Val T, loc B ((i.op B).result V) = i.act (loc B V)
  | .nul j v => loc_result B hB _ V j _ (by unfold Ins.op; exact nullary_result ..) fun r h => by unfold Ins.op; exact nullary_result_ne (h := h) ..
  | .un i j f => loc_result B hB _ V j _ (by unfold Ins.op; exact unary_result ..) fun r h => by unfold Ins.op; exact unary_result_ne (h := h) ..
  | .bin a b j f => loc_result B hB _ V j _ (by unfold Ins.op; exact binary_result ..) fun r h => by unfold Ins.op; exact binary_result_ne (h := h) ..
  | .ter a b c j f => loc_result B hB _ V j _ (by unfold Ins.op; exact ternary_result ..) fun r h => by unfold Ins.op; exact ternary_result_ne (h := h) ..
  | .qua a b c d j f => loc_result B hB _ V j _ (by unfold Ins.op; exact quaternary_result ..) fun r h => by unfold Ins.op; exact quaternary_result_ne (h := h) ..

/-- It leaves every other buffer alone. -/
theorem Ins.keep_op (B : (k : ι) → TRef sig (T k)) (V : Valuation τ sig Val) (r : Ref sig .tc) (hr : ∀ k, r ≠ (B k).ref) :
    ∀ i : Ins Val T, (i.op B).result V (Proc.devRef .tc r) = V (Proc.devRef .tc r)
  | .nul j v => by unfold Ins.op; exact nullary_result_ne (h := hr j) ..
  | .un i j f => by unfold Ins.op; exact unary_result_ne (h := hr j) ..
  | .bin a b j f => by unfold Ins.op; exact binary_result_ne (h := hr j) ..
  | .ter a b c j f => by unfold Ins.op; exact ternary_result_ne (h := hr j) ..
  | .qua a b c d j f => by unfold Ins.op; exact quaternary_result_ne (h := hr j) ..

/-- The operations of a line of them. -/
def line (B : (k : ι) → TRef sig (T k)) (l : List (Ins Val T)) : List (HloOp τ sig Val) := l.map (Ins.op B)

/-- What the line does to the slots' contents. -/
def acts (l : List (Ins Val T)) (L : (k : ι) → (T k).Contents Val) : (k : ι) → (T k).Contents Val := l.foldl (fun L i => i.act L) L

/-- The line does to the slots' contents what is computed of them. -/
theorem loc_line (B : (k : ι) → TRef sig (T k)) (hB : Function.Injective fun k => (B k).ref) :
    ∀ (l : List (Ins Val T)) (V : Valuation τ sig Val), loc B (after (line B l) V) = acts l (loc B V)
  | [], _ => rfl
  | i :: l, V => (loc_line B hB l ((i.op B).result V)).trans (congrArg (acts l) (i.loc_op B hB V))

/-- It leaves every other buffer alone. -/
theorem keep_line (B : (k : ι) → TRef sig (T k)) (r : Ref sig .tc) (hr : ∀ k, r ≠ (B k).ref) :
    ∀ (l : List (Ins Val T)) (V : Valuation τ sig Val), after (line B l) V (Proc.devRef .tc r) = V (Proc.devRef .tc r)
  | [], _ => rfl
  | i :: l, V => (keep_line B r hr l ((i.op B).result V)).trans (i.keep_op B V r hr)

/-- It works on the device's buffers -/
theorem line_sub (B : (k : ι) → TRef sig (T k)) (l : List (Ins Val T)) : (line (τ := τ) B l).Forall fun op => op.bufs ⊆ tcRefs τ sig :=
  List.forall_iff_forall_mem.mpr fun op h => by
    obtain ⟨i, -, rfl⟩ := List.mem_map.mp h
    cases i <;> unfold Ins.op
    · exact nullary_bufs_sub (hy := TRef.dev _) ..
    · exact unary_bufs_sub (hx := TRef.dev _) (hy := TRef.dev _) ..
    · exact binary_bufs_sub (ha := TRef.dev _) (hb := TRef.dev _) (hy := TRef.dev _) ..
    · exact ternary_bufs_sub (hc := TRef.dev _) (ha := TRef.dev _) (hb := TRef.dev _) (hy := TRef.dev _) ..
    · exact quaternary_bufs_sub (ha := TRef.dev _) (hb := TRef.dev _) (hc := TRef.dev _) (he' := TRef.dev _) (hy := TRef.dev _) ..

/-- and allocates none. -/
theorem line_fresh (B : (k : ι) → TRef sig (T k)) (l : List (Ins Val T)) : ∀ op ∈ line (τ := τ) B l, op.fresh = ∅ := fun op h => by
  obtain ⟨i, -, rfl⟩ := List.mem_map.mp h
  cases i <;> rfl

end Cert.Slots

end
-- ==== Proof.RefIter.lean ====
/- One iteration of the reference: labels, sums, counts and the next centroids, at any buffers; then the ten. -/
module

public import proofs.«01_k».proof.Proof.Slots
public import proofs.«01_k».proof.ReferenceIdeal
public import proofs.«01_k».proof.Proof.Gen.ReferenceIdeal

@[expose] public section

set_option maxRecDepth 16384

noncomputable section

namespace Cert.ReferenceIdeal.Km

open Cert.ReferenceIdeal Cert.ReferenceIdeal.Gen Cert.Slots Idealize.ShloMosaic Idealize.ShloMosaic.TcCoe Idealize.ShloMosaic.StableHlo

variable {F : FTy → Type} [FloatOps F]

/-- The values of an iteration. -/
inductive ISlot
  | x | c | v11 | cst_0 | v12 | v13 | cst_1 | v14 | v15 | v16 | v17 | cst_2 | v18 | v19 | v20 | v21 | v22 | v23 | v24 | cols | inf | zero | least | lab | cst_3 | v26 | v27 | v28 | cst_4 | v29 | cst_5 | v30 | v31 | v32 | cst_6 | v33 | v34 | v35 | v36 | next
  deriving DecidableEq

/-- All of them. -/
abbrev ISlot.all : List ISlot := [.x, .c, .v11, .cst_0, .v12, .v13, .cst_1, .v14, .v15, .v16, .v17, .cst_2, .v18, .v19, .v20, .v21, .v22, .v23, .v24, .cols, .inf, .zero, .least, .lab, .cst_3, .v26, .v27, .v28, .cst_4, .v29, .cst_5, .v30, .v31, .v32, .cst_6, .v33, .v34, .v35, .v36, .next]

/-- Their types. -/
abbrev ISlot.T : ISlot → BufTy
  | .x => ⟨S100000x64, .f32⟩
  | .c => ⟨S64x64, .f32⟩
  | .v11 => ⟨S100000x64, .f32⟩
  | .cst_0 => ⟨S_, .f32⟩
  | .v12 => ⟨S100000, .f32⟩
  | .v13 => ⟨S64x64, .f32⟩
  | .cst_1 => ⟨S_, .f32⟩
  | .v14 => ⟨S64, .f32⟩
  | .v15 => ⟨S100000x1, .f32⟩
  | .v16 => ⟨S64x64, .f32⟩
  | .v17 => ⟨S100000x64, .f32⟩
  | .cst_2 => ⟨S_, .f32⟩
  | .v18 => ⟨S100000x64, .f32⟩
  | .v19 => ⟨S100000x64, .f32⟩
  | .v20 => ⟨S100000x64, .f32⟩
  | .v21 => ⟨S100000x64, .f32⟩
  | .v22 => ⟨S1x64, .f32⟩
  | .v23 => ⟨S100000x64, .f32⟩
  | .v24 => ⟨S100000x64, .f32⟩
  | .cols => ⟨S100000x64, .i32⟩
  | .inf => ⟨S_, .f32⟩
  | .zero => ⟨S_, .i32⟩
  | .least => ⟨S100000, .f32⟩
  | .lab => ⟨S100000, .i32⟩
  | .cst_3 => ⟨S_, .f32⟩
  | .v26 => ⟨S64x64, .f32⟩
  | .v27 => ⟨S100000x1, .i32⟩
  | .v28 => ⟨S64x64, .f32⟩
  | .cst_4 => ⟨S_, .f32⟩
  | .v29 => ⟨S100000, .f32⟩
  | .cst_5 => ⟨S_, .f32⟩
  | .v30 => ⟨S64, .f32⟩
  | .v31 => ⟨S100000x1, .i32⟩
  | .v32 => ⟨S64, .f32⟩
  | .cst_6 => ⟨S_, .f32⟩
  | .v33 => ⟨S64, .f32⟩
  | .v34 => ⟨S64, .f32⟩
  | .v35 => ⟨S64x1, .f32⟩
  | .v36 => ⟨S64x64, .f32⟩
  | .next => ⟨S64x64, .f32⟩

/-- Its operations. -/
noncomputable def iterIns : List (Ins (Elt F) ISlot.T) :=
  [ .bin .x .x .v11 (mulf : (⟨S100000x64, .f32⟩ : BufTy).Contents (Elt F) → (⟨S100000x64, .f32⟩ : BufTy).Contents (Elt F) → (⟨S100000x64, .f32⟩ : BufTy).Contents (Elt F)),
    .nul .cst_0 (constant S_ .f32 0x00000000#32),
    .bin .v11 .cst_0 .v12 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    .bin .c .c .v13 (mulf : (⟨S64x64, .f32⟩ : BufTy).Contents (Elt F) → (⟨S64x64, .f32⟩ : BufTy).Contents (Elt F) → (⟨S64x64, .f32⟩ : BufTy).Contents (Elt F)),
    .nul .cst_1 (constant S_ .f32 0x00000000#32),
    .bin .v13 .cst_1 .v14 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    .un .v12 .v15 (broadcastInDim S100000x1 ![0] bcast_S100000_S100000x1_0 : (⟨S100000, .f32⟩ : BufTy).Contents (Elt F) → (⟨S100000x1, .f32⟩ : BufTy).Contents (Elt F)),
    .un .c .v16 ((transpose S64x64 [1, 0] · transposes_S64x64_S64x64_1_0) : (⟨S64x64, .f32⟩ : BufTy).Contents (Elt F) → (⟨S64x64, .f32⟩ : BufTy).Contents (Elt F)),
    .bin .x .v16 .v17 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    .nul .cst_2 (constant S_ .f32 0x40000000#32),
    .un .cst_2 .v18 (broadcastInDim S100000x64 ![] bcast_S_S100000x64 : (⟨S_, .f32⟩ : BufTy).Contents (Elt F) → (⟨S100000x64, .f32⟩ : BufTy).Contents (Elt F)),
    .bin .v18 .v17 .v19 (mulf : (⟨S100000x64, .f32⟩ : BufTy).Contents (Elt F) → (⟨S100000x64, .f32⟩ : BufTy).Contents (Elt F) → (⟨S100000x64, .f32⟩ : BufTy).Contents (Elt F)),
    .un .v15 .v20 (broadcastInDim S100000x64 ![0, 1] bcast_S100000x1_S100000x64_0_1 : (⟨S100000x1, .f32⟩ : BufTy).Contents (Elt F) → (⟨S100000x64, .f32⟩ : BufTy).Contents (Elt F)),
    .bin .v20 .v19 .v21 (subf : (⟨S100000x64, .f32⟩ : BufTy).Contents (Elt F) → (⟨S100000x64, .f32⟩ : BufTy).Contents (Elt F) → (⟨S100000x64, .f32⟩ : BufTy).Contents (Elt F)),
    .un .v14 .v22 (broadcastInDim S1x64 ![1] bcast_S64_S1x64_1 : (⟨S64, .f32⟩ : BufTy).Contents (Elt F) → (⟨S1x64, .f32⟩ : BufTy).Contents (Elt F)),
    .un .v22 .v23 (broadcastInDim S100000x64 ![0, 1] bcast_S1x64_S100000x64_0_1 : (⟨S1x64, .f32⟩ : BufTy).Contents (Elt F) → (⟨S100000x64, .f32⟩ : BufTy).Contents (Elt F)),
    .bin .v21 .v23 .v24 (addf : (⟨S100000x64, .f32⟩ : BufTy).Contents (Elt F) → (⟨S100000x64, .f32⟩ : BufTy).Contents (Elt F) → (⟨S100000x64, .f32⟩ : BufTy).Contents (Elt F)),
    .nul .cols (iotaInDim S100000x64 32 1),
    .nul .inf (constant S_ .f32 0x7F800000#32),
    .nul .zero (constantI S_ 32 0#32),
    .qua .v24 .cols .inf .zero .least (fun x y u v j => (Host.argReduce reducer_argmin_f32_i32 x y u v reducesTo_S100000x64_S100000_d1 h_S_ j).1),
    .qua .v24 .cols .inf .zero .lab (fun x y u v j => (Host.argReduce reducer_argmin_f32_i32 x y u v reducesTo_S100000x64_S100000_d1 h_S_ j).2),
    .nul .cst_3 (constant S_ .f32 0x00000000#32),
    .un .cst_3 .v26 (broadcastInDim S64x64 ![] bcast_S_S64x64 : (⟨S_, .f32⟩ : BufTy).Contents (Elt F) → (⟨S64x64, .f32⟩ : BufTy).Contents (Elt F)),
    .un .lab .v27 (broadcastInDim S100000x1 ![0] bcast_S100000_S100000x1_0 : (⟨S100000, .i32⟩ : BufTy).Contents (Elt F) → (⟨S100000x1, .i32⟩ : BufTy).Contents (Elt F)),
    .ter .v26 .v27 .x .v28 ((fun x i u => Host.scatterAdd scatter_S64x64_S100000x1_S100000x64_1_0_0_1 x i u) : (⟨S64x64, .f32⟩ : BufTy).Contents (Elt F) → (⟨S100000x1, .i32⟩ : BufTy).Contents (Elt F) → (⟨S100000x64, .f32⟩ : BufTy).Contents (Elt F) → (⟨S64x64, .f32⟩ : BufTy).Contents (Elt F)),
    .nul .cst_4 (constant S_ .f32 0x3F800000#32),
    .un .cst_4 .v29 (broadcastInDim S100000 ![] bcast_S_S100000 : (⟨S_, .f32⟩ : BufTy).Contents (Elt F) → (⟨S100000, .f32⟩ : BufTy).Contents (Elt F)),
    .nul .cst_5 (constant S_ .f32 0x00000000#32),
    .un .cst_5 .v30 (broadcastInDim S64 ![] bcast_S_S64 : (⟨S_, .f32⟩ : BufTy).Contents (Elt F) → (⟨S64, .f32⟩ : BufTy).Contents (Elt F)),
    .un .lab .v31 (broadcastInDim S100000x1 ![0] bcast_S100000_S100000x1_0 : (⟨S100000, .i32⟩ : BufTy).Contents (Elt F) → (⟨S100000x1, .i32⟩ : BufTy).Contents (Elt F)),
    .ter .v30 .v31 .v29 .v32 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    .nul .cst_6 (constant S_ .f32 0x3F800000#32),
    .un .cst_6 .v33 (broadcastInDim S64 ![] bcast_S_S64 : (⟨S_, .f32⟩ : BufTy).Contents (Elt F) → (⟨S64, .f32⟩ : BufTy).Contents (Elt F)),
    .bin .v32 .v33 .v34 (maximumf : (⟨S64, .f32⟩ : BufTy).Contents (Elt F) → (⟨S64, .f32⟩ : BufTy).Contents (Elt F) → (⟨S64, .f32⟩ : BufTy).Contents (Elt F)),
    .un .v34 .v35 (broadcastInDim S64x1 ![0] bcast_S64_S64x1_0 : (⟨S64, .f32⟩ : BufTy).Contents (Elt F) → (⟨S64x1, .f32⟩ : BufTy).Contents (Elt F)),
    .un .v35 .v36 (broadcastInDim S64x64 ![0, 1] bcast_S64x1_S64x64_0_1 : (⟨S64x1, .f32⟩ : BufTy).Contents (Elt F) → (⟨S64x64, .f32⟩ : BufTy).Contents (Elt F)),
    .bin .v28 .v36 .next (Host.divf : (⟨S64x64, .f32⟩ : BufTy).Contents (Elt F) → (⟨S64x64, .f32⟩ : BufTy).Contents (Elt F) → (⟨S64x64, .f32⟩ : BufTy).Contents (Elt F)) ]

/-- Where the values of iteration 1 lie. -/
noncomputable def iterTab1 : (s : ISlot) → TRef sig s.T
  | .x => .of main_v8
  | .c => .of main_v9
  | .v11 => .of main_v11
  | .cst_0 => .of main_cst_0
  | .v12 => .of main_v12
  | .v13 => .of main_v13
  | .cst_1 => .of main_cst_1
  | .v14 => .of main_v14
  | .v15 => .of main_v15
  | .v16 => .of main_v16
  | .v17 => .of main_v17
  | .cst_2 => .of main_cst_2
  | .v18 => .of main_v18
  | .v19 => .of main_v19
  | .v20 => .of main_v20
  | .v21 => .of main_v21
  | .v22 => .of main_v22
  | .v23 => .of main_v23
  | .v24 => .of main_v24
  | .cols => .of main_call1_v0
  | .inf => .of main_call1_cst
  | .zero => .of main_call1_c
  | .least => .of main_call1_v1_0
  | .lab => .of main_v25
  | .cst_3 => .of main_cst_3
  | .v26 => .of main_v26
  | .v27 => .of main_v27
  | .v28 => .of main_v28
  | .cst_4 => .of main_cst_4
  | .v29 => .of main_v29
  | .cst_5 => .of main_cst_5
  | .v30 => .of main_v30
  | .v31 => .of main_v31
  | .v32 => .of main_v32
  | .cst_6 => .of main_cst_6
  | .v33 => .of main_v33
  | .v34 => .of main_v34
  | .v35 => .of main_v35
  | .v36 => .of main_v36
  | .next => .of main_v37

/-- Where the values of iteration 2 lie. -/
noncomputable def iterTab2 : (s : ISlot) → TRef sig s.T
  | .x => .of main_v8
  | .c => .of main_v37
  | .v11 => .of main_v38
  | .cst_0 => .of main_cst_7
  | .v12 => .of main_v39
  | .v13 => .of main_v40
  | .cst_1 => .of main_cst_8
  | .v14 => .of main_v41
  | .v15 => .of main_v42
  | .v16 => .of main_v43
  | .v17 => .of main_v44
  | .cst_2 => .of main_cst_9
  | .v18 => .of main_v45
  | .v19 => .of main_v46
  | .v20 => .of main_v47
  | .v21 => .of main_v48
  | .v22 => .of main_v49
  | .v23 => .of main_v50
  | .v24 => .of main_v51
  | .cols => .of main_call2_v0
  | .inf => .of main_call2_cst
  | .zero => .of main_call2_c
  | .least => .of main_call2_v1_0
  | .lab => .of main_v52
  | .cst_3 => .of main_cst_10
  | .v26 => .of main_v53
  | .v27 => .of main_v54
  | .v28 => .of main_v55
  | .cst_4 => .of main_cst_11
  | .v29 => .of main_v56
  | .cst_5 => .of main_cst_12
  | .v30 => .of main_v57
  | .v31 => .of main_v58
  | .v32 => .of main_v59
  | .cst_6 => .of main_cst_13
  | .v33 => .of main_v60
  | .v34 => .of main_v61
  | .v35 => .of main_v62
  | .v36 => .of main_v63
  | .next => .of main_v64

/-- Where the values of iteration 3 lie. -/
noncomputable def iterTab3 : (s : ISlot) → TRef sig s.T
  | .x => .of main_v8
  | .c => .of main_v64
  | .v11 => .of main_v65
  | .cst_0 => .of main_cst_14
  | .v12 => .of main_v66
  | .v13 => .of main_v67
  | .cst_1 => .of main_cst_15
  | .v14 => .of main_v68
  | .v15 => .of main_v69
  | .v16 => .of main_v70
  | .v17 => .of main_v71
  | .cst_2 => .of main_cst_16
  | .v18 => .of main_v72
  | .v19 => .of main_v73
  | .v20 => .of main_v74
  | .v21 => .of main_v75
  | .v22 => .of main_v76
  | .v23 => .of main_v77
  | .v24 => .of main_v78
  | .cols => .of main_call3_v0
  | .inf => .of main_call3_cst
  | .zero => .of main_call3_c
  | .least => .of main_call3_v1_0
  | .lab => .of main_v79
  | .cst_3 => .of main_cst_17
  | .v26 => .of main_v80
  | .v27 => .of main_v81
  | .v28 => .of main_v82
  | .cst_4 => .of main_cst_18
  | .v29 => .of main_v83
  | .cst_5 => .of main_cst_19
  | .v30 => .of main_v84
  | .v31 => .of main_v85
  | .v32 => .of main_v86
  | .cst_6 => .of main_cst_20
  | .v33 => .of main_v87
  | .v34 => .of main_v88
  | .v35 => .of main_v89
  | .v36 => .of main_v90
  | .next => .of main_v91

/-- Where the values of iteration 4 lie. -/
noncomputable def iterTab4 : (s : ISlot) → TRef sig s.T
  | .x => .of main_v8
  | .c => .of main_v91
  | .v11 => .of main_v92
  | .cst_0 => .of main_cst_21
  | .v12 => .of main_v93
  | .v13 => .of main_v94
  | .cst_1 => .of main_cst_22
  | .v14 => .of main_v95
  | .v15 => .of main_v96
  | .v16 => .of main_v97
  | .v17 => .of main_v98
  | .cst_2 => .of main_cst_23
  | .v18 => .of main_v99
  | .v19 => .of main_v100
  | .v20 => .of main_v101
  | .v21 => .of main_v102
  | .v22 => .of main_v103
  | .v23 => .of main_v104
  | .v24 => .of main_v105
  | .cols => .of main_call4_v0
  | .inf => .of main_call4_cst
  | .zero => .of main_call4_c
  | .least => .of main_call4_v1_0
  | .lab => .of main_v106
  | .cst_3 => .of main_cst_24
  | .v26 => .of main_v107
  | .v27 => .of main_v108
  | .v28 => .of main_v109
  | .cst_4 => .of main_cst_25
  | .v29 => .of main_v110
  | .cst_5 => .of main_cst_26
  | .v30 => .of main_v111
  | .v31 => .of main_v112
  | .v32 => .of main_v113
  | .cst_6 => .of main_cst_27
  | .v33 => .of main_v114
  | .v34 => .of main_v115
  | .v35 => .of main_v116
  | .v36 => .of main_v117
  | .next => .of main_v118

/-- Where the values of iteration 5 lie. -/
noncomputable def iterTab5 : (s : ISlot) → TRef sig s.T
  | .x => .of main_v8
  | .c => .of main_v118
  | .v11 => .of main_v119
  | .cst_0 => .of main_cst_28
  | .v12 => .of main_v120
  | .v13 => .of main_v121
  | .cst_1 => .of main_cst_29
  | .v14 => .of main_v122
  | .v15 => .of main_v123
  | .v16 => .of main_v124
  | .v17 => .of main_v125
  | .cst_2 => .of main_cst_30
  | .v18 => .of main_v126
  | .v19 => .of main_v127
  | .v20 => .of main_v128
  | .v21 => .of main_v129
  | .v22 => .of main_v130
  | .v23 => .of main_v131
  | .v24 => .of main_v132
  | .cols => .of main_call5_v0
  | .inf => .of main_call5_cst
  | .zero => .of main_call5_c
  | .least => .of main_call5_v1_0
  | .lab => .of main_v133
  | .cst_3 => .of main_cst_31
  | .v26 => .of main_v134
  | .v27 => .of main_v135
  | .v28 => .of main_v136
  | .cst_4 => .of main_cst_32
  | .v29 => .of main_v137
  | .cst_5 => .of main_cst_33
  | .v30 => .of main_v138
  | .v31 => .of main_v139
  | .v32 => .of main_v140
  | .cst_6 => .of main_cst_34
  | .v33 => .of main_v141
  | .v34 => .of main_v142
  | .v35 => .of main_v143
  | .v36 => .of main_v144
  | .next => .of main_v145

/-- Where the values of iteration 6 lie. -/
noncomputable def iterTab6 : (s : ISlot) → TRef sig s.T
  | .x => .of main_v8
  | .c => .of main_v145
  | .v11 => .of main_v146
  | .cst_0 => .of main_cst_35
  | .v12 => .of main_v147
  | .v13 => .of main_v148
  | .cst_1 => .of main_cst_36
  | .v14 => .of main_v149
  | .v15 => .of main_v150
  | .v16 => .of main_v151
  | .v17 => .of main_v152
  | .cst_2 => .of main_cst_37
  | .v18 => .of main_v153
  | .v19 => .of main_v154
  | .v20 => .of main_v155
  | .v21 => .of main_v156
  | .v22 => .of main_v157
  | .v23 => .of main_v158
  | .v24 => .of main_v159
  | .cols => .of main_call6_v0
  | .inf => .of main_call6_cst
  | .zero => .of main_call6_c
  | .least => .of main_call6_v1_0
  | .lab => .of main_v160
  | .cst_3 => .of main_cst_38
  | .v26 => .of main_v161
  | .v27 => .of main_v162
  | .v28 => .of main_v163
  | .cst_4 => .of main_cst_39
  | .v29 => .of main_v164
  | .cst_5 => .of main_cst_40
  | .v30 => .of main_v165
  | .v31 => .of main_v166
  | .v32 => .of main_v167
  | .cst_6 => .of main_cst_41
  | .v33 => .of main_v168
  | .v34 => .of main_v169
  | .v35 => .of main_v170
  | .v36 => .of main_v171
  | .next => .of main_v172

/-- Where the values of iteration 7 lie. -/
noncomputable def iterTab7 : (s : ISlot) → TRef sig s.T
  | .x => .of main_v8
  | .c => .of main_v172
  | .v11 => .of main_v173
  | .cst_0 => .of main_cst_42
  | .v12 => .of main_v174
  | .v13 => .of main_v175
  | .cst_1 => .of main_cst_43
  | .v14 => .of main_v176
  | .v15 => .of main_v177
  | .v16 => .of main_v178
  | .v17 => .of main_v179
  | .cst_2 => .of main_cst_44
  | .v18 => .of main_v180
  | .v19 => .of main_v181
  | .v20 => .of main_v182
  | .v21 => .of main_v183
  | .v22 => .of main_v184
  | .v23 => .of main_v185
  | .v24 => .of main_v186
  | .cols => .of main_call7_v0
  | .inf => .of main_call7_cst
  | .zero => .of main_call7_c
  | .least => .of main_call7_v1_0
  | .lab => .of main_v187
  | .cst_3 => .of main_cst_45
  | .v26 => .of main_v188
  | .v27 => .of main_v189
  | .v28 => .of main_v190
  | .cst_4 => .of main_cst_46
  | .v29 => .of main_v191
  | .cst_5 => .of main_cst_47
  | .v30 => .of main_v192
  | .v31 => .of main_v193
  | .v32 => .of main_v194
  | .cst_6 => .of main_cst_48
  | .v33 => .of main_v195
  | .v34 => .of main_v196
  | .v35 => .of main_v197
  | .v36 => .of main_v198
  | .next => .of main_v199

/-- Where the values of iteration 8 lie. -/
noncomputable def iterTab8 : (s : ISlot) → TRef sig s.T
  | .x => .of main_v8
  | .c => .of main_v199
  | .v11 => .of main_v200
  | .cst_0 => .of main_cst_49
  | .v12 => .of main_v201
  | .v13 => .of main_v202
  | .cst_1 => .of main_cst_50
  | .v14 => .of main_v203
  | .v15 => .of main_v204
  | .v16 => .of main_v205
  | .v17 => .of main_v206
  | .cst_2 => .of main_cst_51
  | .v18 => .of main_v207
  | .v19 => .of main_v208
  | .v20 => .of main_v209
  | .v21 => .of main_v210
  | .v22 => .of main_v211
  | .v23 => .of main_v212
  | .v24 => .of main_v213
  | .cols => .of main_call8_v0
  | .inf => .of main_call8_cst
  | .zero => .of main_call8_c
  | .least => .of main_call8_v1_0
  | .lab => .of main_v214
  | .cst_3 => .of main_cst_52
  | .v26 => .of main_v215
  | .v27 => .of main_v216
  | .v28 => .of main_v217
  | .cst_4 => .of main_cst_53
  | .v29 => .of main_v218
  | .cst_5 => .of main_cst_54
  | .v30 => .of main_v219
  | .v31 => .of main_v220
  | .v32 => .of main_v221
  | .cst_6 => .of main_cst_55
  | .v33 => .of main_v222
  | .v34 => .of main_v223
  | .v35 => .of main_v224
  | .v36 => .of main_v225
  | .next => .of main_v226

/-- Where the values of iteration 9 lie. -/
noncomputable def iterTab9 : (s : ISlot) → TRef sig s.T
  | .x => .of main_v8
  | .c => .of main_v226
  | .v11 => .of main_v227
  | .cst_0 => .of main_cst_56
  | .v12 => .of main_v228
  | .v13 => .of main_v229
  | .cst_1 => .of main_cst_57
  | .v14 => .of main_v230
  | .v15 => .of main_v231
  | .v16 => .of main_v232
  | .v17 => .of main_v233
  | .cst_2 => .of main_cst_58
  | .v18 => .of main_v234
  | .v19 => .of main_v235
  | .v20 => .of main_v236
  | .v21 => .of main_v237
  | .v22 => .of main_v238
  | .v23 => .of main_v239
  | .v24 => .of main_v240
  | .cols => .of main_call9_v0
  | .inf => .of main_call9_cst
  | .zero => .of main_call9_c
  | .least => .of main_call9_v1_0
  | .lab => .of main_v241
  | .cst_3 => .of main_cst_59
  | .v26 => .of main_v242
  | .v27 => .of main_v243
  | .v28 => .of main_v244
  | .cst_4 => .of main_cst_60
  | .v29 => .of main_v245
  | .cst_5 => .of main_cst_61
  | .v30 => .of main_v246
  | .v31 => .of main_v247
  | .v32 => .of main_v248
  | .cst_6 => .of main_cst_62
  | .v33 => .of main_v249
  | .v34 => .of main_v250
  | .v35 => .of main_v251
  | .v36 => .of main_v252
  | .next => .of main_v253

/-- Where the values of iteration 10 lie. -/
noncomputable def iterTab10 : (s : ISlot) → TRef sig s.T
  | .x => .of main_v8
  | .c => .of main_v253
  | .v11 => .of main_v254
  | .cst_0 => .of main_cst_63
  | .v12 => .of main_v255
  | .v13 => .of main_v256
  | .cst_1 => .of main_cst_64
  | .v14 => .of main_v257
  | .v15 => .of main_v258
  | .v16 => .of main_v259
  | .v17 => .of main_v260
  | .cst_2 => .of main_cst_65
  | .v18 => .of main_v261
  | .v19 => .of main_v262
  | .v20 => .of main_v263
  | .v21 => .of main_v264
  | .v22 => .of main_v265
  | .v23 => .of main_v266
  | .v24 => .of main_v267
  | .cols => .of main_call10_v0
  | .inf => .of main_call10_cst
  | .zero => .of main_call10_c
  | .least => .of main_call10_v1_0
  | .lab => .of main_v268
  | .cst_3 => .of main_cst_66
  | .v26 => .of main_v269
  | .v27 => .of main_v270
  | .v28 => .of main_v271
  | .cst_4 => .of main_cst_67
  | .v29 => .of main_v272
  | .cst_5 => .of main_cst_68
  | .v30 => .of main_v273
  | .v31 => .of main_v274
  | .v32 => .of main_v275
  | .cst_6 => .of main_cst_69
  | .v33 => .of main_v276
  | .v34 => .of main_v277
  | .v35 => .of main_v278
  | .v36 => .of main_v279
  | .next => .of main_v280

/-- The ten iterations' buffers. -/
noncomputable def iterTabs : List ((s : ISlot) → TRef sig s.T) := [iterTab1, iterTab2, iterTab3, iterTab4, iterTab5, iterTab6, iterTab7, iterTab8, iterTab9, iterTab10]

/-- Every value is listed. -/
theorem ISlot.mem_all (s : ISlot) : s ∈ ISlot.all := by cases s <;> decide

/-- Within an iteration the buffers are distinct. -/
theorem iterTabs_inj : ∀ B ∈ iterTabs, Function.Injective fun s => (B s).ref := by
  have h : ∀ B ∈ iterTabs, (ISlot.all.map fun s => (B s).ref.idx.val).Nodup := by
    simp only [iterTabs, List.forall_mem_cons]
    exact ⟨by decide +kernel, by decide +kernel, by decide +kernel, by decide +kernel, by decide +kernel, by decide +kernel,
      by decide +kernel, by decide +kernel, by decide +kernel, by decide +kernel, nofun⟩
  exact fun B hB s t e => List.inj_on_of_nodup_map (h B hB) (ISlot.mem_all s) (ISlot.mem_all t) (congrArg (fun r : Ref sig .tc => r.idx.val) e)

end Cert.ReferenceIdeal.Km

end
-- ==== Proof.Ssa.lean ====
/- Lines of operations each of whose slots is written once and only then read: at the end every operation's equation
   holds of the final contents. -/
module

public import proofs.«01_k».proof.Proof.Slots

@[expose] public section

noncomputable section

namespace Cert.Slots

open Idealize.ShloMosaic

variable {Val : EltTy → Type} {ι : Type} [DecidableEq ι] {T : ι → BufTy}

/-- The slot it writes. -/
def Ins.out : Ins Val T → ι
  | .nul j _ => j
  | .un _ j _ => j
  | .bin _ _ j _ => j
  | .ter _ _ _ j _ => j
  | .qua _ _ _ _ j _ => j

/-- The slots it reads. -/
def Ins.reads : Ins Val T → List ι
  | .nul _ _ => []
  | .un i _ _ => [i]
  | .bin a b _ _ => [a, b]
  | .ter a b c _ _ => [a, b, c]
  | .qua a b c d _ _ => [a, b, c, d]

/-- Its equation, of the contents `S`. -/
def Ins.holds (S : (k : ι) → (T k).Contents Val) : Ins Val T → Prop
  | .nul j v => S j = v
  | .un i j f => S j = f (S i)
  | .bin a b j f => S j = f (S a) (S b)
  | .ter a b c j f => S j = f (S a) (S b) (S c)
  | .qua a b c d j f => S j = f (S a) (S b) (S c) (S d)

/-- No operation after this one writes what it reads or writes, and it does not write what it reads. -/
def once : List (Ins Val T) → Bool
  | [] => true
  | i :: l => !i.reads.contains i.out && (l.all fun o => !(i.out :: i.reads).contains o.out) && once l

/-- A slot that no operation writes keeps its contents. -/
theorem acts_keep (k : ι) : ∀ (l : List (Ins Val T)) (L : (k : ι) → (T k).Contents Val),
    (∀ o ∈ l, o.out ≠ k) → acts l L k = L k
  | [], _, _ => rfl
  | i :: l, L, h => by
    have h1 : acts (i :: l) L k = acts l (i.act L) k := rfl
    rw [h1, acts_keep k l _ fun o ho => h o (List.mem_cons_of_mem _ ho)]
    have h2 := (h i List.mem_cons_self).symm
    cases i <;> exact Function.update_of_ne h2 _ _

/-- An operation's equation holds right after it. -/
theorem Ins.act_holds (i : Ins Val T) (L : (k : ι) → (T k).Contents Val) (h : i.out ∉ i.reads) : i.holds (i.act L) := by
  cases i with
  | nul j v => exact Function.update_self _ _ _
  | un a j f =>
    have h1 : a ≠ j := fun e => h (by subst e; exact List.mem_cons_self)
    simp only [Ins.holds, Ins.act, Function.update_self, Function.update_of_ne h1]
  | bin a b j f =>
    have h1 : a ≠ j := fun e => h (by subst e; simp [Ins.out, Ins.reads])
    have h2 : b ≠ j := fun e => h (by subst e; simp [Ins.out, Ins.reads])
    simp only [Ins.holds, Ins.act, Function.update_self, Function.update_of_ne h1, Function.update_of_ne h2]
  | ter a b c j f =>
    have h1 : a ≠ j := fun e => h (by subst e; simp [Ins.out, Ins.reads])
    have h2 : b ≠ j := fun e => h (by subst e; simp [Ins.out, Ins.reads])
    have h3 : c ≠ j := fun e => h (by subst e; simp [Ins.out, Ins.reads])
    simp only [Ins.holds, Ins.act, Function.update_self, Function.update_of_ne h1, Function.update_of_ne h2, Function.update_of_ne h3]
  | qua a b c d j f =>
    have h1 : a ≠ j := fun e => h (by subst e; simp [Ins.out, Ins.reads])
    have h2 : b ≠ j := fun e => h (by subst e; simp [Ins.out, Ins.reads])
    have h3 : c ≠ j := fun e => h (by subst e; simp [Ins.out, Ins.reads])
    have h4 : d ≠ j := fun e => h (by subst e; simp [Ins.out, Ins.reads])
    simp only [Ins.holds, Ins.act, Function.update_self, Function.update_of_ne h1, Function.update_of_ne h2, Function.update_of_ne h3, Function.update_of_ne h4]

/-- An equation speaks of the operation's own slots only. -/
theorem Ins.holds_congr (i : Ins Val T) (S S' : (k : ι) → (T k).Contents Val)
    (h : ∀ k ∈ i.out :: i.reads, S k = S' k) (hs : i.holds S') : i.holds S := by
  cases i <;> simp only [Ins.holds, Ins.out, Ins.reads, List.mem_cons, List.not_mem_nil, or_false, forall_eq_or_imp, forall_eq] at h hs ⊢ <;> simp only [h, hs]

/-- At the end of a line all its equations hold. -/
theorem acts_holds : ∀ (l : List (Ins Val T)) (L : (k : ι) → (T k).Contents Val), once l = true → ∀ i ∈ l, i.holds (acts l L)
  | [], _, _, _, hi => absurd hi List.not_mem_nil
  | a :: l, L, h, i, hi => by
    simp only [once, Bool.and_eq_true, Bool.not_eq_true', List.all_eq_true] at h
    obtain ⟨⟨h1, h2⟩, h3⟩ := h
    rcases List.mem_cons.mp hi with rfl | hi
    · refine i.holds_congr _ (i.act L) (fun k hk => ?_) (i.act_holds L (by simpa using h1))
      refine acts_keep k l (i.act L) fun o ho e => ?_
      have := h2 o ho
      rw [e] at this
      rw [List.contains_iff_mem.mpr hk] at this
      cases this
    · exact acts_holds l _ h3 i hi

/-- The equations, as one list. -/
theorem acts_forall (l : List (Ins Val T)) (L : (k : ι) → (T k).Contents Val) (h : once l = true) :
    l.Forall fun i => i.holds (acts l L) :=
  List.forall_iff_forall_mem.mpr (acts_holds l L h)

end Cert.Slots

end
-- ==== Proof.Spec.lean ====
/- Nearest centres and their counts, over any points: what both programs compute in one iteration. -/
module

public import Mathlib.Data.EReal.Operations
public import Mathlib.Data.Fintype.BigOperators
public import Mathlib.Data.Finset.Lattice.Fold
public import Idealize.ShloMosaic.PureOps.Ideal

@[expose] public section

noncomputable section

namespace Cert.Means

open Idealize.ShloMosaic

/-- The expanded squared distance of a point to a centre. -/
def gap (p c : Fin 64 → EReal) : EReal :=
  ∑ j, p j * p j - Ideal.ofBits .f32 0x40000000#32 * ∑ j, p j * c j + ∑ j, c j * c j

/-- `k` is the first place at which `f` is least. -/
def First (f : Fin 64 → EReal) (k : Fin 64) : Prop := (∀ j, f k ≤ f j) ∧ ∀ j, j < k → f k < f j

/-- Some place is the first at which `f` is least. -/
theorem exists_first (f : Fin 64 → EReal) : ∃ k, First f k := by
  obtain ⟨a, -, ha⟩ := Finset.exists_min_image (Finset.univ : Finset (Fin 64)) f ⟨0, Finset.mem_univ _⟩
  have hne : (Finset.univ.filter fun k => f k = f a).Nonempty := ⟨a, by simp⟩
  refine ⟨(Finset.univ.filter fun k => f k = f a).min' hne, ?_, ?_⟩
  · intro j
    have := Finset.min'_mem _ hne
    rw [Finset.mem_filter] at this
    rw [this.2]; exact ha j (Finset.mem_univ _)
  · intro j hj
    have h1 := Finset.min'_mem _ hne
    rw [Finset.mem_filter] at h1
    rw [h1.2]
    refine lt_of_le_of_ne (ha j (Finset.mem_univ _)) fun he => ?_
    exact absurd (Finset.min'_le _ j (by simp [he])) (not_le.mpr hj)

/-- The first place at which `f` is least. -/
def near (f : Fin 64 → EReal) : Fin 64 := Classical.choose (exists_first f)

/-- It is the first such place. -/
theorem near_first (f : Fin 64 → EReal) : First f (near f) := Classical.choose_spec (exists_first f)

/-- There is one such place. -/
theorem near_eq {f : Fin 64 → EReal} {k : Fin 64} (h : First f k) : near f = k := by
  have g := near_first f
  rcases lt_trichotomy (near f) k with hl | he | hg
  · exact absurd (h.2 _ hl) (not_lt.mpr (g.1 k))
  · exact he
  · exact absurd (g.2 _ hg) (not_lt.mpr (h.1 _))

/-- The word of a place. -/
def word (k : Fin 64) : BitVec 32 := BitVec.ofNat 32 k.val

/-- Distinct places have distinct words. -/
theorem word_inj {a b : Fin 64} (h : word a = word b) : a = b := by
  have := congrArg BitVec.toNat h
  simp only [word, BitVec.toNat_ofNat] at this
  exact Fin.ext (by omega)

end Cert.Means

end
-- ==== Proof.RefIterVal.lean ====
/- One iteration of the reference, as functions of the points and the centres. -/
module

public import proofs.«01_k».proof.Proof.RefIter
public import proofs.«01_k».proof.Proof.Ssa
public import proofs.«01_k».proof.Proof.Spec
public import Idealize.ShloMosaic.Lib.Pointwise

@[expose] public section

set_option maxRecDepth 16384

noncomputable section

namespace Cert.ReferenceIdeal.Km

open Cert.ReferenceIdeal Cert.ReferenceIdeal.Gen Cert.Slots Cert.Means Idealize.ShloMosaic

variable {F : FTy → Type} [FloatOps F]

/-- The distances of all points to all centres. -/
def dists (x : FVec F S100000x64 .f32) (c : FVec F S64x64 .f32) : FVec F S100000x64 .f32 :=
  addf (subf (broadcastInDim S100000x64 ![0, 1] bcast_S100000x1_S100000x64_0_1 (broadcastInDim S100000x1 ![0] bcast_S100000_S100000x1_0 (Host.reduceAdd (mulf x x) (constant S_ .f32 0x00000000#32) reducesTo_S100000x64_S100000_d1 h_S_)))
      (mulf (broadcastInDim S100000x64 ![] bcast_S_S100000x64 (constant S_ .f32 0x40000000#32)) (Host.dotGeneral dot_S100000x64_S64x64_S100000x64_1_0_0_1_n_n none x (transpose S64x64 [1, 0] c transposes_S64x64_S64x64_1_0))))
    (broadcastInDim S100000x64 ![0, 1] bcast_S1x64_S100000x64_0_1 (broadcastInDim S1x64 ![1] bcast_S64_S1x64_1 (Host.reduceAdd (mulf c c) (constant S_ .f32 0x00000000#32) reducesTo_S64x64_S64_d1 h_S_)))

/-- The labels of the points. -/
def labOf (x : FVec F S100000x64 .f32) (c : FVec F S64x64 .f32) : IVec S100000 32 :=
  Prod.snd ∘ Host.argReduce reducer_argmin_f32_i32 (dists x c) (iotaInDim S100000x64 32 1) (constant S_ .f32 0x7F800000#32) (constantI S_ 32 0#32) reducesTo_S100000x64_S100000_d1 h_S_

/-- The counts of the labels. -/
def cntOf (lab : IVec S100000 32) : FVec F S64 .f32 :=
  Host.scatterAdd scatter_S64_S100000x1_S100000_n_0_0_1 (broadcastInDim S64 ![] bcast_S_S64 (constant S_ .f32 0x00000000#32))
    (broadcastInDim S100000x1 ![0] bcast_S100000_S100000x1_0 lab) (broadcastInDim S100000 ![] bcast_S_S100000 (constant S_ .f32 0x3F800000#32))

/-- The next centres, from the points, their labels and the counts. -/
def nextOf (x : FVec F S100000x64 .f32) (lab : IVec S100000 32) (cnt : FVec F S64 .f32) : FVec F S64x64 .f32 :=
  Host.divf
    (Host.scatterAdd scatter_S64x64_S100000x1_S100000x64_1_0_0_1 (broadcastInDim S64x64 ![] bcast_S_S64x64 (constant S_ .f32 0x00000000#32))
      (broadcastInDim S100000x1 ![0] bcast_S100000_S100000x1_0 lab) x)
    (broadcastInDim S64x64 ![0, 1] bcast_S64x1_S64x64_0_1 (broadcastInDim S64x1 ![0] bcast_S64_S64x1_0
      (maximumf cnt (broadcastInDim S64 ![] bcast_S_S64 (constant S_ .f32 0x3F800000#32)))))

/-- Every value is written once, and read only then. -/
theorem once_iter : once (iterIns (F := F)) = true := rfl

/-- The points stay. -/
theorem acts_x (L : (k : ISlot) → (ISlot.T k).Contents (Elt F)) : acts iterIns L .x = L .x := rfl

/-- The centres stay. -/
theorem acts_c (L : (k : ISlot) → (ISlot.T k).Contents (Elt F)) : acts iterIns L .c = L .c := rfl

/-- What the iteration's operations leave: the labels, and the next centres. -/
theorem acts_iter (L : (k : ISlot) → (ISlot.T k).Contents (Elt F)) :
    acts iterIns L .lab = labOf (L .x) (L .c)
      ∧ acts iterIns L .next = nextOf (L .x) (labOf (L .x) (L .c)) (cntOf (labOf (L .x) (L .c))) := by
  have h := acts_forall iterIns L once_iter
  have hx := acts_x L
  have hc := acts_c L
  generalize acts iterIns L = S at h hx hc ⊢
  obtain ⟨hv11, hcst_0, hv12, hv13, hcst_1, hv14, hv15, hv16, hv17, hcst_2, hv18, hv19, hv20, hv21, hv22, hv23, hv24, hcols, hinf, hzero, hleast, hlab, hcst_3, hv26, hv27, hv28, hcst_4, hv29, hcst_5, hv30, hv31, hv32, hcst_6, hv33, hv34, hv35, hv36, hnext⟩ := h
  simp only [Ins.holds] at *
  have hl : S .lab = labOf (L .x) (L .c) := by
    rw [hlab, hv24, hv21, hv23, hv20, hv19, hv18, hv17, hv15, hv22, hv16, hv12, hv14, hv11, hv13, hcst_0, hcst_1, hcst_2, hcols, hinf, hzero, hx, hc]
    rfl
  refine ⟨hl, ?_⟩
  rw [hnext, hv28, hv36, hv35, hv34, hv33, hv32, hv31, hv30, hv29, hv27, hv26, hcst_3, hcst_4, hcst_5, hcst_6, hl, hx]
  rfl

/-- A distance. -/
theorem dists_apply (x : FVec Ideal S100000x64 .f32) (c : FVec Ideal S64x64 .f32) (r : Fin 100000) (k : Fin 64) :
    dists x c (ix2 r k) = gap (fun j => x (ix2 r j)) (fun j => c (ix2 k j)) := by
  unfold gap
  pointwise [dists]

end Cert.ReferenceIdeal.Km

end
-- ==== Proof.Lands.lean ====
/- Where the reference's scattered updates land: counts, and the one-hot matrix. -/
module

public import proofs.«01_k».proof.Proof.RefIterVal
public import Idealize.ShloMosaic.Lib.Routing.OpsPair
public import Idealize.ShloMosaic.Lib.Routing.OpsSet

@[expose] public section

set_option maxRecDepth 16384

noncomputable section

namespace Cert.ReferenceIdeal.Km

open Cert.ReferenceIdeal Cert.ReferenceIdeal.Gen Cert.Means Idealize.ShloMosaic

/-- Where an update of the counts lands: at its point's label. -/
theorem lands_count (idx : IVec S100000x1 32) (r : Fin 100000) (k : Fin 64) :
    scatter_S64_S100000x1_S100000_n_0_0_1.resultIdx? (ix1 r) idx = some (ix1 k) ↔ (idx (ix2 r 0)).toInt = k.val := by
  have hs : scatter_S64_S100000x1_S100000_n_0_0_1.start (ix1 r) idx 0 = (idx (ix2 r 0)).toInt := by
    unfold ScatterDims.start
    refine (dif_pos (show (0 : Fin 1) ∈ [0] from List.mem_singleton.mpr rfl)).trans (congrArg (fun i => (idx i).toInt) (funext fun a => ?_))
    match a with
    | ⟨0, _⟩ => rfl
    | ⟨1, _⟩ => rfl
  have hw : scatter_S64_S100000x1_S100000_n_0_0_1.window (ix1 r) 0 = 0 := by
    unfold ScatterDims.window
    exact dif_neg (by decide)
  rw [Routing.resultIdx?_eq_some]
  constructor
  · intro h
    have := h 0
    rw [hs, hw] at this
    simpa using this
  · intro h a
    have ha : a = 0 := Subsingleton.elim (α := Fin 1) a 0
    subst ha
    rw [hs, hw]
    simpa using h

/-- Where an entry of the one-hot matrix is set: at the pair of words. -/
theorem lands_pair (idx : IVec S100000x2 32) (r : Fin 100000) (k : Fin 64) (q : Fin 100000) :
    scatter_S64x100000_S100000x2_S100000_n_01_01_1.resultIdx? (ix1 r) idx = some (ix2 k q)
      ↔ (idx (ix2 r 0)).toInt = k.val ∧ (idx (ix2 r 1)).toInt = q.val := by
  have hs0 : scatter_S64x100000_S100000x2_S100000_n_01_01_1.start (ix1 r) idx 0 = (idx (ix2 r 0)).toInt := by
    unfold ScatterDims.start
    refine (dif_pos (show (0 : Fin 2) ∈ [0, 1] by decide)).trans (congrArg (fun i => (idx i).toInt) (funext fun a => ?_))
    match a with
    | ⟨0, _⟩ => rfl
    | ⟨1, _⟩ => rfl
  have hs1 : scatter_S64x100000_S100000x2_S100000_n_01_01_1.start (ix1 r) idx 1 = (idx (ix2 r 1)).toInt := by
    unfold ScatterDims.start
    refine (dif_pos (show (1 : Fin 2) ∈ [0, 1] by decide)).trans (congrArg (fun i => (idx i).toInt) (funext fun a => ?_))
    match a with
    | ⟨0, _⟩ => rfl
    | ⟨1, _⟩ => rfl
  have hw : ∀ a : Fin 2, scatter_S64x100000_S100000x2_S100000_n_01_01_1.window (ix1 r) a = 0 := fun a => by
    unfold ScatterDims.window
    refine dif_neg ?_
    revert a
    decide
  rw [Routing.resultIdx?_eq_some]
  constructor
  · intro h
    have h0 := h 0
    have h1 := h 1
    rw [hs0, hw 0] at h0
    rw [hs1, hw 1] at h1
    exact ⟨by simpa using h0, by simpa using h1⟩
  · rintro ⟨h0, h1⟩ a
    match a with
    | ⟨0, _⟩ => exact (congrArg₂ (· + ·) hs0 (congrArg Int.ofNat (hw 0))).trans ((add_zero _).trans h0)
    | ⟨1, _⟩ => exact (congrArg₂ (· + ·) hs1 (congrArg Int.ofNat (hw 1))).trans ((add_zero _).trans h1)

/-- A place's word, read as a signed number, is the place. -/
theorem word_toInt (k : Fin 64) : (word k).toInt = k.val := by
  rw [word, BitVec.toInt_eq_toNat_of_lt (by rw [BitVec.toNat_ofNat]; omega), BitVec.toNat_ofNat]; omega

/-- The count of a label. -/
theorem cntOf_apply (lab : IVec S100000 32) (l : Fin 100000 → Fin 64) (h : ∀ r, lab (ix1 r) = word (l r)) (k : Fin 64) :
    cntOf (F := Ideal) lab (ix1 k) = ∑ r : Fin 100000, if l r = k then 1 else 0 := by
  have e : cntOf (F := Ideal) lab (ix1 k)
      = 0 + ∑ j ∈ Finset.univ.filter (fun j => scatter_S64_S100000x1_S100000_n_0_0_1.resultIdx? j (broadcastInDim S100000x1 ![0] bcast_S100000_S100000x1_0 lab) = some (ix1 k)), (1 : EReal) := by
    have h0 : (broadcastInDim S64 ![] bcast_S_S64 (constant S_ .f32 0x00000000#32) : FVec Ideal S64 .f32) (ix1 k) = 0 := by pointwise
    have h1 : (broadcastInDim S100000 ![] bcast_S_S100000 (constant S_ .f32 0x3F800000#32) : FVec Ideal S100000 .f32) = fun _ => 1 := by
      funext j; pointwise
    have h2 : cntOf (F := Ideal) lab = Ideal.hostScatterAdd scatter_S64_S100000x1_S100000_n_0_0_1 (broadcastInDim S64 ![] bcast_S_S64 (constant S_ .f32 0x00000000#32) : FVec Ideal S64 .f32) (broadcastInDim S100000x1 ![0] bcast_S100000_S100000x1_0 lab) (broadcastInDim S100000 ![] bcast_S_S100000 (constant S_ .f32 0x3F800000#32) : FVec Ideal S100000 .f32) := rfl
    rw [h2, h1]
    unfold Ideal.hostScatterAdd
    rw [h0]
  rw [e, zero_add, Finset.sum_filter]
  have hb : ∀ r : Fin 100000, (broadcastInDim S100000x1 ![0] bcast_S100000_S100000x1_0 lab) (ix2 r 0) = word (l r) := fun r => by
    rw [← h r]; pointwise
  rw [← Equiv.sum_comp (Equiv.mk (fun r : Fin 100000 => (ix1 r : S100000.Idx)) (fun j => j 0) (fun _ => rfl) (fun j => (eq_ix1 j).symm))]
  refine Finset.sum_congr rfl fun r _ => ?_
  refine if_congr ((lands_count _ r k).trans ?_) rfl rfl
  rw [hb, word_toInt]
  exact ⟨fun h => Fin.ext (by exact_mod_cast h), fun h => by rw [h]⟩

end Cert.ReferenceIdeal.Km

end
-- ==== Proof.RefArgmin.lean ====
/- The reference's labels: each point's label is the first place at which its distance is least. -/
module

public import proofs.«01_k».proof.Proof.RefIterVal
public import Idealize.ShloMosaic.PureOps.Ideal.Laws
public import Idealize.ShloMosaic.PureOps.Reduce

@[expose] public section

set_option maxRecDepth 16384

noncomputable section

namespace Cert.ReferenceIdeal.Km

open Cert.ReferenceIdeal Cert.ReferenceIdeal.Gen Cert.Slots Cert.Means Idealize.ShloMosaic

/-- Pairs of a value and a place, by the value, then by the place. -/
def Before (a b : EReal × BitVec 32) : Prop := a.1 < b.1 ∨ (a.1 = b.1 ∧ a.2.toInt ≤ b.2.toInt)

/-- A pair comes before itself. -/
theorem Before.refl (a : EReal × BitVec 32) : Before a a := .inr ⟨rfl, le_refl _⟩

/-- Coming before is transitive. -/
theorem Before.trans {a b c : EReal × BitVec 32} (h : Before a b) (g : Before b c) : Before a c := by
  rcases h with h | ⟨h, h'⟩ <;> rcases g with g | ⟨g, g'⟩
  · exact .inl (h.trans g)
  · exact .inl (g ▸ h)
  · exact .inl (h ▸ g)
  · exact .inr ⟨h.trans g, h'.trans g'⟩

/-- The reducer keeps one of two pairs, the one that comes before the other. -/
theorem reducer_cases (a b : EReal × BitVec 32) :
    (reducer_argmin_f32_i32 (F := Ideal) a b = a ∧ Before a b) ∨ (reducer_argmin_f32_i32 (F := Ideal) a b = b ∧ Before b a) := by
  obtain ⟨u, i⟩ := a
  obtain ⟨v, j⟩ := b
  rcases lt_trichotomy u v with h | h | h
  · refine .inl ⟨?_, .inl h⟩
    have one_or : ∀ b : BitVec 1, (1#1 ||| b) = 1#1 := by decide
    simp [reducer_argmin_f32_i32, Ideal.cmpf_def, Ideal.cmp, h, Scalar.select, IntOp.ori, one_or]
  · subst h
    by_cases hij : i.toInt < j.toInt
    · refine .inl ⟨?_, .inr ⟨rfl, hij.le⟩⟩
      simp [reducer_argmin_f32_i32, Ideal.cmpf_def, Ideal.cmp, Scalar.select, IntOp.ori, IntOp.andi, IntOp.cmpi, BitVec.slt, hij]
    · refine .inr ⟨?_, .inr ⟨rfl, not_lt.mp hij⟩⟩
      simp [reducer_argmin_f32_i32, Ideal.cmpf_def, Ideal.cmp, Scalar.select, IntOp.ori, IntOp.andi, IntOp.cmpi, BitVec.slt, hij]
  · refine .inr ⟨?_, .inl h⟩
    simp [reducer_argmin_f32_i32, Ideal.cmpf_def, Ideal.cmp, h.le, h.not_gt, h.ne', Scalar.select, IntOp.ori, IntOp.andi, not_lt.mpr h.le]

/-- A fold of the reducer keeps a pair that comes before all others. -/
theorem foldl_reducer (l : List (EReal × BitVec 32)) (a : EReal × BitVec 32) :
    l.foldl (reducer_argmin_f32_i32 (F := Ideal)) a ∈ a :: l
      ∧ ∀ p ∈ a :: l, Before (l.foldl (reducer_argmin_f32_i32 (F := Ideal)) a) p := by
  induction l generalizing a with
  | nil => exact ⟨List.mem_singleton.mpr rfl, fun p hp => by rw [List.mem_singleton.mp hp]; exact Before.refl _⟩
  | cons b l ih =>
    rw [List.foldl_cons]
    obtain ⟨h1, h2⟩ := ih (reducer_argmin_f32_i32 (F := Ideal) a b)
    rcases reducer_cases a b with ⟨e, hb⟩ | ⟨e, hb⟩ <;> rw [e] at h1 h2 ⊢
    · refine ⟨?_, fun p hp => ?_⟩
      · rcases List.mem_cons.mp h1 with h | h
        · rw [h]; exact List.mem_cons_self
        · exact List.mem_cons_of_mem _ (List.mem_cons_of_mem _ h)
      · rcases List.mem_cons.mp hp with rfl | hp
        · exact h2 _ List.mem_cons_self
        · rcases List.mem_cons.mp hp with rfl | hp
          · exact (h2 _ List.mem_cons_self).trans hb
          · exact h2 _ (List.mem_cons_of_mem _ hp)
    · refine ⟨List.mem_cons_of_mem _ h1, fun p hp => ?_⟩
      rcases List.mem_cons.mp hp with rfl | hp
      · exact (h2 _ List.mem_cons_self).trans hb
      · exact h2 _ hp

/-- The pairs that one point's label is chosen from. -/
theorem mem_fiber (x : FVec Ideal S100000x64 .f32) (y : IVec S100000x64 32) (r : Fin 100000) (p : EReal × BitVec 32) :
    p ∈ Host.argReduceFiber x y reducesTo_S100000x64_S100000_d1 (ix1 r) ↔ ∃ k : Fin 64, p = (x (ix2 r k), y (ix2 r k)) := by
  have hd : ∀ (a : Fin 100000) (b : Fin 64), reducesTo_S100000x64_S100000_d1.drop (ix2 a b) = ix1 a := fun a b => by
    funext d
    have hd : d = 0 := Subsingleton.elim (α := Fin 1) d 0
    subst hd
    exact Fin.ext (reducesTo_S100000x64_S100000_d1.drop_apply_val_of_eq (ix2 a b) 0 0)
  unfold Host.argReduceFiber
  rw [List.mem_map]
  constructor
  · rintro ⟨n, hn, rfl⟩
    have h := of_decide_eq_true (List.mem_filter.mp hn).2
    obtain ⟨a, b, hab⟩ : ∃ (a : Fin 100000) (b : Fin 64), S100000x64.rowMajor.symm n = ix2 a b := ⟨_, _, eq_ix2 _⟩
    rw [hab, hd] at h
    have h0 : a = r := congrFun h 0
    exact ⟨b, by rw [hab, h0]⟩
  · rintro ⟨k, rfl⟩
    refine ⟨S100000x64.rowMajor (ix2 r k), List.mem_filter.mpr ⟨List.mem_finRange _, decide_eq_true ?_⟩, ?_⟩
    · rw [Equiv.symm_apply_apply]; exact hd r k
    · rw [Equiv.symm_apply_apply]

/-- A fold from `(⊤, 0)` over the pairs of values and places finds the first place of the least value. -/
theorem fold_near (f : Fin 64 → EReal) (l : List (EReal × BitVec 32)) (hm : ∀ p, p ∈ l ↔ ∃ k : Fin 64, p = (f k, word k)) :
    (l.foldl (reducer_argmin_f32_i32 (F := Ideal)) (⊤, 0#32)).2 = word (near f) := by
  obtain ⟨h1, h2⟩ := foldl_reducer l (⊤, 0#32)
  generalize List.foldl (reducer_argmin_f32_i32 (F := Ideal)) (⊤, 0#32) l = q at h1 h2 ⊢
  have hw : ∀ k : Fin 64, (word k).toInt = k.val := fun k => by
    rw [word, BitVec.toInt_eq_toNat_of_lt (by rw [BitVec.toNat_ofNat]; omega), BitVec.toNat_ofNat]; omega
  have key : ∃ k : Fin 64, q = (f k, word k) := by
    rcases List.mem_cons.mp h1 with e | e
    · refine ⟨0, ?_⟩
      have h := h2 _ (List.mem_cons_of_mem _ ((hm _).mpr ⟨0, rfl⟩))
      rw [e] at h ⊢
      rcases h with h | ⟨h, -⟩
      · exact absurd h not_top_lt
      · exact Prod.ext h rfl
    · exact (hm _).mp e
  obtain ⟨k, rfl⟩ := key
  refine congrArg word (near_eq ⟨fun j => ?_, fun j hj => ?_⟩).symm
  · rcases h2 _ (List.mem_cons_of_mem _ ((hm _).mpr ⟨j, rfl⟩)) with h | ⟨h, -⟩
    · exact h.le
    · exact h.le
  · rcases h2 _ (List.mem_cons_of_mem _ ((hm _).mpr ⟨j, rfl⟩)) with h | ⟨h, h'⟩
    · exact h
    · simp only [hw] at h'
      exact absurd hj (by simp only [Fin.lt_def]; omega)

/-- A label, over any distances. -/
theorem argmin_apply (d : FVec Ideal S100000x64 .f32) (y : IVec S100000x64 32) (hy : ∀ (r : Fin 100000) (k : Fin 64), y (ix2 r k) = word k)
    (u : FVec Ideal S_ .f32) (v : IVec S_ 32) (hu : ∀ i, u i = (⊤ : EReal)) (hv : ∀ i, v i = 0#32) (r : Fin 100000) :
    (Prod.snd ∘ Host.argReduce (F := Ideal) reducer_argmin_f32_i32 d y u v reducesTo_S100000x64_S100000_d1 h_S_) (ix1 r) = word (near fun k => d (ix2 r k)) := by
  rw [Function.comp_apply, Ideal.argReduce_eq_reduce2, Host.reduce2_eq_foldl_fiber, hu, hv]
  exact fold_near _ _ fun p => by simp only [mem_fiber, hy]

/-- The pattern of plus infinity. -/
theorem ofBits_inf : Ideal.ofBits .f32 0x7F800000#32 = (⊤ : EReal) := by simp [Ideal.ofBits, Ideal.ieee]

/-- The labels are the second part of the reduction's pairs. -/
theorem labOf_eq (x : FVec Ideal S100000x64 .f32) (c : FVec Ideal S64x64 .f32) :
    labOf x c = Prod.snd ∘ Host.argReduce (F := Ideal) reducer_argmin_f32_i32 (dists x c) (iotaInDim S100000x64 32 1) (constant S_ .f32 0x7F800000#32) (constantI S_ 32 0#32) reducesTo_S100000x64_S100000_d1 h_S_ := rfl

/-- A point's label. -/
theorem labOf_apply (x : FVec Ideal S100000x64 .f32) (c : FVec Ideal S64x64 .f32) (r : Fin 100000) :
    labOf x c (ix1 r) = word (near fun k => gap (fun j => x (ix2 r j)) (fun j => c (ix2 k j))) := by
  rw [show (fun k => gap (fun j => x (ix2 r j)) (fun j => c (ix2 k j))) = fun k => dists x c (ix2 r k) from funext fun k => (dists_apply x c r k).symm, labOf_eq]
  have h1 : ∀ i, (constant S_ .f32 0x7F800000#32 : FVec Ideal S_ .f32) i = (⊤ : EReal) := fun i => by pointwise; exact ofBits_inf
  have h2 : ∀ i, (constantI S_ 32 0#32) i = 0#32 := fun _ => rfl
  have h3 : ∀ (r : Fin 100000) (k : Fin 64), (iotaInDim S100000x64 32 1) (ix2 r k) = word k := fun r k => rfl
  exact argmin_apply (dists x c) _ h3 _ _ h1 h2 r

end Cert.ReferenceIdeal.Km

end
-- ==== Proof.Tile.lean ====
/- The kernel's indicator and label vectors of a tile, over the extended reals. -/
module

public import proofs.«01_k».proof.Proof.Assign
public import proofs.«01_k».proof.Proof.Lands
public import proofs.«01_k».proof.Proof.RefArgmin
public import Idealize.ShloMosaic.Lib.Pointwise

@[expose] public section

set_option maxRecDepth 16384

noncomputable section

namespace Cert.Means

open Idealize.ShloMosaic

/-- The fold of the lesser value is the value at the first least place. -/
theorem fold_min_near (f : Fin 64 → EReal) : Finset.univ.fold min (⊤ : EReal) f = f (near f) := by
  have h := near_first f
  refine le_antisymm ?_ ?_
  · exact ((Finset.fold_op_rel_iff_and (r := fun a b : EReal => a ≤ b) le_min_iff).1 le_rfl).2 _ (Finset.mem_univ _)
  · exact (Finset.fold_op_rel_iff_and (r := fun a b : EReal => a ≤ b) le_min_iff).2 ⟨le_top, fun x _ => h.1 x⟩

/-- The lesser of two words, read signed. -/
theorem le_minsi {x y z : BitVec 32} : x.toInt ≤ (IntOp.minsi y z).toInt ↔ x.toInt ≤ y.toInt ∧ x.toInt ≤ z.toInt := by
  unfold IntOp.minsi
  split
  · rename_i h
    have : y.toInt ≤ z.toInt := (BitVec.slt_iff_toInt_lt.mp h).le
    constructor
    · intro g; exact ⟨g, g.trans this⟩
    · exact fun g => g.1
  · rename_i h
    have : z.toInt ≤ y.toInt := not_lt.mp fun e => h (BitVec.slt_iff_toInt_lt.mpr e)
    constructor
    · intro g; exact ⟨g.trans this, g⟩
    · exact fun g => g.2

/-- The least of the places at which the least value is met is the first. -/
theorem fold_minsi_near (f : Fin 64 → EReal) :
    Finset.univ.fold IntOp.minsi (2147483647#32) (fun x : Fin 64 => if f x = f (near f) then BitVec.ofNat 32 x.val else 64#32) = word (near f) := by
  have h := near_first f
  have hf : ∀ (g : Fin 64 → BitVec 32) (c : BitVec 32), c.toInt ≤ (Finset.univ.fold IntOp.minsi (2147483647#32) g).toInt ↔ c.toInt ≤ (2147483647#32 : BitVec 32).toInt ∧ ∀ x ∈ Finset.univ, c.toInt ≤ (g x).toInt :=
    fun g c => Finset.fold_op_rel_iff_and (op := IntOp.minsi) (r := fun a b : BitVec 32 => a.toInt ≤ b.toInt) le_minsi
  refine BitVec.eq_of_toInt_eq (le_antisymm ?_ ?_)
  · have := ((hf (fun x : Fin 64 => if f x = f (near f) then BitVec.ofNat 32 x.val else 64#32) _).1 le_rfl).2 (near f) (Finset.mem_univ _)
    simp only [if_pos] at this
    exact this
  · refine (hf _ _).2 ⟨?_, fun x _ => ?_⟩
    · show (word (near f)).toInt ≤ _
      rw [Cert.ReferenceIdeal.Km.word_toInt]
      have : (2147483647#32 : BitVec 32).toInt = 2147483647 := rfl
      have := (near f).isLt
      omega
    · show (word (near f)).toInt ≤ _
      rw [Cert.ReferenceIdeal.Km.word_toInt]
      split
      · rename_i e
        have hx : ¬ x < near f := fun hl => absurd (h.2 x hl) (by rw [e]; exact lt_irrefl _)
        have : (BitVec.ofNat 32 x.val).toInt = x.val := Cert.ReferenceIdeal.Km.word_toInt x
        rw [this]
        exact_mod_cast not_lt.mp hx
      · have : (64#32 : BitVec 32).toInt = 64 := rfl
        have := (near f).isLt
        omega

end Cert.Means

namespace Cert.KernelIdeal.Km

open Cert.KernelIdeal Cert.KernelIdeal.Gen Cert.Means Idealize.ShloMosaic Idealize.ShloMosaic.TcCoe

/-- The place nearest to a row of a tile. -/
def nearIn (t : FVec Ideal S102400x64 .f32) (ce : FVec Ideal S64x64 .f32) (k : Fin k1_t1_loop.trips) (r : Fin 6400) : Fin 64 :=
  near fun x => gap (fun j => (tile (F := Ideal) t k : FVec Ideal S6400x64 .f32) (ix2 r j)) (fun j => ce (ix2 x j))

/-- The word of a row's number. -/
theorem row_word (k r : ℕ) : IntOp.addi (Scalar.muli (Scf.iv 0#32 1#32 k) 6400#32) (BitVec.ofNat 32 r) = BitVec.ofNat 32 (6400 * k + r) := by
  refine BitVec.eq_of_toNat_eq ?_
  simp [IntOp.addi, Scalar.muli, IntOp.muli, Scf.iv]
  omega

/-- A word equals itself. -/
theorem cmpi_eq_self (a : BitVec 32) : IntOp.cmpi .eq a a = 1#1 := by simp [IntOp.cmpi]

/-- Distinct words are not equal. -/
theorem cmpi_eq_ne {a b : BitVec 32} (h : a ≠ b) : IntOp.cmpi .eq a b = 0#1 := by
  show BitVec.ofBool (a == b) = 0#1
  rw [beq_false_of_ne h]; rfl

/-- A place's number, as a value and back. -/
theorem fptosi_word (k : Fin 64) : FloatOps.fptosi (F := Ideal) (φ := .f32) 32 (FloatOps.sitofp .f32 (BitVec.ofNat 32 k.val)) = word k := by
  show BitVec.ofInt 32 (max (-(2 ^ 31 : ℕ) : ℤ) (min ((2 ^ 31 : ℕ) - 1 : ℤ) (if (0 : ℝ) ≤ ((word k).toInt : ℝ) then ⌊((word k).toInt : ℝ)⌋ else ⌈((word k).toInt : ℝ)⌉))) = word k
  rw [Cert.ReferenceIdeal.Km.word_toInt]
  have := k.isLt
  rw [if_pos (by positivity), Int.floor_intCast, min_eq_right (by push_cast; omega), max_eq_right (by push_cast; omega)]
  rfl

/-- The indicator is one at the nearest place of a row that is not padding. -/
theorem tileInd_apply (t : FVec Ideal S102400x64 .f32) (ce : FVec Ideal S64x64 .f32) (k : Fin k1_t1_loop.trips) (r : Fin 6400) (j : Fin 64) :
    (tileInd (F := Ideal) t ce k : FVec Ideal S6400x64 .f32) (ix2 r j) = if nearIn t ce k r = j ∧ 6400 * k.val + r.val < 100000 then 1 else 0 := by
  have hn := fold_min_near fun x => gap (fun j => (tile (F := Ideal) t k : FVec Ideal S6400x64 .f32) (ix2 r j)) (fun j => ce (ix2 x j))
  have hm := fold_minsi_near fun x => gap (fun j => (tile (F := Ideal) t k : FVec Ideal S6400x64 .f32) (ix2 r j)) (fun j => ce (ix2 x j))
  rw [← hn] at hm
  simp only [gap] at hm
  pointwise [tileInd, k1_pay6, k1_pay2, k1_pay3]
  rw [Cert.ReferenceIdeal.Km.ofBits_inf, hm, row_word]
  have hk := k.isLt
  have ht := k1_t1_abs.2.1
  rw [WordCmp.cmpi_slt_ofNat (by omega) (by omega)]
  change Scalar.select (IntOp.andi (IntOp.cmpi .eq (word j) (word (nearIn t ce k r))) _) _ _ = _
  by_cases hj : nearIn t ce k r = j
  · subst hj
    rw [cmpi_eq_self]
    by_cases hlt : 6400 * k.val + r.val < 100000
    · rw [if_pos ⟨rfl, hlt⟩, decide_eq_true hlt]; rfl
    · rw [if_neg fun h => hlt h.2, decide_eq_false hlt]; rfl
  · rw [if_neg fun h => hj h.1, cmpi_eq_ne fun h => hj (word_inj h).symm]
    by_cases hlt : 6400 * k.val + r.val < 100000
    · rw [decide_eq_true hlt]; rfl
    · rw [decide_eq_false hlt]; rfl

/-- The label is the word of the place at which the indicator is one. -/
theorem tileLab_apply (t : FVec Ideal S102400x64 .f32) (ce : FVec Ideal S64x64 .f32) (k : Fin k1_t1_loop.trips) (r : Fin 6400)
    (hr : 6400 * k.val + r.val < 100000) :
    (tileLab (F := Ideal) t ce k : IVec S1x1x6400 32) (ix3 0 0 r) = word (nearIn t ce k r) := by
  have h := fun j => tileInd_apply t ce k r j
  simp only [tileInd] at h
  pointwise [tileLab, k1_pay7, k1_pay1]
  simp only [h]
  rw [Finset.sum_eq_single (nearIn t ce k r)]
  · rw [if_pos ⟨rfl, hr⟩, mul_one]
    exact fptosi_word _
  · intro x _ hx
    rw [if_neg fun h => hx h.1.symm, mul_zero]
  · intro h; exact absurd (Finset.mem_univ _) h

end Cert.KernelIdeal.Km

end
-- ==== Proof.RegVal11.lean ====
/- What the one-hot kernel leaves: a matrix with a one where a row's label is the place. -/
module

public import proofs.«01_k».proof.Proof.RegVal0
public import proofs.«01_k».proof.Proof.Tile

@[expose] public section

set_option maxRecDepth 16384

noncomputable section

namespace Cert.KernelIdeal.Km

open Cert.KernelIdeal Cert.KernelIdeal.Gen Idealize.ShloMosaic Idealize.ShloMosaic.TcCoe Idealize.ShloMosaic.Pipeline

/-- How much of the columns' block at `t` is in the matrix. -/
theorem xsize11 (t : Fin grid11.N) : (win11 1).xsize (grid11.coords t) 0 = 64 ∧ (win11 1).xsize (grid11.coords t) 1 = if t.val = 15 then 4000 else 6400 := by
  revert t; decide +kernel

/-- Which block is the labels' and which the columns' at `t`. -/
theorem index11 (t : Fin grid11.N) : ((win11 0).index t 0 = t.val ∧ (win11 0).index t 1 = 0 ∧ (win11 0).index t 2 = 0) ∧ ((win11 1).index t 0 = 0 ∧ (win11 1).index t 1 = t.val) := by
  revert t; decide +kernel

/-- The labels' blocks are not cut. -/
theorem lsize11 (t : Fin grid11.N) : (win11 0).xsize (grid11.coords t) 0 = 1 ∧ (win11 0).xsize (grid11.coords t) 1 = 1 ∧ (win11 0).xsize (grid11.coords t) 2 = 6400 := by
  revert t; decide +kernel

/-- An entry of a tile's matrix. -/
theorem onehot_apply (l : IVec S1x1x6400 32) (k : Fin 64) (r : Fin 6400) (z : Fin 64) (h : l (ix3 0 0 r) = Cert.Means.word z) :
    (k11_pay1 (F := Ideal) l : FVec Ideal S64x6400 .f32) (ix2 k r) = if z = k then 1 else 0 := by
  pointwise [k11_pay1]
  rw [h]
  show Scalar.select (IntOp.cmpi .eq (Cert.Means.word k) (Cert.Means.word z)) (1 : EReal) 0 = _
  by_cases e : z = k
  · rw [e, if_pos rfl, cmpi_eq_self]
    exact ValueIdx.select_one _ _
  · rw [if_neg e, cmpi_eq_ne fun g => e (Cert.Means.word_inj g).symm]
    exact ValueIdx.select_zero _ _

/-- The one-hot kernel leaves a one where a row's label is the place, and zeros. -/
theorem onehots (V : Valuation τ sig (Elt Ideal)) (c : Dev nD) (G) (hG : Left (F := Ideal) body11 V c G) (z : Fin 64) (k : Fin 64) (q : Fin 100000)
    (h : ∀ (t : Fin 16) (r : Fin 6400), q.val = 6400 * t.val + r.val → (V (Proc.devRef .tc main_v112_0) : IVec S16x1x6400 32) (ix3 t 0 r) = Cert.Means.word z) :
    (withArrays (pn (F := Ideal) 11).spec c V G (Proc.devRef .tc main_v124) : FVec Ideal S64x100000 .f32) (ix2 k q) = (if z = k then 1 else 0 : EReal) := by
  let t : Fin grid11.N := ⟨q.val / 6400, by show q.val / 6400 < 16; omega⟩
  let r : Fin 6400 := ⟨q.val % 6400, by omega⟩
  have hx := xsize11 t
  have hi := index11 t
  have hs := lsize11 t
  have ht : t.val = q.val / 6400 := rfl
  have hr : r.val = q.val % 6400 := rfl
  obtain ⟨ys, hy, e⟩ := body11.leaves_block V c 1 rfl (Window.hdisj_of_index_inj (win11 1) fun t t' _ _ h => Fin.ext (by
    have h0 := congrFun h 1
    rw [(index11 t).2.2, (index11 t').2.2] at h0
    exact h0)) t (flush11_1 t) (G 1) (hG 1)
  have y0 : (ys 0 : IVec S1x1x6400 32) (ix3 0 0 r) = Cert.Means.word z := by
    obtain ⟨d, h0⟩ := hy 0 rfl
    rw [h0]
    refine (fill_moved (win11 0) rfl t d (V (Proc.devRef .tc main_v112_0)) (ix3 0 0 r) (fun a => ?_) (ix3 t 0 r) fun a => ?_).trans (h t r (by omega))
    · match a with
      | ⟨0, _⟩ => exact lt_of_lt_of_eq Nat.one_pos hs.1.symm
      | ⟨1, _⟩ => exact lt_of_lt_of_eq Nat.one_pos hs.2.1.symm
      | ⟨2, _⟩ => exact lt_of_lt_of_eq r.isLt hs.2.2.symm
    · match a with
      | ⟨0, _⟩ =>
        refine Eq.trans ?_ (congrArg (fun n => n * 1 + 0) hi.1.1.symm)
        show t.val = t.val * 1 + 0
        omega
      | ⟨1, _⟩ =>
        refine Eq.trans ?_ (congrArg (fun n => n * 1 + 0) hi.1.2.1.symm)
        rfl
      | ⟨2, _⟩ =>
        refine Eq.trans ?_ (congrArg (fun n => n * 6400 + r.val) hi.1.2.2.symm)
        show r.val = 0 * 6400 + r.val
        omega
  have hj : ∀ a, ((ix2 k r : S64x6400.Idx) a).val < (win11 1).xsize (grid11.coords t) a := fun a => by
    match a with
    | ⟨0, _⟩ => exact lt_of_lt_of_eq k.isLt hx.1.symm
    | ⟨1, _⟩ => exact lt_of_lt_of_eq (show r.val < if t.val = 15 then 4000 else 6400 by split <;> omega) hx.2.symm
  have e := e fun a => ⟨((ix2 k r : S64x6400.Idx) a).val, hj a⟩
  rw [show ∀ i, (body11 (F := Ideal)).out i ys 1 = k11_pay1 (ys 0) from fun _ => rfl] at e
  refine (congrFun (withArrays_arr (pn (F := Ideal) 11).spec launch11.win.arr_inj c V G 1) (ix2 k q)).trans ?_
  have hemb : (((win11 1).blk t).view.emb fun a => ⟨((ix2 k r : S64x6400.Idx) a).val, hj a⟩ : S64x100000.Idx) = ix2 k q := by
    refine funext fun a => Fin.ext ?_
    match a with
    | ⟨0, _⟩ =>
      refine (Window.rect_emb_val (win11 1) t _ 0 rfl).trans ?_
      refine (congrArg (fun n => n * 64 + k.val) hi.2.1).trans ?_
      show 0 * 64 + k.val = k.val
      omega
    | ⟨1, _⟩ =>
      refine (Window.rect_emb_val (win11 1) t _ 1 rfl).trans ?_
      refine (congrArg (fun n => n * 6400 + r.val) hi.2.2).trans ?_
      show t.val * 6400 + r.val = q.val
      omega
  exact (congrArg (G 1) hemb.symm).trans (e.trans (onehot_apply (ys 0) k r z y0))

end Cert.KernelIdeal.Km

end
-- ==== Proof.KerHost.lean ====
/- The kernel's host stretches between two assignments: the next centres, from the labels and the counts. -/
module

public import proofs.«01_k».proof.Proof.Gen.KernelIdeal.Launch
public import proofs.«01_k».proof.Proof.Ssa

@[expose] public section

set_option maxRecDepth 16384

noncomputable section

namespace Cert.KernelIdeal.Km

open Cert.KernelIdeal Cert.KernelIdeal.Gen Cert.Slots Idealize.ShloMosaic Idealize.ShloMosaic.TcCoe Idealize.ShloMosaic.StableHlo

variable {F : FTy → Type} [FloatOps F]

/-- The values of a stretch. -/
inductive KSlot
  | x | lab3 | cnt2 | v5 | v6 | cst | v7 | v8 | v9 | v10 | cst_0 | v11 | v12 | v13 | v14 | v15
  deriving DecidableEq

/-- All of them. -/
abbrev KSlot.all : List KSlot := [.x, .lab3, .cnt2, .v5, .v6, .cst, .v7, .v8, .v9, .v10, .cst_0, .v11, .v12, .v13, .v14, .v15]

/-- Their types. -/
abbrev KSlot.T : KSlot → BufTy
  | .x => ⟨S100000x64, .f32⟩
  | .lab3 => ⟨S16x1x6400, .i32⟩
  | .cnt2 => ⟨S64x1, .f32⟩
  | .v5 => ⟨S102400, .i32⟩
  | .v6 => ⟨S100000, .i32⟩
  | .cst => ⟨S_, .f32⟩
  | .v7 => ⟨S64x64, .f32⟩
  | .v8 => ⟨S100000x1, .i32⟩
  | .v9 => ⟨S64x64, .f32⟩
  | .v10 => ⟨S64, .f32⟩
  | .cst_0 => ⟨S_, .f32⟩
  | .v11 => ⟨S64, .f32⟩
  | .v12 => ⟨S64, .f32⟩
  | .v13 => ⟨S64x1, .f32⟩
  | .v14 => ⟨S64x64, .f32⟩
  | .v15 => ⟨S64x64, .f32⟩

/-- The operations of a stretch. -/
noncomputable def kerIns : List (Ins (Elt F) KSlot.T) :=
  [ .un .lab3 .v5 (shapeCast S102400 · shapeCasts_S16x1x6400_S102400),
    .un .v5 .v6 (extractStridedSlice S100000 ![0] · slices_S102400_S100000_0),
    .nul .cst (constant S_ .f32 0x00000000#32),
    .un .cst .v7 (broadcastInDim S64x64 ![] bcast_S_S64x64),
    .un .v6 .v8 (broadcastInDim S100000x1 ![0] bcast_S100000_S100000x1_0),
    .ter .v7 .v8 .x .v9 (fun x i u => Host.scatterAdd scatter_S64x64_S100000x1_S100000x64_1_0_0_1 x i u),
    .un .cnt2 .v10 (shapeCast S64 · shapeCasts_S64x1_S64),
    .nul .cst_0 (constant S_ .f32 0x3F800000#32),
    .un .cst_0 .v11 (broadcastInDim S64 ![] bcast_S_S64),
    .bin .v10 .v11 .v12 maximumf,
    .un .v12 .v13 (broadcastInDim S64x1 ![0] bcast_S64_S64x1_0),
    .un .v13 .v14 (broadcastInDim S64x64 ![0, 1] bcast_S64x1_S64x64_0_1),
    .bin .v9 .v14 .v15 Host.divf ]

/-- Where the values of stretch 1 lie. -/
noncomputable def kerTab1 : (s : KSlot) → TRef sig s.T
  | .x => .of main_v2
  | .lab3 => .of main_v4_0
  | .cnt2 => .of main_v4_1
  | .v5 => .of main_v5
  | .v6 => .of main_v6
  | .cst => .of main_cst
  | .v7 => .of main_v7
  | .v8 => .of main_v8
  | .v9 => .of main_v9
  | .v10 => .of main_v10
  | .cst_0 => .of main_cst_0
  | .v11 => .of main_v11
  | .v12 => .of main_v12
  | .v13 => .of main_v13
  | .v14 => .of main_v14
  | .v15 => .of main_v15

/-- Where the values of stretch 2 lie. -/
noncomputable def kerTab2 : (s : KSlot) → TRef sig s.T
  | .x => .of main_v2
  | .lab3 => .of main_v16_0
  | .cnt2 => .of main_v16_1
  | .v5 => .of main_v17
  | .v6 => .of main_v18
  | .cst => .of main_cst_1
  | .v7 => .of main_v19
  | .v8 => .of main_v20
  | .v9 => .of main_v21
  | .v10 => .of main_v22
  | .cst_0 => .of main_cst_2
  | .v11 => .of main_v23
  | .v12 => .of main_v24
  | .v13 => .of main_v25
  | .v14 => .of main_v26
  | .v15 => .of main_v27

/-- Where the values of stretch 3 lie. -/
noncomputable def kerTab3 : (s : KSlot) → TRef sig s.T
  | .x => .of main_v2
  | .lab3 => .of main_v28_0
  | .cnt2 => .of main_v28_1
  | .v5 => .of main_v29
  | .v6 => .of main_v30
  | .cst => .of main_cst_3
  | .v7 => .of main_v31
  | .v8 => .of main_v32
  | .v9 => .of main_v33
  | .v10 => .of main_v34
  | .cst_0 => .of main_cst_4
  | .v11 => .of main_v35
  | .v12 => .of main_v36
  | .v13 => .of main_v37
  | .v14 => .of main_v38
  | .v15 => .of main_v39

/-- Where the values of stretch 4 lie. -/
noncomputable def kerTab4 : (s : KSlot) → TRef sig s.T
  | .x => .of main_v2
  | .lab3 => .of main_v40_0
  | .cnt2 => .of main_v40_1
  | .v5 => .of main_v41
  | .v6 => .of main_v42
  | .cst => .of main_cst_5
  | .v7 => .of main_v43
  | .v8 => .of main_v44
  | .v9 => .of main_v45
  | .v10 => .of main_v46
  | .cst_0 => .of main_cst_6
  | .v11 => .of main_v47
  | .v12 => .of main_v48
  | .v13 => .of main_v49
  | .v14 => .of main_v50
  | .v15 => .of main_v51

/-- Where the values of stretch 5 lie. -/
noncomputable def kerTab5 : (s : KSlot) → TRef sig s.T
  | .x => .of main_v2
  | .lab3 => .of main_v52_0
  | .cnt2 => .of main_v52_1
  | .v5 => .of main_v53
  | .v6 => .of main_v54
  | .cst => .of main_cst_7
  | .v7 => .of main_v55
  | .v8 => .of main_v56
  | .v9 => .of main_v57
  | .v10 => .of main_v58
  | .cst_0 => .of main_cst_8
  | .v11 => .of main_v59
  | .v12 => .of main_v60
  | .v13 => .of main_v61
  | .v14 => .of main_v62
  | .v15 => .of main_v63

/-- Where the values of stretch 6 lie. -/
noncomputable def kerTab6 : (s : KSlot) → TRef sig s.T
  | .x => .of main_v2
  | .lab3 => .of main_v64_0
  | .cnt2 => .of main_v64_1
  | .v5 => .of main_v65
  | .v6 => .of main_v66
  | .cst => .of main_cst_9
  | .v7 => .of main_v67
  | .v8 => .of main_v68
  | .v9 => .of main_v69
  | .v10 => .of main_v70
  | .cst_0 => .of main_cst_10
  | .v11 => .of main_v71
  | .v12 => .of main_v72
  | .v13 => .of main_v73
  | .v14 => .of main_v74
  | .v15 => .of main_v75

/-- Where the values of stretch 7 lie. -/
noncomputable def kerTab7 : (s : KSlot) → TRef sig s.T
  | .x => .of main_v2
  | .lab3 => .of main_v76_0
  | .cnt2 => .of main_v76_1
  | .v5 => .of main_v77
  | .v6 => .of main_v78
  | .cst => .of main_cst_11
  | .v7 => .of main_v79
  | .v8 => .of main_v80
  | .v9 => .of main_v81
  | .v10 => .of main_v82
  | .cst_0 => .of main_cst_12
  | .v11 => .of main_v83
  | .v12 => .of main_v84
  | .v13 => .of main_v85
  | .v14 => .of main_v86
  | .v15 => .of main_v87

/-- Where the values of stretch 8 lie. -/
noncomputable def kerTab8 : (s : KSlot) → TRef sig s.T
  | .x => .of main_v2
  | .lab3 => .of main_v88_0
  | .cnt2 => .of main_v88_1
  | .v5 => .of main_v89
  | .v6 => .of main_v90
  | .cst => .of main_cst_13
  | .v7 => .of main_v91
  | .v8 => .of main_v92
  | .v9 => .of main_v93
  | .v10 => .of main_v94
  | .cst_0 => .of main_cst_14
  | .v11 => .of main_v95
  | .v12 => .of main_v96
  | .v13 => .of main_v97
  | .v14 => .of main_v98
  | .v15 => .of main_v99

/-- Where the values of stretch 9 lie. -/
noncomputable def kerTab9 : (s : KSlot) → TRef sig s.T
  | .x => .of main_v2
  | .lab3 => .of main_v100_0
  | .cnt2 => .of main_v100_1
  | .v5 => .of main_v101
  | .v6 => .of main_v102
  | .cst => .of main_cst_15
  | .v7 => .of main_v103
  | .v8 => .of main_v104
  | .v9 => .of main_v105
  | .v10 => .of main_v106
  | .cst_0 => .of main_cst_16
  | .v11 => .of main_v107
  | .v12 => .of main_v108
  | .v13 => .of main_v109
  | .v14 => .of main_v110
  | .v15 => .of main_v111

/-- Where the values of stretch 10 lie. -/
noncomputable def kerTab10 : (s : KSlot) → TRef sig s.T
  | .x => .of main_v2
  | .lab3 => .of main_v112_0
  | .cnt2 => .of main_v112_1
  | .v5 => .of main_v113
  | .v6 => .of main_v114
  | .cst => .of main_cst_17
  | .v7 => .of main_v115
  | .v8 => .of main_v116
  | .v9 => .of main_v117
  | .v10 => .of main_v118
  | .cst_0 => .of main_cst_18
  | .v11 => .of main_v119
  | .v12 => .of main_v120
  | .v13 => .of main_v121
  | .v14 => .of main_v122
  | .v15 => .of main_v123

/-- The ten stretches' buffers. -/
noncomputable def kerTabs : List ((s : KSlot) → TRef sig s.T) := [kerTab1, kerTab2, kerTab3, kerTab4, kerTab5, kerTab6, kerTab7, kerTab8, kerTab9, kerTab10]

/-- Every value is listed. -/
theorem KSlot.mem_all (s : KSlot) : s ∈ KSlot.all := by cases s <;> decide

/-- Within a stretch the buffers are distinct. -/
theorem kerTabs_inj : ∀ B ∈ kerTabs, Function.Injective fun s => (B s).ref := by
  have h : ∀ B ∈ kerTabs, (KSlot.all.map fun s => (B s).ref.idx.val).Nodup := by
    simp only [kerTabs, List.forall_mem_cons]
    exact ⟨by decide +kernel, by decide +kernel, by decide +kernel, by decide +kernel, by decide +kernel, by decide +kernel,
      by decide +kernel, by decide +kernel, by decide +kernel, by decide +kernel, nofun⟩
  exact fun B hB s t e => List.inj_on_of_nodup_map (h B hB) (KSlot.mem_all s) (KSlot.mem_all t) (congrArg (fun r : Ref sig .tc => r.idx.val) e)

/-- Every slot of a stretch is written once. -/
theorem once_ker : once (kerIns (F := F)) = true := rfl

/-- Stretch 1 is the common line over its buffers. -/
theorem hostOps2_line : (hostOps2 : List (HloOp τ sig (Elt F))) = line kerTab1 kerIns := rfl

/-- Stretch 2 is the common line over its buffers. -/
theorem hostOps3_line : (hostOps3 : List (HloOp τ sig (Elt F))) = line kerTab2 kerIns := rfl

/-- Stretch 3 is the common line over its buffers. -/
theorem hostOps4_line : (hostOps4 : List (HloOp τ sig (Elt F))) = line kerTab3 kerIns := rfl

/-- Stretch 4 is the common line over its buffers. -/
theorem hostOps5_line : (hostOps5 : List (HloOp τ sig (Elt F))) = line kerTab4 kerIns := rfl

/-- Stretch 5 is the common line over its buffers. -/
theorem hostOps6_line : (hostOps6 : List (HloOp τ sig (Elt F))) = line kerTab5 kerIns := rfl

/-- Stretch 6 is the common line over its buffers. -/
theorem hostOps7_line : (hostOps7 : List (HloOp τ sig (Elt F))) = line kerTab6 kerIns := rfl

/-- Stretch 7 is the common line over its buffers. -/
theorem hostOps8_line : (hostOps8 : List (HloOp τ sig (Elt F))) = line kerTab7 kerIns := rfl

/-- Stretch 8 is the common line over its buffers. -/
theorem hostOps9_line : (hostOps9 : List (HloOp τ sig (Elt F))) = line kerTab8 kerIns := rfl

/-- Stretch 9 is the common line over its buffers. -/
theorem hostOps10_line : (hostOps10 : List (HloOp τ sig (Elt F))) = line kerTab9 kerIns := rfl

/-- Stretch 10 is the common line over its buffers. -/
theorem hostOps11_line : (hostOps11 : List (HloOp τ sig (Elt F))) = line kerTab10 kerIns := rfl

end Cert.KernelIdeal.Km

end
-- ==== Proof.KerHostVal.lean ====
/- What a host stretch of the kernel computes: the next centres as the reference computes them. -/
module

public import proofs.«01_k».proof.Proof.KerHost
public import proofs.«01_k».proof.Proof.RefIterVal
public import Idealize.ShloMosaic.Lib.Pointwise

@[expose] public section

set_option maxRecDepth 16384

noncomputable section

namespace Cert.KernelIdeal.Km

open Cert.KernelIdeal Cert.KernelIdeal.Gen Cert.Slots Idealize.ShloMosaic Idealize.ShloMosaic.TcCoe Idealize.ShloMosaic.StableHlo

/-- The labels of the rows that are not padding, in a row. -/
def flatLab (l : IVec S16x1x6400 32) : IVec S100000 32 :=
  extractStridedSlice S100000 ![0] (shapeCast S102400 l shapeCasts_S16x1x6400_S102400) slices_S102400_S100000_0

/-- The counts, in a row. -/
def flatCnt (n : FVec Ideal S64x1 .f32) : FVec Ideal S64 .f32 := shapeCast S64 n shapeCasts_S64x1_S64

/-- A stretch leaves the next centres. -/
theorem acts_ker (L : (k : KSlot) → (KSlot.T k).Contents (Elt Ideal)) :
    (acts kerIns L .v15 : FVec Ideal S64x64 .f32) = Cert.ReferenceIdeal.Km.nextOf (L .x) (flatLab (L .lab3)) (flatCnt (L .cnt2)) := by
  have h := acts_forall kerIns L once_ker
  have hx : acts kerIns L .x = L .x := rfl
  have hl : acts kerIns L .lab3 = L .lab3 := rfl
  have hn : acts kerIns L .cnt2 = L .cnt2 := rfl
  generalize acts kerIns L = S at h hx hl hn ⊢
  obtain ⟨h5, h6, hc, h7, h8, h9, h10, hc0, h11, h12, h13, h14, h15⟩ := h
  simp only [List.Forall, Ins.holds] at *
  rw [h15, h14, h13, h12, h11, hc0, h10, h9, h8, h7, hc, h6, h5, hx, hl, hn]
  rfl

/-- A row's label in a row is its tile's. -/
theorem flatLab_apply (l : IVec S16x1x6400 32) (k : Fin 16) (r : Fin 6400) (q : Fin 100000) (h : q.val = 6400 * k.val + r.val) :
    flatLab l (ix1 q) = l (ix3 k 0 r) := by
  pointwise [flatLab]
  have hr := r.isLt
  exact congrArg l (congrArg₂ (fun a b => ix3 a 0 b) (Fin.ext (by show q.val / 6400 = k.val; omega)) (Fin.ext (by show q.val % 6400 = r.val; omega)))

/-- A place's count in a row. -/
theorem flatCnt_apply (n : FVec Ideal S64x1 .f32) (j : Fin 64) : flatCnt n (ix1 j) = n (ix2 j 0) := by
  pointwise [flatCnt]

end Cert.KernelIdeal.Km

end
-- ==== Proof.Tiles.lean ====
/- The kernel's labels and counts, over the extended reals: of every row its nearest place, of every place the number of its rows. -/
module

public import proofs.«01_k».proof.Proof.Tile

@[expose] public section

set_option maxRecDepth 16384

noncomputable section

namespace Cert.KernelIdeal.Km

open Cert.KernelIdeal Cert.KernelIdeal.Gen Cert.Means Idealize.ShloMosaic Idealize.ShloMosaic.TcCoe

/-- There are sixteen tiles. -/
theorem trips_eq : k1_t1_loop.trips = 16 := by decide +kernel

/-- Where a tile starts. -/
theorem off1_eq : ∀ k : Fin k1_t1_loop.trips, k1_off1 k 0 = 6400 * k.val ∧ k1_off1 k 1 = 0 := by decide +kernel

/-- Where a tile's labels go. -/
theorem off2_eq : ∀ k : Fin k1_t1_loop.trips, k1_off2 k 0 = k.val ∧ k1_off2 k 1 = 0 ∧ k1_off2 k 2 = 0 := by decide +kernel

/-- The place nearest to a row. -/
def rowNear (t : FVec Ideal S102400x64 .f32) (ce : FVec Ideal S64x64 .f32) (q : Fin 102400) : Fin 64 :=
  near fun x => gap (fun j => t (ix2 q j)) (fun j => ce (ix2 x j))

/-- A tile's rows are rows of the whole. -/
theorem nearIn_eq (t : FVec Ideal S102400x64 .f32) (ce : FVec Ideal S64x64 .f32) (k : Fin k1_t1_loop.trips) (r : Fin 6400)
    (q : Fin 102400) (hq : q.val = 6400 * k.val + r.val) : nearIn t ce k r = rowNear t ce q := by
  have h : ∀ j : Fin 64, (tile (F := Ideal) t k : FVec Ideal S6400x64 .f32) (ix2 r j) = t (ix2 q j) := fun j => by
    pointwise
    refine congrArg t ?_
    refine funext fun a => Fin.ext ?_
    match a with
    | ⟨0, _⟩ =>
      show k1_off1 k 0 + 1 * r.val = q.val
      rw [(off1_eq k).1, hq, Nat.one_mul]
    | ⟨1, _⟩ =>
      show k1_off1 k 1 + 1 * j.val = j.val
      rw [(off1_eq k).2, Nat.zero_add, Nat.one_mul]
  unfold nearIn rowNear
  simp only [h]

/-- What a row adds to the count of a place. -/
def share (t : FVec Ideal S102400x64 .f32) (ce : FVec Ideal S64x64 .f32) (j : Fin 64) (q : ℕ) : EReal :=
  if h : q < 102400 then (if rowNear t ce ⟨q, h⟩ = j ∧ q < 100000 then 1 else 0) else 0

/-- The counts after some tiles. -/
theorem cntFrom_apply (t : FVec Ideal S102400x64 .f32) (ce : FVec Ideal S64x64 .f32) (j : Fin 64) (n : ℕ) (hn : n ≤ k1_t1_loop.trips) :
    (cntFrom (F := Ideal) t ce k1_pay4 n : FVec Ideal S64x1 .f32) (ix2 j 0) = ∑ q ∈ Finset.range (6400 * n), share t ce j q := by
  induction n with
  | zero =>
    simp only [cntFrom, Nat.mul_zero, Finset.range_zero, Finset.sum_empty]
    pointwise [k1_pay4]
  | succ n ih =>
    have ht := trips_eq
    rw [cntFrom, dif_pos (by omega : n < k1_t1_loop.trips), Nat.mul_succ, Finset.sum_range_add, ← ih (by omega)]
    generalize cntFrom (F := Ideal) t ce k1_pay4 n = X
    have hI : ∀ r : Fin 6400, (tileInd (F := Ideal) t ce ⟨n, by omega⟩ : FVec Ideal S6400x64 .f32) (ix2 r j) = share t ce j (6400 * n + r.val) := fun r => by
      have hr := r.isLt
      rw [tileInd_apply, nearIn_eq t ce ⟨n, by omega⟩ r ⟨6400 * n + r.val, by omega⟩ rfl, share, dif_pos (by omega)]
    generalize tileInd (F := Ideal) t ce ⟨n, by omega⟩ = I at hI
    rw [Finset.sum_range, ← Finset.sum_congr rfl fun r _ => hI r]
    pointwise [k1_pay5]

/-- The count of a place is the number of the rows nearest to it. -/
theorem counts_apply (t : FVec Ideal S102400x64 .f32) (ce : FVec Ideal S64x64 .f32) (l : Fin 100000 → Fin 64)
    (h : ∀ r : Fin 100000, rowNear t ce ⟨r.val, by omega⟩ = l r) (j : Fin 64) :
    (counts (F := Ideal) t ce : FVec Ideal S64x1 .f32) (ix2 j 0) = ∑ r : Fin 100000, if l r = j then 1 else 0 := by
  rw [counts, cntFrom_apply t ce j _ le_rfl, trips_eq, show 6400 * 16 = 100000 + 2400 from rfl, Finset.sum_range_add, Finset.sum_range,
    Finset.sum_eq_zero (s := Finset.range 2400), add_zero]
  · refine Finset.sum_congr rfl fun r _ => ?_
    have hr := r.isLt
    rw [share, dif_pos (by omega), h]
    simp only [hr, and_true]
  · intro x hx
    rw [Finset.mem_range] at hx
    rw [share, dif_pos (by omega), if_neg (by omega)]

/-- Every store of labels is a tile's. -/
theorem labAfter_mem (t : FVec Ideal S102400x64 .f32) (ce : FVec Ideal S64x64 .f32) :
    ∀ n, n ≤ k1_t1_loop.trips → ∀ p ∈ labAfter (F := Ideal) t ce n, ∃ i : Fin k1_t1_loop.trips, p = labPiece t ce i := by
  intro n
  induction n with
  | zero => intro _ p hp; simp [labAfter] at hp
  | succ n ih =>
    intro hn p hp
    rw [labAfter, dif_pos (by omega : n < k1_t1_loop.trips)] at hp
    rcases List.mem_cons.mp hp with rfl | hp
    · exact ⟨_, rfl⟩
    · exact ih (by omega) p hp

/-- The labels, by tile and row. -/
def labAt (t : FVec Ideal S102400x64 .f32) (ce : FVec Ideal S64x64 .f32) (y : S16x1x6400.Idx) : BitVec 32 :=
  (tileLab (F := Ideal) t ce ⟨(y 0).val, lt_of_lt_of_eq (y 0).isLt trips_eq.symm⟩ : IVec S1x1x6400 32) (ix3 0 0 (y 2))

/-- A tile's stored labels are the labels at its place. -/
theorem piece_labAt (t : FVec Ideal S102400x64 .f32) (ce : FVec Ideal S64x64 .f32) (i : Fin k1_t1_loop.trips) (x : S1x1x6400.Idx) :
    (tileLab (F := Ideal) t ce i : IVec S1x1x6400 32) x
      = labAt t ce ((Rect.unit (s := S16x1x6400) (k1_off2 i) S1x1x6400.size (k1_off2_inb i)).emb x) := by
  obtain ⟨a, b, d, rfl⟩ : ∃ (a : Fin 1) (b : Fin 1) (d : Fin 6400), x = ix3 a b d := ⟨_, _, _, eq_ix3 _⟩
  obtain rfl : a = 0 := Subsingleton.elim _ _
  obtain rfl : b = 0 := Subsingleton.elim _ _
  have h0 := (off2_eq i).1
  have h2 := (off2_eq i).2.2
  unfold labAt
  have e0 : (((Rect.unit (s := S16x1x6400) (k1_off2 i) S1x1x6400.size (k1_off2_inb i)).emb (ix3 0 0 d)) 0).val = i.val := by
    show k1_off2 i 0 + 1 * 0 = i.val
    rw [h0]; rfl
  have e2 : (((Rect.unit (s := S16x1x6400) (k1_off2 i) S1x1x6400.size (k1_off2_inb i)).emb (ix3 0 0 d)) 2 : Fin 6400) = d := by
    refine Fin.ext ?_
    show k1_off2 i 2 + 1 * d.val = d.val
    rw [h2, Nat.zero_add, Nat.one_mul]
  generalize ((Rect.unit (s := S16x1x6400) (k1_off2 i) S1x1x6400.size (k1_off2_inb i)).emb (ix3 0 0 d)) = y at e0 e2
  obtain ⟨a, b, d', rfl⟩ : ∃ (a : Fin 16) (b : Fin 1) (d' : Fin 6400), y = ix3 a b d' := ⟨_, _, _, eq_ix3 _⟩
  have e2' : d' = d := e2
  subst e2'
  have e0' : a.val = i.val := e0
  exact congrArg (fun z : Fin k1_t1_loop.trips => (tileLab (F := Ideal) t ce z : IVec S1x1x6400 32) (ix3 0 0 d')) (Fin.ext e0'.symm)

/-- A piece agrees with the labels by tile and row. -/
theorem pieces_labAt (t : FVec Ideal S102400x64 .f32) (ce : FVec Ideal S64x64 .f32)
    (p : View.Piece (Elt Ideal) S16x1x6400 .i32) (hp : ∃ i : Fin k1_t1_loop.trips, p = labPiece t ce i) (x : p.1.shape.Idx) :
    p.2 x = labAt t ce (p.1.emb x) := by
  obtain ⟨i, rfl⟩ := hp
  exact piece_labAt t ce i x

/-- The stored labels are the labels by tile and row. -/
theorem labels_labAt (t : FVec Ideal S102400x64 .f32) (ce : FVec Ideal S64x64 .f32) (y : S16x1x6400.Idx) :
    (labels (F := Ideal) t ce : IVec S16x1x6400 32) y = labAt t ce y :=
  View.canon_apply_of_pieces (Val := Elt Ideal) (S := S16x1x6400) (e := .i32) (show S16x1x6400.Idx → Elt Ideal .i32 from labAt t ce) (labAfter (F := Ideal) t ce k1_t1_loop.trips)
    (fun p hp => pieces_labAt t ce p (labAfter_mem t ce _ le_rfl p hp)) y (lab_cover (F := Ideal) t ce y)

/-- The stored label of a row that is not padding. -/
theorem labels_apply (t : FVec Ideal S102400x64 .f32) (ce : FVec Ideal S64x64 .f32) (k : Fin 16) (r : Fin 6400)
    (q : Fin 102400) (hq : q.val = 6400 * k.val + r.val) (hlt : q.val < 100000) :
    (labels (F := Ideal) t ce : IVec S16x1x6400 32) (ix3 k 0 r) = word (rowNear t ce q) := by
  have hk : k.val < k1_t1_loop.trips := lt_of_lt_of_eq k.isLt trips_eq.symm
  have h1 : labAt t ce (ix3 k 0 r) = (tileLab (F := Ideal) t ce ⟨k.val, hk⟩ : IVec S1x1x6400 32) (ix3 0 0 r) := rfl
  rw [labels_labAt, h1, tileLab_apply t ce ⟨k.val, hk⟩ r (by rw [hq] at hlt; exact hlt), nearIn_eq t ce ⟨k.val, hk⟩ r q hq]

end Cert.KernelIdeal.Km

end
-- ==== Proof.RefHead.lean ====
/- The reference up to its first iteration: the rows gathered, the transform, the first centroids. -/
module

public import proofs.«01_k».proof.Proof.Slots
public import proofs.«01_k».proof.ReferenceIdeal
public import proofs.«01_k».proof.Proof.Gen.ReferenceIdeal

@[expose] public section

set_option maxRecDepth 16384

noncomputable section

namespace Cert.ReferenceIdeal.Km

open Cert.ReferenceIdeal Cert.ReferenceIdeal.Gen Cert.Slots Idealize.ShloMosaic Idealize.ShloMosaic.TcCoe Idealize.ShloMosaic.StableHlo

variable {F : FTy → Type} [FloatOps F]

/-- The values of this part. -/
inductive HSlot
  | arg0 | arg1 | arg2 | arg3 | call0_c | call0_v0 | call0_v1 | call0_c_0 | call0_v2 | call0_v3 | call0_v4 | call0_v5 | call0_c_1 | call0_c_2 | call0_v6 | call0_v7 | call0_v8 | call0_v9 | call0_v10 | call0_v11 | call0_c_3 | call0_v12 | call0_v13 | call0_v14 | call0_cst | call0_v15 | v0 | v1 | v2 | v3 | v4 | v5 | cst | v6 | v7 | v8 | v9 | c | v10
  deriving DecidableEq

/-- All of them. -/
abbrev HSlot.all : List HSlot := [.arg0, .arg1, .arg2, .arg3, .call0_c, .call0_v0, .call0_v1, .call0_c_0, .call0_v2, .call0_v3, .call0_v4, .call0_v5, .call0_c_1, .call0_c_2, .call0_v6, .call0_v7, .call0_v8, .call0_v9, .call0_v10, .call0_v11, .call0_c_3, .call0_v12, .call0_v13, .call0_v14, .call0_cst, .call0_v15, .v0, .v1, .v2, .v3, .v4, .v5, .cst, .v6, .v7, .v8, .v9, .c, .v10]

/-- Their types. -/
abbrev HSlot.T : HSlot → BufTy
  | .arg0 => ⟨S100000, .i32⟩
  | .arg1 => ⟨S100000x64, .f32⟩
  | .arg2 => ⟨S64x64, .f32⟩
  | .arg3 => ⟨S64, .f32⟩
  | .call0_c => ⟨S_, .i32⟩
  | .call0_v0 => ⟨S100000, .i32⟩
  | .call0_v1 => ⟨S100000, .i1⟩
  | .call0_c_0 => ⟨S_, .i32⟩
  | .call0_v2 => ⟨S100000, .i32⟩
  | .call0_v3 => ⟨S100000, .i32⟩
  | .call0_v4 => ⟨S100000, .i32⟩
  | .call0_v5 => ⟨S100000x1, .i32⟩
  | .call0_c_1 => ⟨S1, .i32⟩
  | .call0_c_2 => ⟨S_, .i32⟩
  | .call0_v6 => ⟨S100000x1, .i32⟩
  | .call0_v7 => ⟨S100000x1, .i1⟩
  | .call0_v8 => ⟨S1x1, .i32⟩
  | .call0_v9 => ⟨S100000x1, .i32⟩
  | .call0_v10 => ⟨S100000x1, .i1⟩
  | .call0_v11 => ⟨S100000x1, .i1⟩
  | .call0_c_3 => ⟨S_, .i1⟩
  | .call0_v12 => ⟨S100000, .i1⟩
  | .call0_v13 => ⟨S100000x64, .f32⟩
  | .call0_v14 => ⟨S100000x64, .i1⟩
  | .call0_cst => ⟨S_, .f32⟩
  | .call0_v15 => ⟨S100000x64, .f32⟩
  | .v0 => ⟨S100000x64, .f32⟩
  | .v1 => ⟨S64x64, .f32⟩
  | .v2 => ⟨S100000x64, .f32⟩
  | .v3 => ⟨S1x64, .f32⟩
  | .v4 => ⟨S100000x64, .f32⟩
  | .v5 => ⟨S100000x64, .f32⟩
  | .cst => ⟨S_, .f32⟩
  | .v6 => ⟨S100000x64, .f32⟩
  | .v7 => ⟨S100000x64, .f32⟩
  | .v8 => ⟨S100000x64, .f32⟩
  | .v9 => ⟨S64x64, .f32⟩
  | .c => ⟨S_, .i32⟩
  | .v10 => ⟨S100000, .i32⟩

/-- Where they lie. -/
noncomputable def headTab : (s : HSlot) → TRef sig s.T
  | .arg0 => .of main_arg0
  | .arg1 => .of main_arg1
  | .arg2 => .of main_arg2
  | .arg3 => .of main_arg3
  | .call0_c => .of main_call0_c
  | .call0_v0 => .of main_call0_v0
  | .call0_v1 => .of main_call0_v1
  | .call0_c_0 => .of main_call0_c_0
  | .call0_v2 => .of main_call0_v2
  | .call0_v3 => .of main_call0_v3
  | .call0_v4 => .of main_call0_v4
  | .call0_v5 => .of main_call0_v5
  | .call0_c_1 => .of main_call0_c_1
  | .call0_c_2 => .of main_call0_c_2
  | .call0_v6 => .of main_call0_v6
  | .call0_v7 => .of main_call0_v7
  | .call0_v8 => .of main_call0_v8
  | .call0_v9 => .of main_call0_v9
  | .call0_v10 => .of main_call0_v10
  | .call0_v11 => .of main_call0_v11
  | .call0_c_3 => .of main_call0_c_3
  | .call0_v12 => .of main_call0_v12
  | .call0_v13 => .of main_call0_v13
  | .call0_v14 => .of main_call0_v14
  | .call0_cst => .of main_call0_cst
  | .call0_v15 => .of main_call0_v15
  | .v0 => .of main_v0
  | .v1 => .of main_v1
  | .v2 => .of main_v2
  | .v3 => .of main_v3
  | .v4 => .of main_v4
  | .v5 => .of main_v5
  | .cst => .of main_cst
  | .v6 => .of main_v6
  | .v7 => .of main_v7
  | .v8 => .of main_v8
  | .v9 => .of main_v9
  | .c => .of main_c
  | .v10 => .of main_v10

/-- Its operations. -/
noncomputable def headIns : List (Ins (Elt F) HSlot.T) :=
  [ .nul .call0_c (constantI S_ 32 0#32),
    .un .call0_c .call0_v0 (broadcastInDim S100000 ![] bcast_S_S100000),
    .bin .arg0 .call0_v0 .call0_v1 (cmpi .slt),
    .nul .call0_c_0 (constantI S_ 32 100000#32),
    .un .call0_c_0 .call0_v2 (broadcastInDim S100000 ![] bcast_S_S100000),
    .bin .arg0 .call0_v2 .call0_v3 addi,
    .ter .call0_v1 .call0_v3 .arg0 .call0_v4 select,
    .un .call0_v4 .call0_v5 (broadcastInDim S100000x1 ![0] bcast_S100000_S100000x1_0),
    .nul .call0_c_1 (constantI S1 32 99999#32),
    .nul .call0_c_2 (constantI S_ 32 0#32),
    .un .call0_c_2 .call0_v6 (broadcastInDim S100000x1 ![] bcast_S_S100000x1),
    .bin .call0_v5 .call0_v6 .call0_v7 (cmpi .sge),
    .un .call0_c_1 .call0_v8 (broadcastInDim S1x1 ![1] bcast_S1_S1x1_1),
    .un .call0_v8 .call0_v9 (broadcastInDim S100000x1 ![0, 1] bcast_S1x1_S100000x1_0_1),
    .bin .call0_v5 .call0_v9 .call0_v10 (cmpi .sle),
    .bin .call0_v7 .call0_v10 .call0_v11 andi,
    .nul .call0_c_3 (constantI S_ 1 1#1),
    .bin .call0_v11 .call0_c_3 .call0_v12 (fun x v => Host.reduce IntOp.andi x v reducesTo_S100000x1_S100000_d1 h_S_),
    .bin .arg1 .call0_v5 .call0_v13 (fun x i => Host.gather gather_S100000x64_S100000x1_S100000x64_1_0_n_n_0_1_164 x i),
    .un .call0_v12 .call0_v14 (broadcastInDim S100000x64 ![0] bcast_S100000_S100000x64_0),
    .nul .call0_cst (constant S_ .f32 0x7FC00000#32),
    .un .call0_cst .call0_v15 (broadcastInDim S100000x64 ![] bcast_S_S100000x64),
    .ter .call0_v14 .call0_v13 .call0_v15 .v0 select,
    .un .arg2 .v1 ((transpose S64x64 [1, 0] · transposes_S64x64_S64x64_1_0) : (⟨S64x64, .f32⟩ : BufTy).Contents (Elt F) → (⟨S64x64, .f32⟩ : BufTy).Contents (Elt F)),
    .bin .v0 .v1 .v2 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    .un .arg3 .v3 (broadcastInDim S1x64 ![1] bcast_S64_S1x64_1 : (⟨S64, .f32⟩ : BufTy).Contents (Elt F) → (⟨S1x64, .f32⟩ : BufTy).Contents (Elt F)),
    .un .v3 .v4 (broadcastInDim S100000x64 ![0, 1] bcast_S1x64_S100000x64_0_1 : (⟨S1x64, .f32⟩ : BufTy).Contents (Elt F) → (⟨S100000x64, .f32⟩ : BufTy).Contents (Elt F)),
    .bin .v2 .v4 .v5 (addf : (⟨S100000x64, .f32⟩ : BufTy).Contents (Elt F) → (⟨S100000x64, .f32⟩ : BufTy).Contents (Elt F) → (⟨S100000x64, .f32⟩ : BufTy).Contents (Elt F)),
    .nul .cst (constant S_ .f32 0x40400000#32),
    .un .cst .v6 (broadcastInDim S100000x64 ![] bcast_S_S100000x64 : (⟨S_, .f32⟩ : BufTy).Contents (Elt F) → (⟨S100000x64, .f32⟩ : BufTy).Contents (Elt F)),
    .bin .v6 .v5 .v7 (mulf : (⟨S100000x64, .f32⟩ : BufTy).Contents (Elt F) → (⟨S100000x64, .f32⟩ : BufTy).Contents (Elt F) → (⟨S100000x64, .f32⟩ : BufTy).Contents (Elt F)),
    .un .v7 .v8 (Host.tanh : (⟨S100000x64, .f32⟩ : BufTy).Contents (Elt F) → (⟨S100000x64, .f32⟩ : BufTy).Contents (Elt F)),
    .un .v8 .v9 ((extractStridedSlice S64x64 ![0, 0] · slices_S100000x64_S64x64_0_0) : (⟨S100000x64, .f32⟩ : BufTy).Contents (Elt F) → (⟨S64x64, .f32⟩ : BufTy).Contents (Elt F)),
    .nul .c (constantI S_ 32 0#32),
    .un .c .v10 (broadcastInDim S100000 ![] bcast_S_S100000 : (⟨S_, .i32⟩ : BufTy).Contents (Elt F) → (⟨S100000, .i32⟩ : BufTy).Contents (Elt F)) ]

/-- Every value is listed. -/
theorem HSlot.mem_all (s : HSlot) : s ∈ HSlot.all := by cases s <;> decide

/-- The buffers are distinct. -/
theorem headTab_inj : Function.Injective fun s => (headTab s).ref := fun s t h =>
  List.inj_on_of_nodup_map (f := fun s => (headTab s).ref.idx.val) (l := HSlot.all) (by decide +kernel) (HSlot.mem_all s) (HSlot.mem_all t) (congrArg (fun r : Ref sig .tc => r.idx.val) h)

end Cert.ReferenceIdeal.Km

end
-- ==== Proof.RefTail.lean ====
/- The reference after its last iteration: the labels as a one-hot matrix. -/
module

public import proofs.«01_k».proof.Proof.Slots
public import proofs.«01_k».proof.ReferenceIdeal
public import proofs.«01_k».proof.Proof.Gen.ReferenceIdeal

@[expose] public section

set_option maxRecDepth 16384

noncomputable section

namespace Cert.ReferenceIdeal.Km

open Cert.ReferenceIdeal Cert.ReferenceIdeal.Gen Cert.Slots Idealize.ShloMosaic Idealize.ShloMosaic.TcCoe Idealize.ShloMosaic.StableHlo

variable {F : FTy → Type} [FloatOps F]

/-- The values of this part. -/
inductive TSlot
  | lab | cst_70 | v281 | v282 | c_71 | v283 | v284 | c_72 | v285 | v286 | v287 | c_73 | v288 | v289 | c_74 | v290 | v291 | v292 | v293 | v294 | v295 | cst_75 | v296
  deriving DecidableEq

/-- All of them. -/
abbrev TSlot.all : List TSlot := [.lab, .cst_70, .v281, .v282, .c_71, .v283, .v284, .c_72, .v285, .v286, .v287, .c_73, .v288, .v289, .c_74, .v290, .v291, .v292, .v293, .v294, .v295, .cst_75, .v296]

/-- Their types. -/
abbrev TSlot.T : TSlot → BufTy
  | .lab => ⟨S100000, .i32⟩
  | .cst_70 => ⟨S_, .f32⟩
  | .v281 => ⟨S64x100000, .f32⟩
  | .v282 => ⟨S100000, .i32⟩
  | .c_71 => ⟨S_, .i32⟩
  | .v283 => ⟨S100000, .i32⟩
  | .v284 => ⟨S100000, .i1⟩
  | .c_72 => ⟨S_, .i32⟩
  | .v285 => ⟨S100000, .i32⟩
  | .v286 => ⟨S100000, .i32⟩
  | .v287 => ⟨S100000, .i32⟩
  | .c_73 => ⟨S_, .i32⟩
  | .v288 => ⟨S100000, .i32⟩
  | .v289 => ⟨S100000, .i1⟩
  | .c_74 => ⟨S_, .i32⟩
  | .v290 => ⟨S100000, .i32⟩
  | .v291 => ⟨S100000, .i32⟩
  | .v292 => ⟨S100000, .i32⟩
  | .v293 => ⟨S100000x1, .i32⟩
  | .v294 => ⟨S100000x1, .i32⟩
  | .v295 => ⟨S100000x2, .i32⟩
  | .cst_75 => ⟨S_, .f32⟩
  | .v296 => ⟨S100000, .f32⟩

/-- Where they lie. -/
noncomputable def tailTab : (s : TSlot) → TRef sig s.T
  | .lab => .of main_v268
  | .cst_70 => .of main_cst_70
  | .v281 => .of main_v281
  | .v282 => .of main_v282
  | .c_71 => .of main_c_71
  | .v283 => .of main_v283
  | .v284 => .of main_v284
  | .c_72 => .of main_c_72
  | .v285 => .of main_v285
  | .v286 => .of main_v286
  | .v287 => .of main_v287
  | .c_73 => .of main_c_73
  | .v288 => .of main_v288
  | .v289 => .of main_v289
  | .c_74 => .of main_c_74
  | .v290 => .of main_v290
  | .v291 => .of main_v291
  | .v292 => .of main_v292
  | .v293 => .of main_v293
  | .v294 => .of main_v294
  | .v295 => .of main_v295
  | .cst_75 => .of main_cst_75
  | .v296 => .of main_v296

/-- Its operations but the last. -/
noncomputable def tailIns : List (Ins (Elt F) TSlot.T) :=
  [ .nul .cst_70 (constant S_ .f32 0x00000000#32),
    .un .cst_70 .v281 (broadcastInDim S64x100000 ![] bcast_S_S64x100000 : (⟨S_, .f32⟩ : BufTy).Contents (Elt F) → (⟨S64x100000, .f32⟩ : BufTy).Contents (Elt F)),
    .nul .v282 (iotaInDim S100000 32 0),
    .nul .c_71 (constantI S_ 32 0#32),
    .un .c_71 .v283 (broadcastInDim S100000 ![] bcast_S_S100000 : (⟨S_, .i32⟩ : BufTy).Contents (Elt F) → (⟨S100000, .i32⟩ : BufTy).Contents (Elt F)),
    .bin .lab .v283 .v284 (cmpi .slt : (⟨S100000, .i32⟩ : BufTy).Contents (Elt F) → (⟨S100000, .i32⟩ : BufTy).Contents (Elt F) → (⟨S100000, .i1⟩ : BufTy).Contents (Elt F)),
    .nul .c_72 (constantI S_ 32 64#32),
    .un .c_72 .v285 (broadcastInDim S100000 ![] bcast_S_S100000 : (⟨S_, .i32⟩ : BufTy).Contents (Elt F) → (⟨S100000, .i32⟩ : BufTy).Contents (Elt F)),
    .bin .lab .v285 .v286 (addi : (⟨S100000, .i32⟩ : BufTy).Contents (Elt F) → (⟨S100000, .i32⟩ : BufTy).Contents (Elt F) → (⟨S100000, .i32⟩ : BufTy).Contents (Elt F)),
    .ter .v284 .v286 .lab .v287 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    .nul .c_73 (constantI S_ 32 0#32),
    .un .c_73 .v288 (broadcastInDim S100000 ![] bcast_S_S100000 : (⟨S_, .i32⟩ : BufTy).Contents (Elt F) → (⟨S100000, .i32⟩ : BufTy).Contents (Elt F)),
    .bin .v282 .v288 .v289 (cmpi .slt : (⟨S100000, .i32⟩ : BufTy).Contents (Elt F) → (⟨S100000, .i32⟩ : BufTy).Contents (Elt F) → (⟨S100000, .i1⟩ : BufTy).Contents (Elt F)),
    .nul .c_74 (constantI S_ 32 100000#32),
    .un .c_74 .v290 (broadcastInDim S100000 ![] bcast_S_S100000 : (⟨S_, .i32⟩ : BufTy).Contents (Elt F) → (⟨S100000, .i32⟩ : BufTy).Contents (Elt F)),
    .bin .v282 .v290 .v291 (addi : (⟨S100000, .i32⟩ : BufTy).Contents (Elt F) → (⟨S100000, .i32⟩ : BufTy).Contents (Elt F) → (⟨S100000, .i32⟩ : BufTy).Contents (Elt F)),
    .ter .v289 .v291 .v282 .v292 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    .un .v287 .v293 (broadcastInDim S100000x1 ![0] bcast_S100000_S100000x1_0 : (⟨S100000, .i32⟩ : BufTy).Contents (Elt F) → (⟨S100000x1, .i32⟩ : BufTy).Contents (Elt F)),
    .un .v292 .v294 (broadcastInDim S100000x1 ![0] bcast_S100000_S100000x1_0 : (⟨S100000, .i32⟩ : BufTy).Contents (Elt F) → (⟨S100000x1, .i32⟩ : BufTy).Contents (Elt F)),
    .bin .v293 .v294 .v295 ((fun a b => concatenate S100000x2 1 [⟨S100000x1, a⟩, ⟨S100000x1, b⟩] concatenates_S100000x1_S100000x1_S100000x2_d1) : (⟨S100000x1, .i32⟩ : BufTy).Contents (Elt F) → (⟨S100000x1, .i32⟩ : BufTy).Contents (Elt F) → (⟨S100000x2, .i32⟩ : BufTy).Contents (Elt F)),
    .nul .cst_75 (constant S_ .f32 0x3F800000#32),
    .un .cst_75 .v296 (broadcastInDim S100000 ![] bcast_S_S100000 : (⟨S_, .f32⟩ : BufTy).Contents (Elt F) → (⟨S100000, .f32⟩ : BufTy).Contents (Elt F)) ]

/-- The last operation. -/
abbrev lastOp : HloOp τ sig (Elt F) :=
  StableHlo.ternary main_v281 main_v295 main_v296 main_v297 ((fun x i u => Host.scatter scatter_S64x100000_S100000x2_S100000_n_01_01_1 (fun _ b => b) x i u) : (⟨S64x100000, .f32⟩ : BufTy).Contents (Elt F) → (⟨S100000x2, .i32⟩ : BufTy).Contents (Elt F) → (⟨S100000, .f32⟩ : BufTy).Contents (Elt F) → (⟨S64x100000, .f32⟩ : BufTy).Contents (Elt F))

/-- Every value is listed. -/
theorem TSlot.mem_all (s : TSlot) : s ∈ TSlot.all := by cases s <;> decide

/-- The buffers are distinct. -/
theorem tailTab_inj : Function.Injective fun s => (tailTab s).ref := fun s t h =>
  List.inj_on_of_nodup_map (f := fun s => (tailTab s).ref.idx.val) (l := TSlot.all) (by decide +kernel) (TSlot.mem_all s) (TSlot.mem_all t) (congrArg (fun r : Ref sig .tc => r.idx.val) h)

end Cert.ReferenceIdeal.Km

end
-- ==== Proof.RefRun.lean ====
/- The reference's @main as a line of operations, and its run. -/
module

public import proofs.«01_k».proof.Proof.RefHead
public import proofs.«01_k».proof.Proof.RefIter
public import proofs.«01_k».proof.Proof.RefTail
public import Idealize.ShloMosaic.Lib.Quiescent

@[expose] public section

set_option maxRecDepth 65536

noncomputable section

namespace Cert.ReferenceIdeal.Km

open Cert.ReferenceIdeal Cert.ReferenceIdeal.Gen Cert.Slots Idealize.ShloMosaic Idealize.ShloMosaic.TcCoe Idealize.ShloMosaic.StableHlo Idealize.SL.Sem

variable {F : FTy → Type} [FloatOps F]

/-- @main's operations, in order. -/
noncomputable def refOps : List (HloOp τ sig (Elt F)) :=
  line headTab headIns ++ ((iterTabs.flatMap fun B => line B iterIns) ++ (line tailTab tailIns ++ [lastOp]))

/-- A list of operations runs as its first `n`, and then the others. -/
theorem seq_split (n : ℕ) (l : List (HloOp τ sig (Elt F))) :
    (seq l : Prog (TpuEff nD τ sig (Elt F) (Pipeline.Sig Λ₀ (Fin 0) fun p => (pcfgs (F := F) p).Adm) .tc) PUnit) = (do seq (l.take n); seq (l.drop n)) := by
  conv_lhs => rw [← List.take_append_drop n l]
  exact seq_append _ _

/-- The operations from iteration `k` on (counting from zero). -/
abbrev rest (k : ℕ) : List (HloOp τ sig (Elt F)) := ((iterTabs.drop k).flatMap fun B => line B iterIns) ++ (line tailTab tailIns ++ [lastOp])

/-- Whole iterations can be dropped at once. -/
theorem drop_iters (t : List (HloOp τ sig (Elt F))) (j : ℕ) : ∀ (k : ℕ) (l : List ((s : ISlot) → TRef sig s.T)), k ≤ l.length →
    ((l.flatMap fun B => line B iterIns) ++ t).drop (38 * k + j) = (((l.drop k).flatMap fun B => line B iterIns) ++ t).drop j
  | 0, l, _ => by rw [Nat.mul_zero, Nat.zero_add, List.drop_zero]
  | k + 1, [], h => absurd h (Nat.not_succ_le_zero k)
  | k + 1, B :: l, h => by
    have hl : (line (τ := τ) (Val := Elt F) B iterIns).length = 38 := rfl
    rw [show 38 * (k + 1) + j = (line (τ := τ) (Val := Elt F) B iterIns).length + (38 * k + j) by rw [hl]; omega, List.flatMap_cons, List.append_assoc,
      List.drop_length_add_append]
    exact drop_iters t j k l (Nat.le_of_succ_le_succ h)

/-- So of @main's operations. -/
theorem drop_refOps (k j : ℕ) (h : k ≤ 10) : (refOps (F := F)).drop (35 + (38 * k + j)) = (rest k).drop j := by
  have hl : (line (τ := τ) (Val := Elt F) headTab headIns).length = 35 := rfl
  rw [refOps, ← hl, List.drop_length_add_append]
  exact drop_iters _ j k iterTabs h

/-- Part 0 of @main. -/
theorem part0_eq (c : Dev nD) : main_part0 (F := F) c = seq ((refOps.drop 0).take 86) := rfl
/-- Part 1 of @main. -/
theorem part1_eq (c : Dev nD) : main_part1 (F := F) c = seq (((rest 1).drop 13).take 68) := rfl
/-- Part 2 of @main. -/
theorem part2_eq (c : Dev nD) : main_part2 (F := F) c = seq (((rest 3).drop 5).take 68) := rfl
/-- Part 3 of @main. -/
theorem part3_eq (c : Dev nD) : main_part3 (F := F) c = seq (((rest 4).drop 35).take 68) := rfl
/-- Part 4 of @main. -/
theorem part4_eq (c : Dev nD) : main_part4 (F := F) c = seq (((rest 6).drop 27).take 64) := rfl
/-- Part 5 of @main. -/
theorem part5_eq (c : Dev nD) : main_part5 (F := F) c = seq (((rest 8).drop 15).take 68) := by
  have h : ((rest (F := F) 8).drop 15).take 68 = (line iterTab9 iterIns).drop 15 ++ (line iterTab10 iterIns ++ (line tailTab tailIns).take 7) := by
    have e : rest (F := F) 8 = line iterTab9 iterIns ++ (line iterTab10 iterIns ++ (line tailTab tailIns ++ [lastOp])) := rfl
    have h1 : (line (τ := τ) (Val := Elt F) iterTab9 iterIns).length = 38 := rfl
    have h3 : (line (τ := τ) (Val := Elt F) tailTab tailIns).length = 22 := rfl
    have h2 : (line (τ := τ) (Val := Elt F) iterTab10 iterIns).length = 38 := rfl
    simp only [e, List.drop_append, List.take_append, List.length_drop, h1, h2, h3, List.take_of_length_le, Nat.reduceSub, Nat.reduceLeDiff, List.drop_zero, List.take_zero, List.append_nil]
  rw [h]
  rfl
/-- Part 6 of @main. -/
theorem part6_eq (c : Dev nD) : main_part6 (F := F) c = seq (((rest 10).drop 7).take 16) := rfl

/-- @main runs them. -/
theorem main_eq (c : Dev nD) : main (F := F) c = seq refOps := by
  have h0 := seq_split 86 (refOps (F := F))
  rw [show (refOps (F := F)).take 86 = (refOps.drop 0).take 86 from rfl, ← part0_eq c] at h0
  have e1 : (refOps (F := F)).drop 86 = (rest 1).drop 13 := drop_refOps 1 13 (by decide)
  have h1 := seq_split 68 ((rest (F := F) 1).drop 13)
  rw [← e1, List.drop_drop, e1, ← part1_eq c] at h1
  have e2 : (refOps (F := F)).drop 154 = (rest 3).drop 5 := drop_refOps 3 5 (by decide)
  have h2 := seq_split 68 ((rest (F := F) 3).drop 5)
  rw [← e2, List.drop_drop, e2, ← part2_eq c] at h2
  have e3 : (refOps (F := F)).drop 222 = (rest 4).drop 35 := drop_refOps 4 35 (by decide)
  have h3 := seq_split 68 ((rest (F := F) 4).drop 35)
  rw [← e3, List.drop_drop, e3, ← part3_eq c] at h3
  have e4 : (refOps (F := F)).drop 290 = (rest 6).drop 27 := drop_refOps 6 27 (by decide)
  have h4 := seq_split 64 ((rest (F := F) 6).drop 27)
  rw [← e4, List.drop_drop, e4, ← part4_eq c] at h4
  have e5 : (refOps (F := F)).drop 354 = (rest 8).drop 15 := drop_refOps 8 15 (by decide)
  have h5 := seq_split 68 ((rest (F := F) 8).drop 15)
  rw [← e5, List.drop_drop, e5, ← part5_eq c] at h5
  have e6 : (refOps (F := F)).drop 422 = (rest 10).drop 7 := drop_refOps 10 7 (by decide)
  have h6 := seq_split 16 ((rest (F := F) 10).drop 7)
  rw [← e6, List.drop_drop, e6, ← part6_eq c] at h6
  rw [h0, e1, h1, e2, h2, e3, h3, e4, h4, e5, h5, e6, h6]
  rfl

/-- Nothing is scoped, no buffer -/
theorem scopedRefs_eq : (Finset.univ.filter fun b : Ref sig .tc => b.isScoped) = ∅ := by decide
/-- and no counter. -/
theorem scopedSems_eq : (Finset.univ.filter fun sm : SemLoc sig => sm.isScoped .tc) = ∅ := by decide

/-- The operations work on the device's buffers -/
theorem refOps_sub : (refOps (F := F)).Forall fun op => op.bufs ⊆ tcRefs τ sig := by
  refine List.forall_iff_forall_mem.mpr fun op h => ?_
  rcases List.mem_append.mp h with h | h
  · exact List.forall_iff_forall_mem.mp (line_sub headTab headIns) op h
  rcases List.mem_append.mp h with h | h
  · obtain ⟨B, -, h⟩ := List.mem_flatMap.mp h
    exact List.forall_iff_forall_mem.mp (line_sub B iterIns) op h
  rcases List.mem_append.mp h with h | h
  · exact List.forall_iff_forall_mem.mp (line_sub tailTab tailIns) op h
  · rw [List.mem_singleton.mp h]
    exact ternary_bufs_sub ..

/-- and allocate none. -/
theorem refOps_fresh : ∀ op ∈ refOps (F := F), op.fresh = ∅ := fun op h => by
  rcases List.mem_append.mp h with h | h
  · exact line_fresh headTab headIns op h
  rcases List.mem_append.mp h with h | h
  · obtain ⟨B, -, h⟩ := List.mem_flatMap.mp h
    exact line_fresh B iterIns op h
  rcases List.mem_append.mp h with h | h
  · exact line_fresh tailTab tailIns op h
  · rw [List.mem_singleton.mp h]
    rfl

/-- Every run of @main ends at what its operations leave, every counter at zero. -/
theorem run (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = after refOps (launchContents m c) (Proc.devRef .tc b))
      ∧ r.2.sem = fun _ => 0 :=
  (θ_run defs _ _).mono (fun r h => ⟨h, sem_eq_zero_of_no_sems (by decide) r.2⟩)
    (run_seq scopedRefs_eq scopedSems_eq defs main (fun _ => refOps) main_eq (fun _ => refOps_sub) m ρ fun _ => refOps_fresh)

/-- A buffer no iteration touches is as it was after any of them. -/
theorem iters_keep (r : Ref sig .tc) : ∀ (l : List ((s : ISlot) → TRef sig s.T)) (hr : ∀ B ∈ l, ∀ s ∈ ISlot.all, r ≠ (B s).ref)
    (V : Valuation τ sig (Elt F)), after (l.flatMap fun B => line B iterIns) V (Proc.devRef .tc r) = V (Proc.devRef .tc r)
  | [], _, _ => rfl
  | B :: l, hr, V => by
    rw [List.flatMap_cons, after_append, iters_keep r l fun B' h => hr B' (List.mem_cons_of_mem _ h)]
    exact keep_line B r (fun s => hr B List.mem_cons_self s (ISlot.mem_all s)) iterIns V

/-- The arguments are as they were. -/
theorem args_keep (V : Valuation τ sig (Elt F)) (r : Ref sig .tc) (hr : r.idx.val < 4 ∧ r.space = .hbm)
    (hh : after (line headTab headIns) V (Proc.devRef .tc r) = V (Proc.devRef .tc r)) :
    after refOps V (Proc.devRef .tc r) = V (Proc.devRef .tc r) := by
  have hi' : ∀ B ∈ iterTabs, ((ISlot.all.map fun s => (B s).ref.idx.val).all fun n => 4 ≤ n) = true := by
    simp only [iterTabs, List.forall_mem_cons]
    exact ⟨by decide +kernel, by decide +kernel, by decide +kernel, by decide +kernel, by decide +kernel, by decide +kernel,
      by decide +kernel, by decide +kernel, by decide +kernel, by decide +kernel, nofun⟩
  have hi : ∀ B ∈ iterTabs, ∀ s ∈ ISlot.all, 4 ≤ (B s).ref.idx.val := fun B hB s hs =>
    of_decide_eq_true (List.all_eq_true.mp (hi' B hB) _ (List.mem_map_of_mem hs))
  have ht : ∀ s ∈ TSlot.all, 4 ≤ (tailTab s).ref.idx.val := by decide +kernel
  have hl : r ≠ main_v297 := fun e => absurd (e ▸ hr.1) (by decide)
  rw [refOps, after_append, after_append, after_append, after_cons, after_nil, ternary_result_ne (h := hl), keep_line tailTab r (fun s e => absurd (e ▸ hr.1) (Nat.not_lt.mpr (ht s (TSlot.mem_all s)))),
    iters_keep r iterTabs (fun B hB s hs e => absurd (e ▸ hr.1) (Nat.not_lt.mpr (hi B hB s hs))), hh]

/-- The first part leaves the arguments alone. -/
theorem head_args (V : Valuation τ sig (Elt F)) (s : HSlot) (hs : s ∈ [HSlot.arg0, .arg1, .arg2, .arg3]) :
    loc headTab (after (line headTab headIns) V) s = loc headTab V s := by
  rw [loc_line headTab headTab_inj]
  simp only [List.mem_cons, List.not_mem_nil, or_false] at hs
  rcases hs with rfl | rfl | rfl | rfl <;> rfl

/-- So argument by argument. -/
theorem head_arg0 (V : Valuation τ sig (Elt F)) : after (line headTab headIns) V (Proc.devRef .tc main_arg0) = V (Proc.devRef .tc main_arg0) :=
  head_args V .arg0 (by decide)
/-- The head keeps argument 1. -/
theorem head_arg1 (V : Valuation τ sig (Elt F)) : after (line headTab headIns) V (Proc.devRef .tc main_arg1) = V (Proc.devRef .tc main_arg1) :=
  head_args V .arg1 (by decide)
/-- The head keeps argument 2. -/
theorem head_arg2 (V : Valuation τ sig (Elt F)) : after (line headTab headIns) V (Proc.devRef .tc main_arg2) = V (Proc.devRef .tc main_arg2) :=
  head_args V .arg2 (by decide)
/-- The head keeps argument 3. -/
theorem head_arg3 (V : Valuation τ sig (Elt F)) : after (line headTab headIns) V (Proc.devRef .tc main_arg3) = V (Proc.devRef .tc main_arg3) :=
  head_args V .arg3 (by decide)

/-- Every run of @main ends with its arguments as they were and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c main_arg0).trans (args_keep (launchContents m c) main_arg0 (by decide) (head_arg0 _)),
      (h.1 c main_arg1).trans (args_keep (launchContents m c) main_arg1 (by decide) (head_arg1 _)),
      (h.1 c main_arg2).trans (args_keep (launchContents m c) main_arg2 (by decide) (head_arg2 _)),
      (h.1 c main_arg3).trans (args_keep (launchContents m c) main_arg3 (by decide) (head_arg3 _))⟩, h.2⟩) (run m ρ)

end Cert.ReferenceIdeal.Km

end
-- ==== Proof.RefTailVal.lean ====
/- The reference's last step: the one-hot matrix of the labels. -/
module

public import proofs.«01_k».proof.Proof.RefTail
public import proofs.«01_k».proof.Proof.Lands
public import proofs.«01_k».proof.Proof.Ssa

@[expose] public section

set_option maxRecDepth 16384

noncomputable section

namespace Cert.ReferenceIdeal.Km

open Cert.ReferenceIdeal Cert.ReferenceIdeal.Gen Cert.Slots Cert.Means Idealize.ShloMosaic Idealize.ShloMosaic.TcCoe Idealize.ShloMosaic.StableHlo

variable {F : FTy → Type} [FloatOps F]

/-- A small word is not below nothing. -/
theorem small_slt {n : ℕ} (h : n < 2 ^ 31) : IntOp.cmpi .slt (BitVec.ofNat 32 n) 0#32 = 0#1 := by
  refine (WordCmp.cmpi_slt_ofNat (w := 32) (b := 0) (by omega) (by omega)).trans ?_
  simp

/-- Every slot of the last step is written once. -/
theorem once_tail : once (tailIns (F := F)) = true := rfl

/-- The labels are only read. -/
theorem acts_tail_lab (L : (k : TSlot) → (TSlot.T k).Contents (Elt F)) : acts tailIns L .lab = L .lab := rfl

/-- The matrix's zeros, its ones, and the pairs of words at which the ones are set. -/
theorem acts_tail (L : (k : TSlot) → (TSlot.T k).Contents (Elt Ideal)) (l : Fin 100000 → Fin 64)
    (h : ∀ r, (L .lab : IVec S100000 32) (ix1 r) = word (l r)) :
    (∀ j, (acts tailIns L .v281 : FVec Ideal S64x100000 .f32) j = 0) ∧ (∀ j, (acts tailIns L .v296 : FVec Ideal S100000 .f32) j = 1)
      ∧ (∀ r, (acts tailIns L .v295 : IVec S100000x2 32) (ix2 r 0) = word (l r))
      ∧ ∀ r, (acts tailIns L .v295 : IVec S100000x2 32) (ix2 r 1) = BitVec.ofNat 32 r.val := by
  have e := acts_forall tailIns L once_tail
  have hl := acts_tail_lab L
  generalize acts tailIns L = S at e hl ⊢
  obtain ⟨hcst_70, hv281, hv282, hc_71, hv283, hv284, hc_72, hv285, hv286, hv287, hc_73, hv288, hv289, hc_74, hv290, hv291, hv292, hv293, hv294, hv295, hcst_75, hv296⟩ := e
  simp only [List.Forall, Ins.holds] at *
  refine ⟨fun j => ?_, fun j => ?_, fun r => ?_, fun r => ?_⟩
  · rw [hv281, hcst_70]; pointwise
  · rw [hv296, hcst_75]; pointwise
  · rw [hv295, hv293, hv287, hv284, hv283, hc_71, hl]
    pointwise
    rw [h, word, small_slt (by have := (l r).isLt; omega), ValueIdx.select_zero]
  · rw [hv295, hv294, hv292, hv289, hv288, hc_73, hv282]
    pointwise
    rw [small_slt (by have := r.isLt; omega), ValueIdx.select_zero]

/-- The last operation's result. -/
theorem lastOp_result (V : Valuation τ sig (Elt F)) :
    (lastOp (F := F)).result V (Proc.devRef .tc main_v297)
      = Host.scatter scatter_S64x100000_S100000x2_S100000_n_01_01_1 (fun _ b => b) (V (Proc.devRef .tc main_v281)) (V (Proc.devRef .tc main_v295)) (V (Proc.devRef .tc main_v296)) :=
  ternary_result ..

/-- The one-hot matrix, set entry by entry. -/
theorem scatter_onehot (z : FVec Ideal S64x100000 .f32) (i : IVec S100000x2 32) (u : FVec Ideal S100000 .f32) (l : Fin 100000 → Fin 64)
    (hz : ∀ j, z j = 0) (hu : ∀ j, u j = 1) (h0 : ∀ r, i (ix2 r 0) = word (l r)) (h1 : ∀ r, i (ix2 r 1) = BitVec.ofNat 32 r.val)
    (k : Fin 64) (q : Fin 100000) :
    Host.scatter scatter_S64x100000_S100000x2_S100000_n_01_01_1 (fun _ b => b) z i u (ix2 k q) = if l q = k then 1 else 0 := by
  have hr : ∀ r : Fin 100000, (i (ix2 r 1)).toInt = r.val := fun r => by
    rw [h1, BitVec.toInt_eq_toNat_of_lt (by rw [BitVec.toNat_ofNat]; omega), BitVec.toNat_ofNat]; omega
  have hj : ∀ j : S100000.Idx, ∃ r : Fin 100000, j = ix1 r := fun j => ⟨j 0, eq_ix1 j⟩
  by_cases h : l q = k
  · rw [if_pos h]
    refine Routing.scatter_set_hit _ z i u _ 1 (fun j _ => hu j) (ix1 q) ((lands_pair i q k q).mpr ⟨?_, hr q⟩)
    rw [h0, word_toInt, h]
  · rw [if_neg h, ← hz (ix2 k q)]
    refine Routing.scatter_set_miss _ z i u _ fun j hl => ?_
    obtain ⟨r, rfl⟩ := hj j
    obtain ⟨g0, g1⟩ := (lands_pair i r k q).mp hl
    rw [hr] at g1
    rw [h0, word_toInt] at g0
    have e : r = q := Fin.ext (by exact_mod_cast g1)
    subst e
    exact h (Fin.ext (by exact_mod_cast g0))

end Cert.ReferenceIdeal.Km

end
-- ==== Proof.RefHeadVal.lean ====
/- The reference's first step: the embedded rows, where the indices run through the rows in order. -/
module

public import proofs.«01_k».proof.Proof.RefHead
public import proofs.«01_k».proof.Proof.RefTailVal
public import proofs.«01_k».proof.Proof.Ssa
public import Idealize.ShloMosaic.Lib.ReduceAll
public import Idealize.ShloMosaic.Lib.Routing.Ops

@[expose] public section

set_option maxRecDepth 16384

noncomputable section

namespace Cert.ReferenceIdeal.Km

open Cert.ReferenceIdeal Cert.ReferenceIdeal.Gen Cert.Slots Cert.Means Idealize.ShloMosaic Idealize.ShloMosaic.TcCoe Idealize.ShloMosaic.StableHlo

variable {F : FTy → Type} [FloatOps F]

/-- Every slot of the first step is written once. -/
theorem once_head : once (headIns (F := F)) = true := rfl

/-- The arguments are only read. -/
theorem acts_head_args (L : (k : HSlot) → (HSlot.T k).Contents (Elt F)) :
    acts headIns L .arg0 = L .arg0 ∧ acts headIns L .arg1 = L .arg1 ∧ acts headIns L .arg2 = L .arg2 ∧ acts headIns L .arg3 = L .arg3 := ⟨rfl, rfl, rfl, rfl⟩

/-- An embedded row: three times the affine image of a row, through the hyperbolic tangent. -/
def embed (e : FVec Ideal S100000x64 .f32) (w : FVec Ideal S64x64 .f32) (b : FVec Ideal S64 .f32) (r : Fin 100000) (j : Fin 64) : Ideal .f32 :=
  Ideal.tanh (Ideal.ofBits .f32 0x40400000#32 * (∑ i : Fin 64, e (ix2 r i) * w (ix2 j i) + b (ix1 j)))

/-- The embedded rows are the rows in order, and the first centres are the first of them. -/
theorem acts_head (L : (k : HSlot) → (HSlot.T k).Contents (Elt Ideal))
    (h : ∀ r : Fin 100000, (L .arg0 : IVec S100000 32) (ix1 r) = BitVec.ofNat 32 r.val) :
    (∀ r j, (acts headIns L .v8 : FVec Ideal S100000x64 .f32) (ix2 r j) = embed (L .arg1) (L .arg2) (L .arg3) r j)
      ∧ (acts headIns L .v9 : FVec Ideal S64x64 .f32) = extractStridedSlice S64x64 ![0, 0] (acts headIns L .v8 : FVec Ideal S100000x64 .f32) slices_S100000x64_S64x64_0_0 := by
  have e := acts_forall headIns L once_head
  have hl := acts_head_args L
  generalize acts headIns L = S at e hl ⊢
  obtain ⟨a0, a1, a2, a3⟩ := hl
  obtain ⟨hc, hv0, hv1, hc0, hv2, hv3, hv4, hv5, hc1, hc2, hv6, hv7, hv8, hv9, hv10, hv11, hc3, hv12, hv13, hv14, hcst, hv15, g0, g1, g2, g3, g4, g5, gcst, g6, g7, g8, g9, gc, g10⟩ := e
  simp only [List.Forall, Ins.holds] at *
  refine ⟨fun r j => ?_, g9⟩
  have k4 : ∀ r : Fin 100000, (S .call0_v4 : IVec S100000 32) (ix1 r) = BitVec.ofNat 32 r.val := fun r => by
    rw [hv4, hv1, hv0, hc, a0]
    pointwise
    rw [h, small_slt (by have := r.isLt; omega), ValueIdx.select_zero]
  have k5 : ∀ r : Fin 100000, (S .call0_v5 : IVec S100000x1 32) (ix2 r 0) = BitVec.ofNat 32 r.val := fun r => by
    rw [hv5]
    pointwise
    exact k4 r
  have k12 : ∀ r : Fin 100000, (S .call0_v12 : IVec S100000 1) (ix1 r) = 1#1 := fun r => by
    rw [hv12]
    refine Host.reduce_andi_one _ _ _ _ _ (by rw [hc3]; rfl) fun i => ?_
    obtain ⟨a, b, rfl⟩ : ∃ (a : Fin 100000) (b : Fin 1), i = ix2 a b := ⟨_, _, eq_ix2 _⟩
    obtain rfl : b = 0 := Subsingleton.elim _ _
    rw [hv11, hv7, hv10, hv6, hv9, hv8, hc1, hc2]
    pointwise
    rw [k5]
    rw [IntOp.cmpi_sge.2, IntOp.cmpi_sle.2]
    · rfl
    all_goals
      have hb : (BitVec.ofNat 32 a.val).toInt = a.val := by
        rw [BitVec.toInt_eq_toNat_of_lt (by rw [BitVec.toNat_ofNat]; omega), BitVec.toNat_ofNat]; omega
      have h0 : (0#32 : BitVec 32).toInt = 0 := rfl
      have h9 : (99999#32 : BitVec 32).toInt = 99999 := rfl
      have := a.isLt
      omega
  have k0 : ∀ (r : Fin 100000) (i : Fin 64), (S .v0 : FVec Ideal S100000x64 .f32) (ix2 r i) = (L .arg1 : FVec Ideal S100000x64 .f32) (ix2 r i) := fun r i => by
    rw [g0, hv14]
    pointwise
    rw [k12, ValueIdx.select_one, hv13, a1]
    exact Routing.gather_row _ rfl rfl rfl rfl rfl _ _ r i r (k5 r) (by norm_num)
  rw [g8, g7, g6, gcst, g5, g4, g3, g2, g1, a2, a3]
  pointwise [embed]
  simp only [k0]

end Cert.ReferenceIdeal.Km

end
-- ==== Proof.RefVal.lean ====
/- What the reference computes: the matrix of the labels after nine steps of the centres. -/
module

public import proofs.«01_k».proof.Proof.RefRun
public import proofs.«01_k».proof.Proof.RefHeadVal
public import proofs.«01_k».proof.Proof.RefArgmin

@[expose] public section

set_option maxRecDepth 16384

noncomputable section

namespace Cert.ReferenceIdeal.Km

open Cert.ReferenceIdeal Cert.ReferenceIdeal.Gen Cert.Slots Cert.Means Idealize.ShloMosaic Idealize.ShloMosaic.TcCoe Idealize.ShloMosaic.StableHlo

/-- One step of the centres `c` of the points `x`: each becomes the mean of its points. -/
def step (x : FVec Ideal S100000x64 .f32) (c : FVec Ideal S64x64 .f32) : FVec Ideal S64x64 .f32 := nextOf x (labOf x c) (cntOf (labOf x c))

/-- The nearest of the centres `c` to the point `r`. -/
def nearest (x : FVec Ideal S100000x64 .f32) (c : FVec Ideal S64x64 .f32) (r : Fin 100000) : Fin 64 :=
  near fun k => gap (fun j => x (ix2 r j)) (fun j => c (ix2 k j))

/-- The embedded points. -/
def points (e : FVec Ideal S100000x64 .f32) (w : FVec Ideal S64x64 .f32) (b : FVec Ideal S64 .f32) : FVec Ideal S100000x64 .f32 :=
  fun i => embed e w b (i 0) (i 1)

/-- The first centres: the first points. -/
def start (x : FVec Ideal S100000x64 .f32) : FVec Ideal S64x64 .f32 := extractStridedSlice S64x64 ![0, 0] x slices_S100000x64_S64x64_0_0

/-- One where the label is the place, and zero. -/
def hot (l : Fin 100000 → Fin 64) (k : Fin 64) (r : Fin 100000) : EReal := if l r = k then 1 else 0

/-- Whether the point of a column has its row's label in the end. -/
def answer (x : FVec Ideal S100000x64 .f32) : FVec Ideal S64x100000 .f32 :=
  fun i => hot (nearest x ((step x)^[9] (start x))) (i 0) (i 1)

/-- Each table's centres are the next ones of the table before, and the labels `tl` are the last table's. -/
def Linked (tl : TRef sig ⟨S100000, .i32⟩) : ((s : ISlot) → TRef sig s.T) → List ((s : ISlot) → TRef sig s.T) → Prop
  | B, [] => tl = B .lab
  | B, B' :: l => B' .x = B .x ∧ (B' .c : TRef sig ⟨S64x64, .f32⟩) = B .next ∧ Linked tl B' l

/-- The iterations leave the labels for the centres after the steps. -/
theorem iters_val (tl : TRef sig ⟨S100000, .i32⟩) : ∀ (l : List ((s : ISlot) → TRef sig s.T)) (B : (s : ISlot) → TRef sig s.T)
    (hB : ∀ B' ∈ B :: l, Function.Injective fun s => (B' s).ref) (h : Linked tl B l) (V : Valuation τ sig (Elt Ideal)),
    (tl.ofBuf (after ((B :: l).flatMap fun B => line B iterIns) V (Proc.devRef .tc tl.ref)) : IVec S100000 32)
      = labOf (loc B V .x) ((step (loc B V .x))^[l.length] (loc B V .c))
  | [], B, hB, h, V => by
    obtain rfl : tl = B .lab := h
    rw [List.flatMap_cons, List.flatMap_nil, List.append_nil, List.length_nil, Function.iterate_zero_apply]
    exact (congrFun (loc_line B (hB B List.mem_cons_self) iterIns V) .lab).trans (acts_iter (loc B V)).1
  | B' :: l, B, hB, h, V => by
    obtain ⟨hx, hc, hl⟩ := h
    have e := loc_line B (hB B List.mem_cons_self) iterIns V
    have ex : loc B' (after (line B iterIns) V) .x = loc B V .x := by
      refine Eq.trans ?_ ((congrFun e .x).trans (acts_x _))
      show (B' .x).ofBuf _ = (B .x).ofBuf _
      rw [hx]
    have ec : (loc B' (after (line B iterIns) V) .c : FVec Ideal S64x64 .f32) = step (loc B V .x) (loc B V .c) := by
      refine Eq.trans ?_ ((congrFun e .next).trans (acts_iter (loc B V)).2)
      show TRef.ofBuf (B' .c : TRef sig ⟨S64x64, .f32⟩) _ = TRef.ofBuf (B .next : TRef sig ⟨S64x64, .f32⟩) _
      rw [hc]
    rw [List.flatMap_cons, after_append, iters_val tl l B' (fun D hD => hB D (List.mem_cons_of_mem _ hD)) hl, ex, ec, List.length_cons, Function.iterate_succ_apply]

/-- The tables follow one another. -/
theorem iters_linked : Linked (.of main_v268) iterTab1 [iterTab2, iterTab3, iterTab4, iterTab5, iterTab6, iterTab7, iterTab8, iterTab9, iterTab10] :=
  ⟨rfl, rfl, rfl, rfl, rfl, rfl, rfl, rfl, rfl, rfl, rfl, rfl, rfl, rfl, rfl, rfl, rfl, rfl, rfl⟩

/-- The tail's operations make the labels' matrix. -/
theorem tail_val (l : Fin 100000 → Fin 64) (W : Valuation τ sig (Elt Ideal)) (h : ∀ r, (loc tailTab W .lab : IVec S100000 32) (ix1 r) = word (l r)) (k : Fin 64) (q : Fin 100000) :
    (after (line tailTab tailIns ++ [lastOp]) W (Proc.devRef .tc main_v297) : FVec Ideal S64x100000 .f32) (ix2 k q) = hot l k q := by
  have et := loc_line tailTab tailTab_inj tailIns W
  obtain ⟨hz, ho, h0, h1⟩ := acts_tail (loc tailTab W) l h
  rw [← et] at hz ho h0 h1
  rw [after_append]
  generalize after (line tailTab tailIns) W = U at hz ho h0 h1 ⊢
  rw [after, after, lastOp_result]
  exact scatter_onehot _ _ _ l hz ho h0 h1 k q

/-- The head's operations embed the points and take the first of them. -/
theorem head_val (V : Valuation τ sig (Elt Ideal)) (h : ∀ r : Fin 100000, (V (Proc.devRef .tc main_arg0) : IVec S100000 32) (ix1 r) = BitVec.ofNat 32 r.val) :
    loc iterTab1 (after (line headTab headIns) V) .x = points (V (Proc.devRef .tc main_arg1)) (V (Proc.devRef .tc main_arg2)) (V (Proc.devRef .tc main_arg3))
      ∧ (loc iterTab1 (after (line headTab headIns) V) .c : FVec Ideal S64x64 .f32)
        = start (points (V (Proc.devRef .tc main_arg1)) (V (Proc.devRef .tc main_arg2)) (V (Proc.devRef .tc main_arg3))) := by
  obtain ⟨hx, hc⟩ := acts_head (loc headTab V) h
  have e := loc_line headTab headTab_inj headIns V
  have e8 := congrFun e .v8
  have e9 := congrFun e .v9
  rw [hc, ← e8] at e9
  have ex : loc headTab (after (line headTab headIns) V) .v8 = points (V (Proc.devRef .tc main_arg1)) (V (Proc.devRef .tc main_arg2)) (V (Proc.devRef .tc main_arg3)) := by
    refine e8.trans (funext fun i => ?_)
    rw [eq_ix2 i]
    exact hx _ _
  rw [ex] at e9
  exact ⟨ex, e9⟩

/-- The reference's result, from arguments whose first is the row's numbers. -/
theorem result (V : Valuation τ sig (Elt Ideal)) (h : ∀ r : Fin 100000, (V (Proc.devRef .tc main_arg0) : IVec S100000 32) (ix1 r) = BitVec.ofNat 32 r.val) :
    (after refOps V (Proc.devRef .tc main_v297) : FVec Ideal S64x100000 .f32)
      = answer (points (V (Proc.devRef .tc main_arg1)) (V (Proc.devRef .tc main_arg2)) (V (Proc.devRef .tc main_arg3))) := by
  obtain ⟨ex, ec⟩ := head_val V h
  rw [refOps, after_append, after_append]
  have el := iters_val (.of main_v268) _ iterTab1 iterTabs_inj iters_linked (after (line headTab headIns) V)
  rw [ex, ec] at el
  generalize points _ _ _ = x at el ⊢
  funext i
  rw [eq_ix2 i]
  refine tail_val _ _ (fun r => ?_) _ _
  exact (congrFun el (ix1 r)).trans (labOf_apply _ _ r)

end Cert.ReferenceIdeal.Km

end
-- ==== Proof.KerVal.lean ====
/- What the kernel computes: the reference's matrix. -/
module

public import proofs.«01_k».proof.Proof.RegVal0
public import proofs.«01_k».proof.Proof.RegVal11
public import proofs.«01_k».proof.Proof.KerHostVal
public import proofs.«01_k».proof.Proof.Tiles
public import proofs.«01_k».proof.Proof.RefVal

@[expose] public section

set_option maxRecDepth 16384

noncomputable section

namespace Cert.KernelIdeal.Km

open Cert.KernelIdeal Cert.KernelIdeal.Gen Cert.Slots Cert.Means Idealize.ShloMosaic Idealize.ShloMosaic.TcCoe Idealize.ShloMosaic.Pipeline Idealize.ShloMosaic.StableHlo
open Cert.ReferenceIdeal.Km (labOf cntOf nextOf step nearest points start answer embed labOf_apply cntOf_apply)

attribute [local irreducible] labels counts labOf cntOf nextOf

/-- The padded rows `t` start with the points `x`. -/
def Starts (t : FVec Ideal S102400x64 .f32) (x : FVec Ideal S100000x64 .f32) : Prop :=
  ∀ (r : Fin 100000) (j : Fin 64), t (ix2 ⟨r.val, by omega⟩ j) = x (ix2 r j)

/-- So a row's nearest centre is the point's. -/
theorem Starts.near {t : FVec Ideal S102400x64 .f32} {x : FVec Ideal S100000x64 .f32} (h : Starts t x) (c : FVec Ideal S64x64 .f32) (r : Fin 100000) :
    rowNear t c ⟨r.val, by omega⟩ = nearest x c r := by
  unfold rowNear nearest
  simp only [h r]

/-- The rows' labels are the points'. -/
theorem Starts.lab_eq {t : FVec Ideal S102400x64 .f32} {x : FVec Ideal S100000x64 .f32} (h : Starts t x) (c : FVec Ideal S64x64 .f32)
    (k : Fin 16) (r : Fin 6400) (q : Fin 100000) (e : q.val = 6400 * k.val + r.val) :
    (labels (F := Ideal) t c : IVec S16x1x6400 32) (ix3 k 0 r) = word (nearest x c q) :=
  (labels_apply t c k r ⟨q.val, by omega⟩ e q.isLt).trans (congrArg word (h.near c q))

/-- The rows' labels in a row are the points'. -/
theorem Starts.lab_flat {t : FVec Ideal S102400x64 .f32} {x : FVec Ideal S100000x64 .f32} (h : Starts t x) (c : FVec Ideal S64x64 .f32) :
    flatLab (labels (F := Ideal) t c) = labOf x c := funext fun i => by
  obtain ⟨q, rfl⟩ : ∃ q : Fin 100000, i = ix1 q := ⟨i 0, eq_ix1 i⟩
  have e : q.val = 6400 * (q.val / 6400) + q.val % 6400 := by omega
  exact (flatLab_apply _ ⟨q.val / 6400, by omega⟩ ⟨q.val % 6400, by omega⟩ q e).trans ((h.lab_eq c _ _ q e).trans (labOf_apply x c q).symm)

/-- The rows' counts in a row are the points'. -/
theorem Starts.cnt_flat {t : FVec Ideal S102400x64 .f32} {x : FVec Ideal S100000x64 .f32} (h : Starts t x) (c : FVec Ideal S64x64 .f32) :
    flatCnt (counts (F := Ideal) t c) = cntOf (labOf x c) := funext fun i => by
  obtain ⟨j, rfl⟩ : ∃ j : Fin 64, i = ix1 j := ⟨i 0, eq_ix1 i⟩
  exact (flatCnt_apply _ j).trans ((counts_apply t c _ (h.near c) j).trans (cntOf_apply (labOf x c) _ (labOf_apply x c) j).symm)

/-- The buffers hold the points, padded and not, and the centres. -/
def Holds (x : FVec Ideal S100000x64 .f32) (ce : TRef sig ⟨S64x64, .f32⟩) (c : FVec Ideal S64x64 .f32) (V : Valuation τ sig (Elt Ideal)) : Prop :=
  Starts (V (Proc.devRef .tc main_v1)) x ∧ V (Proc.devRef .tc main_v2) = x ∧ ce.ofBuf (V (Proc.devRef .tc ce.ref)) = c

/-- A name for the points reads the points. -/
theorem ofBuf_points {a : TRef sig ⟨S100000x64, .f32⟩} (h : a = .of main_v2) (W : Valuation τ sig (Elt Ideal)) :
    a.ofBuf (W (Proc.devRef .tc a.ref)) = W (Proc.devRef .tc main_v2) := by subst h; rfl

/-- A region and the stretch after it step the centres, and leave the labels. -/
theorem Holds.step {p : Fin 12} {B : Body (F := Ideal) p} {ce : TRef sig ⟨S64x64, .f32⟩} {K : (s : KSlot) → TRef sig s.T}
    {x : FVec Ideal S100000x64 .f32} {c : FVec Ideal S64x64 .f32} {V : Valuation τ sig (Elt Ideal)} (h : Holds x ce c V)
    (hA : Assigns B (.of main_v1) ce (K .lab3) (K .cnt2)) (hK : Function.Injective fun s => (K s).ref) (hx : (K .x : TRef sig ⟨S100000x64, .f32⟩) = .of main_v2)
    (h1 : ∀ s, main_v1 ≠ (K s).ref) (d : Dev nD) (G) (hG : Left B V d G) :
    Holds x (K .v15) (Cert.ReferenceIdeal.Km.step x c) (after (line K kerIns) (withArrays (pn (F := Ideal) p).spec d V G))
      ∧ ∀ (k : Fin 16) (r : Fin 6400) (q : Fin 100000), q.val = 6400 * k.val + r.val →
        (loc K (after (line K kerIns) (withArrays (pn (F := Ideal) p).spec d V G)) .lab3 : IVec S16x1x6400 32) (ix3 k 0 r) = word (nearest x c q) := by
  obtain ⟨ht, hp, hc⟩ := h
  obtain ⟨el, en, ek⟩ := hA V d G hG
  have k2 : main_v2 ≠ (K .lab3).ref ∧ main_v2 ≠ (K .cnt2).ref :=
    have e : (K .x).ref = main_v2 := congrArg (fun a : TRef sig ⟨S100000x64, .f32⟩ => a.ref) hx
    ⟨fun g => KSlot.noConfusion (hK (e.trans g) : KSlot.x = .lab3), fun g => KSlot.noConfusion (hK (e.trans g) : KSlot.x = .cnt2)⟩
  have k1 := ek main_v1 (h1 _) (h1 _)
  have k2 := ek main_v2 k2.1 k2.2
  generalize withArrays (pn (F := Ideal) p).spec d V G = W at el en k1 k2 ⊢
  have e := loc_line K hK kerIns W
  have lx : loc K W .x = x := (ofBuf_points hx W).trans (k2.trans hp)
  have ll : (loc K W .lab3 : IVec S16x1x6400 32) = labels (V (Proc.devRef .tc main_v1)) c := el.trans (by rw [hc]; rfl)
  have ln : (loc K W .cnt2 : FVec Ideal S64x1 .f32) = counts (V (Proc.devRef .tc main_v1)) c := en.trans (by rw [hc]; rfl)
  refine ⟨⟨?_, ?_, ?_⟩, fun k r q g => ?_⟩
  · rw [keep_line K main_v1 h1, k1]; exact ht
  · exact (ofBuf_points hx _).symm.trans ((congrFun e .x).trans lx)
  · refine (congrFun e .v15).trans ((acts_ker (loc K W)).trans ?_)
    rw [lx, ll, ln, ht.lab_flat, ht.cnt_flat]
    rfl
  · rw [congrFun e .lab3]
    exact (congrFun (show acts kerIns (loc K W) .lab3 = _ from ll) _).trans (ht.lab_eq c k r q g)

end Cert.KernelIdeal.Km

end
-- ==== Proof.KerRun.lean ====
/- What a run of the kernel ends at: the reference's matrix. -/
module

public import proofs.«01_k».proof.Proof.KerVal

@[expose] public section

set_option maxRecDepth 16384

noncomputable section

namespace Cert.KernelIdeal.Km

open Cert.KernelIdeal Cert.KernelIdeal.Gen Cert.Slots Cert.Means Idealize.ShloMosaic Idealize.ShloMosaic.TcCoe Idealize.ShloMosaic.Pipeline Idealize.ShloMosaic.StableHlo
open Cert.ReferenceIdeal.Km (nearest points start answer hot embed)

attribute [local irreducible] labels counts Cert.ReferenceIdeal.Km.labOf Cert.ReferenceIdeal.Km.cntOf Cert.ReferenceIdeal.Km.nextOf Cert.ReferenceIdeal.Km.step

/-- No stretch's buffer is that of the padded rows. -/
theorem v1_ne : ∀ K ∈ kerTabs, ∀ s, main_v1 ≠ (K s).ref := by
  have h : ∀ K ∈ kerTabs, (KSlot.all.all fun s => decide (main_v1 ≠ (K s).ref)) = true := by
    simp only [kerTabs, List.forall_mem_cons]
    exact ⟨by decide +kernel, by decide +kernel, by decide +kernel, by decide +kernel, by decide +kernel, by decide +kernel,
      by decide +kernel, by decide +kernel, by decide +kernel, by decide +kernel, nofun⟩
  exact fun K hK s => of_decide_eq_true (List.all_eq_true.mp (h K hK) s (KSlot.mem_all s))

/-- A region and the stretch after it, in a run. -/
theorem Reaches.pass {p : Fin 12} {B : Body (F := Ideal) p} {ce : TRef sig ⟨S64x64, .f32⟩} {K : (s : KSlot) → TRef sig s.T}
    {x : FVec Ideal S100000x64 .f32} {s : FVec Ideal S64x64 .f32} {n : ℕ} {V V' : Valuation τ sig (Elt Ideal)} {d : Dev nD}
    {ops : List (HloOp τ sig (Elt Ideal))} {hs hf} {l : List (Step (F := Ideal))} (hR : Reaches d (.region p B.region :: .host ops hs hf :: l) V V')
    (h : Holds x ce ((Cert.ReferenceIdeal.Km.step x)^[n] s) V)
    (hA : Assigns B (.of main_v1) ce (K .lab3) (K .cnt2)) (ho : ops = line K kerIns) (hK : Function.Injective fun s => (K s).ref)
    (hx : (K .x : TRef sig ⟨S100000x64, .f32⟩) = .of main_v2) (h1 : ∀ s, main_v1 ≠ (K s).ref) :
    ∃ W, Holds x (K .v15) ((Cert.ReferenceIdeal.Km.step x)^[n + 1] s) W
      ∧ (∀ (k : Fin 16) (r : Fin 6400) (q : Fin 100000), q.val = 6400 * k.val + r.val →
        (loc K W .lab3 : IVec S16x1x6400 32) (ix3 k 0 r) = word (nearest x ((Cert.ReferenceIdeal.Km.step x)^[n] s) q))
      ∧ Reaches d l W V' := by
  obtain ⟨G, hG, hR⟩ := hR
  subst ho
  have g := h.step hA hK hx h1 d G hG
  rw [Function.iterate_succ_apply']
  exact ⟨_, g.1, g.2, hR⟩

/-- The rows of the padded rows that are points. -/
theorem slice_apply (t : FVec Ideal S102400x64 .f32) (r : Fin 100000) (j : Fin 64) :
    (extractStridedSlice S100000x64 ![0, 0] t slices_S102400x64_S100000x64_0_0 : FVec Ideal S100000x64 .f32) (ix2 r j) = t (ix2 ⟨r.val, by omega⟩ j) := by
  pointwise

/-- The bias as a row. -/
theorem bias_apply (V : Valuation τ sig (Elt Ideal)) (j : Fin 64) :
    (after hostOps0 V (Proc.devRef .tc main_v0) : FVec Ideal S1x64 .f32) (ix2 0 j) = (V (Proc.devRef .tc main_arg3) : FVec Ideal S64 .f32) (ix1 j) := by
  have e : (after hostOps0 V (Proc.devRef .tc main_v0) : FVec Ideal S1x64 .f32) = shapeCast S1x64 (V (Proc.devRef .tc main_arg3) : FVec Ideal S64 .f32) shapeCasts_S64_S1x64 := by
    after_results
    rfl
  rw [e]
  generalize (V (Proc.devRef .tc main_arg3) : FVec Ideal S64 .f32) = b
  pointwise

/-- What the second stretch slices. -/
theorem sliced (W : Valuation τ sig (Elt Ideal)) :
    (after hostOps1 W (Proc.devRef .tc main_v2) : FVec Ideal S100000x64 .f32)
        = extractStridedSlice S100000x64 ![0, 0] (W (Proc.devRef .tc main_v1) : FVec Ideal S102400x64 .f32) slices_S102400x64_S100000x64_0_0
      ∧ (after hostOps1 W (Proc.devRef .tc main_v3) : FVec Ideal S64x64 .f32) = start (after hostOps1 W (Proc.devRef .tc main_v2)) := by
  constructor
  · after_results
  · after_results
    rfl

/-- The head of a run embeds the points and takes the first of them. -/
theorem head_holds (V : Valuation τ sig (Elt Ideal)) (d : Dev nD) (G) (hG : Left (F := Ideal) body0 (after hostOps0 V) d G) :
    Holds (points (V (Proc.devRef .tc main_arg1)) (V (Proc.devRef .tc main_arg2)) (V (Proc.devRef .tc main_arg3))) (.of main_v3)
      (start (points (V (Proc.devRef .tc main_arg1)) (V (Proc.devRef .tc main_arg2)) (V (Proc.devRef .tc main_arg3))))
      (after hostOps1 (withArrays (pn (F := Ideal) 0).spec d (after hostOps0 V) G)) := by
  have hs : Starts (withArrays (pn (F := Ideal) 0).spec d (after hostOps0 V) G (Proc.devRef .tc main_v1))
      (points (V (Proc.devRef .tc main_arg1)) (V (Proc.devRef .tc main_arg2)) (V (Proc.devRef .tc main_arg3))) := fun r j => by
    refine (transforms _ d G hG ⟨r.val, by omega⟩ r.isLt j).trans ?_
    rw [after_of_writes_sub hostOps0 V hostOps0_writes (r := main_arg1) (by decide), after_of_writes_sub hostOps0 V hostOps0_writes (r := main_arg2) (by decide)]
    show Ideal.tanh _ = Ideal.tanh _
    rw [bias_apply]
    rfl
  generalize withArrays (pn (F := Ideal) 0).spec d (after hostOps0 V) G = W at hs ⊢
  generalize points _ _ _ = x at hs ⊢
  have e2 : after hostOps1 W (Proc.devRef .tc main_v2) = x := by
    refine (sliced W).1.trans (funext fun i => ?_)
    obtain ⟨r, j, rfl⟩ : ∃ (r : Fin 100000) (j : Fin 64), i = ix2 r j := ⟨i 0, i 1, eq_ix2 i⟩
    exact (slice_apply _ r j).trans (hs r j)
  refine ⟨?_, e2, ?_⟩
  · rw [after_of_writes_sub hostOps1 W hostOps1_writes (r := main_v1) (by decide)]; exact hs
  · exact (sliced W).2.trans (congrArg start e2)

/-- The kernel's result. -/
theorem result (V V' : Valuation τ sig (Elt Ideal)) (d : Dev nD) (hR : Reaches d steps V V') :
    (V' (Proc.devRef .tc main_v124) : FVec Ideal S64x100000 .f32)
      = answer (points (V (Proc.devRef .tc main_arg1)) (V (Proc.devRef .tc main_arg2)) (V (Proc.devRef .tc main_arg3))) := by
  obtain ⟨G, hG, hR⟩ := hR
  have h := head_holds V d G hG
  generalize points _ _ _ = x at h ⊢
  obtain ⟨V1, h, -, hR⟩ := hR.pass (K := kerTab1) (n := 0) h assigns1 hostOps2_line (kerTabs_inj _ (by simp [kerTabs])) rfl (v1_ne _ (by simp [kerTabs]))
  obtain ⟨V2, h, -, hR⟩ := hR.pass (K := kerTab2) (n := 1) h assigns2 hostOps3_line (kerTabs_inj _ (by simp [kerTabs])) rfl (v1_ne _ (by simp [kerTabs]))
  obtain ⟨V3, h, -, hR⟩ := hR.pass (K := kerTab3) (n := 2) h assigns3 hostOps4_line (kerTabs_inj _ (by simp [kerTabs])) rfl (v1_ne _ (by simp [kerTabs]))
  obtain ⟨V4, h, -, hR⟩ := hR.pass (K := kerTab4) (n := 3) h assigns4 hostOps5_line (kerTabs_inj _ (by simp [kerTabs])) rfl (v1_ne _ (by simp [kerTabs]))
  obtain ⟨V5, h, -, hR⟩ := hR.pass (K := kerTab5) (n := 4) h assigns5 hostOps6_line (kerTabs_inj _ (by simp [kerTabs])) rfl (v1_ne _ (by simp [kerTabs]))
  obtain ⟨V6, h, -, hR⟩ := hR.pass (K := kerTab6) (n := 5) h assigns6 hostOps7_line (kerTabs_inj _ (by simp [kerTabs])) rfl (v1_ne _ (by simp [kerTabs]))
  obtain ⟨V7, h, -, hR⟩ := hR.pass (K := kerTab7) (n := 6) h assigns7 hostOps8_line (kerTabs_inj _ (by simp [kerTabs])) rfl (v1_ne _ (by simp [kerTabs]))
  obtain ⟨V8, h, -, hR⟩ := hR.pass (K := kerTab8) (n := 7) h assigns8 hostOps9_line (kerTabs_inj _ (by simp [kerTabs])) rfl (v1_ne _ (by simp [kerTabs]))
  obtain ⟨V9, h, -, hR⟩ := hR.pass (K := kerTab9) (n := 8) h assigns9 hostOps10_line (kerTabs_inj _ (by simp [kerTabs])) rfl (v1_ne _ (by simp [kerTabs]))
  obtain ⟨V10, h, hl, hR⟩ := hR.pass (K := kerTab10) (n := 9) h assigns10 hostOps11_line (kerTabs_inj _ (by simp [kerTabs])) rfl (v1_ne _ (by simp [kerTabs]))
  obtain ⟨G, hG, rfl⟩ := hR
  funext i
  obtain ⟨k, q, rfl⟩ : ∃ (k : Fin 64) (q : Fin 100000), i = ix2 k q := ⟨i 0, i 1, eq_ix2 i⟩
  exact onehots V10 d G hG _ k q fun t r e => hl t r q e

end Cert.KernelIdeal.Km

end
-- ==== Proof.Agree.lean ====
/- The kernel and the reference agree where the points' numbers are in order. -/
module

public import proofs.«01_k».proof.Defs
public import proofs.«01_k».proof.Proof.Gen.Pre_idx_is_iota
public import proofs.«01_k».proof.Proof.KerRun
public import Idealize.ShloMosaic.Lib.Claim
public import Idealize.ShloMosaic.Lib.ReduceAll

@[expose] public section

set_option maxRecDepth 16384

noncomputable section

namespace Cert.Agree

open Idealize.ShloMosaic Idealize.ShloMosaic.TcCoe Idealize.SL.Sem

attribute [local irreducible] Cert.ReferenceIdeal.Km.answer Cert.ReferenceIdeal.Km.points

/-- A result of the precondition has one index. -/
theorem one_index (i j : Cert.Pre_idx_is_iota.S_.Idx) : i = j := funext fun a => a.elim0

/-- Under the precondition the first argument counts the points. -/
theorem counts [Cert.Pre_idx_is_iota.Facts] (a0 : IVec Cert.Pre_idx_is_iota.S100000 32) (a1 : FVec Ideal Cert.Pre_idx_is_iota.S100000x64 .f32)
    (a2 : FVec Ideal Cert.Pre_idx_is_iota.S64x64 .f32) (a3 : FVec Ideal Cert.Pre_idx_is_iota.S64 .f32)
    (h : Cert.Pre_idx_is_iota.fn a0 a1 a2 a3 = fun _ => 1#1) (r : Fin 100000) : a0 (ix1 r) = BitVec.ofNat 32 r.val := by
  haveI : Subsingleton Cert.Pre_idx_is_iota.S_.Idx := ⟨one_index⟩
  exact IntOp.cmpi_eq.1 (Host.reduce_andi_all _ _ _ _ (fun a => a.elim0) (congrFun h _) (ix1 r))

/-- Both programs end with the same matrix, and their arguments as they were. -/
theorem algebraic : Cert.algebraic_KernelIdeal_ReferenceIdeal_pre_idx_is_iota (hKernelIdeal := Cert.KernelIdeal.Gen.facts)
    (hReferenceIdeal := Cert.ReferenceIdeal.Gen.facts) (hPre_idx_is_iota := Cert.Pre_idx_is_iota.Gen.facts) := fun m g m' g' hp ha => by
  refine ⟨fun c => Cert.ReferenceIdeal.Km.answer (Cert.ReferenceIdeal.Km.points (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))), ?_, ?_⟩
  · refine (θ_run _ _ _).mono (fun r h c => ?_) (θ_run_and (Cert.KernelIdeal.Km.run_main m g) (Cert.KernelIdeal.Km.frame m g))
    obtain ⟨V', hR, hm⟩ := h.1.1 c
    exact ⟨(hm _ (Cert.KernelIdeal.Km.mem_uc Cert.KernelIdeal.main_v124 (by decide))).trans (Cert.KernelIdeal.Km.result _ V' c hR), h.2.1 c⟩
  · refine (θ_run _ _ _).mono (fun r h c => ?_) (θ_run_and (Cert.ReferenceIdeal.Km.run m' g') (Cert.ReferenceIdeal.Km.frame m' g'))
    obtain ⟨a0, a1, a2, a3⟩ := ha c
    refine ⟨(h.1.1 c Cert.ReferenceIdeal.main_v297).trans ?_, h.2.1 c⟩
    refine (Cert.ReferenceIdeal.Km.result (StableHlo.launchContents m' c) fun r => ?_).trans ?_
    · exact (congrFun a0 (ix1 r)).trans (counts _ _ _ _ (hp c) r)
    · exact congr (congr (congrArg _ a1) a2) a3 |> congrArg Cert.ReferenceIdeal.Km.answer

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_idx_is_iota
public import proofs.«01_k».proof.Proof.Transfer
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The programs run, keep their arguments, and leave every semaphore at zero; and where the points' numbers are in order the kernel's
    matrix is the reference's. -/
theorem claim : Cert.Claim := ⟨Cert.Kernel.Gen.facts, Cert.KernelIdeal.Gen.facts, Cert.ReferenceIdeal.Gen.facts, Cert.Pre_idx_is_iota.Gen.facts,
  fun m g _ => Cert.Transfer.frame_kernel m g, fun m g _ => Cert.KernelIdeal.Km.frame m g, fun m g _ => Cert.KernelIdeal.Km.frame m g,
  fun m g _ => Cert.ReferenceIdeal.Km.frame m g, fun m g _ => Cert.ReferenceIdeal.Km.frame m g, trivial, Cert.Agree.algebraic⟩

end Cert.Proof

end
